-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batched_graphs [hPre_batched_graphs : Cert.Pre_batched_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_batched_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batched_graphs [hPre_batched_graphs : Cert.Pre_batched_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_batched_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_batched_graphs [hKernelIdeal : Cert.KernelIdeal.Facts] [hPre_batched_graphs : Cert.Pre_batched_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batched_graphs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_batched_graphs [hReferenceIdeal : Cert.ReferenceIdeal.Facts] [hPre_batched_graphs : Cert.Pre_batched_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batched_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_batched_graphs [hKernelIdeal : Cert.KernelIdeal.Facts] [hReferenceIdeal : Cert.ReferenceIdeal.Facts] [hPre_batched_graphs : Cert.Pre_batched_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batched_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v714_22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_batched_graphs : Cert.Pre_batched_graphs.Facts),
    quiescent_Kernel (hKernel := hKernel)
    ∧ quiescent_KernelIdeal (hKernelIdeal := hKernelIdeal)
    ∧ quiescent_KernelIdeal_pre_batched_graphs (hKernelIdeal := hKernelIdeal) (hPre_batched_graphs := hPre_batched_graphs)
    ∧ quiescent_ReferenceIdeal (hReferenceIdeal := hReferenceIdeal)
    ∧ quiescent_ReferenceIdeal_pre_batched_graphs (hReferenceIdeal := hReferenceIdeal) (hPre_batched_graphs := hPre_batched_graphs)
    ∧ preserves_Kernel_KernelIdeal
    ∧ algebraic_KernelIdeal_ReferenceIdeal_pre_batched_graphs (hKernelIdeal := hKernelIdeal) (hReferenceIdeal := hReferenceIdeal) (hPre_batched_graphs := hPre_batched_graphs)
-- ==== Pre_batched_graphs.lean ====
abbrev S10000x8x128 : Shape := ⟨3, ![10000, 8, 128]⟩
abbrev S320000x128 : Shape := ⟨2, ![320000, 128]⟩
abbrev S2x320000 : Shape := ⟨2, ![2, 320000]⟩
abbrev S10000 : Shape := ⟨1, ![10000]⟩
abbrev S320000 : Shape := ⟨1, ![320000]⟩
abbrev S50 : Shape := ⟨1, ![50]⟩
abbrev S50x20x128 : Shape := ⟨3, ![50, 20, 128]⟩
abbrev S1000x128 : Shape := ⟨2, ![1000, 128]⟩
abbrev S9x128 : Shape := ⟨2, ![9, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128x128 : Shape := ⟨3, ![8, 128, 128]⟩
abbrev S2000x256 : Shape := ⟨2, ![2000, 256]⟩
abbrev S2000 : Shape := ⟨1, ![2000]⟩
abbrev S1x50x1 : Shape := ⟨3, ![1, 50, 1]⟩
abbrev S_ : Shape := ⟨0, ![]⟩
abbrev S2x50x6400 : Shape := ⟨3, ![2, 50, 6400]⟩
abbrev S1x128 : Shape := ⟨2, ![1, 128]⟩
abbrev S50x200 : Shape := ⟨2, ![50, 200]⟩
abbrev S50x1 : Shape := ⟨2, ![50, 1]⟩
abbrev S50x6400 : Shape := ⟨2, ![50, 6400]⟩
abbrev S1x128x128 : Shape := ⟨3, ![1, 128, 128]⟩

class Facts : Prop where
  bcast_S50_S1x50x1_1 : S50.BroadcastsInDim S1x50x1 (![1] : Fin 1 → Fin S1x50x1.rank)
  bcast_S_S1x50x1 : S_.BroadcastsInDim S1x50x1 (![] : Fin 0 → Fin S1x50x1.rank)
  shapeCasts_S2x320000_S2x50x6400 : S2x320000.ShapeCasts S2x50x6400
  bcast_S_S128 : S_.BroadcastsInDim S128 (![] : Fin 0 → Fin S128.rank)
  bcast_S_S128x128 : S_.BroadcastsInDim S128x128 (![] : Fin 0 → Fin S128x128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S10000_S50x200 : S10000.ShapeCasts S50x200
  bcast_S50_S50x1_0 : S50.BroadcastsInDim S50x1 (![0] : Fin 1 → Fin S50x1.rank)
  bcast_S50x1_S50x200_0_1 : S50x1.BroadcastsInDim S50x200 (![0, 1] : Fin 2 → Fin S50x200.rank)
  shapeCasts_S320000_S50x6400 : S320000.ShapeCasts S50x6400
  bcast_S50x1_S50x6400_0_1 : S50x1.BroadcastsInDim S50x6400 (![0, 1] : Fin 2 → Fin S50x6400.rank)
  bcast_S1x50x1_S2x50x6400_0_1_2 : S1x50x1.BroadcastsInDim S2x50x6400 (![0, 1, 2] : Fin 3 → Fin S2x50x6400.rank)
  bcast_S_S50 : S_.BroadcastsInDim S50 (![] : Fin 0 → Fin S50.rank)
  bcast_S_S10000x8x128 : S_.BroadcastsInDim S10000x8x128 (![] : Fin 0 → Fin S10000x8x128.rank)
  bcast_S_S320000x128 : S_.BroadcastsInDim S320000x128 (![] : Fin 0 → Fin S320000x128.rank)
  bcast_S_S50x20x128 : S_.BroadcastsInDim S50x20x128 (![] : Fin 0 → Fin S50x20x128.rank)
  bcast_S_S1000x128 : S_.BroadcastsInDim S1000x128 (![] : Fin 0 → Fin S1000x128.rank)
  bcast_S_S9x128 : S_.BroadcastsInDim S9x128 (![] : Fin 0 → Fin S9x128.rank)
  bcast_S_S8x128x128 : S_.BroadcastsInDim S8x128x128 (![] : Fin 0 → Fin S8x128x128.rank)
  bcast_S128x128_S1x128x128_1_2 : S128x128.BroadcastsInDim S1x128x128 (![1, 2] : Fin 2 → Fin S1x128x128.rank)
  bcast_S1x128x128_S8x128x128_0_1_2 : S1x128x128.BroadcastsInDim S8x128x128 (![0, 1, 2] : Fin 3 → Fin S8x128x128.rank)

variable [Facts]

def fn_part4 {F : FTy → Type} [FloatOps F] (main_v45 : IVec S50x200 1) (main_v49 : IVec S50x6400 1) (main_v56 : IVec S2x50x6400 1) (main_v58 : IVec S50 1) (main_v61 : IVec S10000x8x128 1) (main_v64 : IVec S320000x128 1) (main_v67 : IVec S50x20x128 1) (main_v70 : IVec S1000x128 1) (main_v73 : IVec S9x128 1) (main_v76 : IVec S8x128x128 1) (main_v77 : IVec S1x128x128 1) : IVec S50x200 1 × IVec S50x6400 1 × IVec S2x50x6400 1 × IVec S50 1 × IVec S10000x8x128 1 × IVec S320000x128 1 × IVec S50x20x128 1 × IVec S1000x128 1 × IVec S9x128 1 × IVec S8x128x128 1 :=
  let main_v78 : IVec S8x128x128 1 := broadcastInDim S8x128x128 ![0, 1, 2] bcast_S1x128x128_S8x128x128_0_1_2 main_v77
  let main_v79 : IVec S8x128x128 1 := andi main_v76 main_v78
  (main_v45, main_v49, main_v56, main_v58, main_v61, main_v64, main_v67, main_v70, main_v73, main_v79)

def fn_part3 {F : FTy → Type} [FloatOps F] (main_arg1 : FVec F S320000x128 .f32) (main_arg6 : FVec F S50x20x128 .f32) (main_arg7 : FVec F S1000x128 .f32) (main_arg8 : FVec F S9x128 .f32) (main_arg19 : FVec F S8x128x128 .f32) (main_v41 : IVec S128x128 1) (main_v45 : IVec S50x200 1) (main_v49 : IVec S50x6400 1) (main_v56 : IVec S2x50x6400 1) (main_v58 : IVec S50 1) (main_v59 : FVec F S10000x8x128 .f32) : IVec S50x200 1 × IVec S50x6400 1 × IVec S2x50x6400 1 × IVec S50 1 × IVec S10000x8x128 1 × IVec S320000x128 1 × IVec S50x20x128 1 × IVec S1000x128 1 × IVec S9x128 1 × IVec S8x128x128 1 :=
  let main_cst_10 : FVec F S_ .f32 := constant S_ .f32 0x7F800000#32
  let main_v60 : FVec F S10000x8x128 .f32 := broadcastInDim S10000x8x128 ![] bcast_S_S10000x8x128 main_cst_10
  let main_v61 : IVec S10000x8x128 1 := cmpf .olt main_v59 main_v60
  let main_v62 : FVec F S320000x128 .f32 := Host.absf main_arg1
  let main_cst_11 : FVec F S_ .f32 := constant S_ .f32 0x7F800000#32
  let main_v63 : FVec F S320000x128 .f32 := broadcastInDim S320000x128 ![] bcast_S_S320000x128 main_cst_11
  let main_v64 : IVec S320000x128 1 := cmpf .olt main_v62 main_v63
  let main_v65 : FVec F S50x20x128 .f32 := Host.absf main_arg6
  let main_cst_12 : FVec F S_ .f32 := constant S_ .f32 0x7F800000#32
  let main_v66 : FVec F S50x20x128 .f32 := broadcastInDim S50x20x128 ![] bcast_S_S50x20x128 main_cst_12
  let main_v67 : IVec S50x20x128 1 := cmpf .olt main_v65 main_v66
  let main_v68 : FVec F S1000x128 .f32 := Host.absf main_arg7
  let main_cst_13 : FVec F S_ .f32 := constant S_ .f32 0x7F800000#32
  let main_v69 : FVec F S1000x128 .f32 := broadcastInDim S1000x128 ![] bcast_S_S1000x128 main_cst_13
  let main_v70 : IVec S1000x128 1 := cmpf .olt main_v68 main_v69
  let main_v71 : FVec F S9x128 .f32 := Host.absf main_arg8
  let main_cst_14 : FVec F S_ .f32 := constant S_ .f32 0x7F800000#32
  let main_v72 : FVec F S9x128 .f32 := broadcastInDim S9x128 ![] bcast_S_S9x128 main_cst_14
  let main_v73 : IVec S9x128 1 := cmpf .olt main_v71 main_v72
  let main_v74 : FVec F S8x128x128 .f32 := Host.absf main_arg19
  let main_cst_15 : FVec F S_ .f32 := constant S_ .f32 0x7F800000#32
  let main_v75 : FVec F S8x128x128 .f32 := broadcastInDim S8x128x128 ![] bcast_S_S8x128x128 main_cst_15
  let main_v76 : IVec S8x128x128 1 := cmpf .olt main_v74 main_v75
  let main_v77 : IVec S1x128x128 1 := broadcastInDim S1x128x128 ![1, 2] bcast_S128x128_S1x128x128_1_2 main_v41
  fn_part4 (F := F) main_v45 main_v49 main_v56 main_v58 main_v61 main_v64 main_v67 main_v70 main_v73 main_v76 main_v77

def fn_part2 {F : FTy → Type} [FloatOps F] (main_arg0 : FVec F S10000x8x128 .f32) (main_arg1 : FVec F S320000x128 .f32) (main_arg3 : IVec S10000 32) (main_arg4 : IVec S320000 32) (main_arg5 : FVec F S50 .f32) (main_arg6 : FVec F S50x20x128 .f32) (main_arg7 : FVec F S1000x128 .f32) (main_arg8 : FVec F S9x128 .f32) (main_arg19 : FVec F S8x128x128 .f32) (main_v0 : IVec S50 32) (main_v3 : IVec S1x50x1 32) (main_v4 : IVec S2x50x6400 32) (main_v23 : IVec S128 1) (main_v34 : IVec S128x128 1) (main_v37 : IVec S128x128 1) : IVec S50x200 1 × IVec S50x6400 1 × IVec S2x50x6400 1 × IVec S50 1 × IVec S10000x8x128 1 × IVec S320000x128 1 × IVec S50x20x128 1 × IVec S1000x128 1 × IVec S9x128 1 × IVec S8x128x128 1 :=
  let main_v38 : IVec S128x128 1 := andi main_v34 main_v37
  let main_v39 : IVec S1x128 1 := broadcastInDim S1x128 ![1] bcast_S128_S1x128_1 main_v23
  let main_v40 : IVec S128x128 1 := broadcastInDim S128x128 ![0, 1] bcast_S1x128_S128x128_0_1 main_v39
  let main_v41 : IVec S128x128 1 := andi main_v38 main_v40
  let main_v42 : IVec S50x200 32 := shapeCast S50x200 main_arg3 shapeCasts_S10000_S50x200
  let main_v43 : IVec S50x1 32 := broadcastInDim S50x1 ![0] bcast_S50_S50x1_0 main_v0
  let main_v44 : IVec S50x200 32 := broadcastInDim S50x200 ![0, 1] bcast_S50x1_S50x200_0_1 main_v43
  let main_v45 : IVec S50x200 1 := cmpi .eq main_v42 main_v44
  let main_v46 : IVec S50x6400 32 := shapeCast S50x6400 main_arg4 shapeCasts_S320000_S50x6400
  let main_v47 : IVec S50x1 32 := broadcastInDim S50x1 ![0] bcast_S50_S50x1_0 main_v0
  let main_v48 : IVec S50x6400 32 := broadcastInDim S50x6400 ![0, 1] bcast_S50x1_S50x6400_0_1 main_v47
  let main_v49 : IVec S50x6400 1 := cmpi .eq main_v46 main_v48
  let main_v50 : IVec S2x50x6400 32 := broadcastInDim S2x50x6400 ![0, 1, 2] bcast_S1x50x1_S2x50x6400_0_1_2 main_v3
  let main_v51 : IVec S2x50x6400 1 := cmpi .sge main_v4 main_v50
  let main_c_8 : IVec S_ 32 := constantI S_ 32 200#32
  let main_v52 : IVec S1x50x1 32 := broadcastInDim S1x50x1 ![] bcast_S_S1x50x1 main_c_8
  let main_v53 : IVec S1x50x1 32 := addi main_v3 main_v52
  let main_v54 : IVec S2x50x6400 32 := broadcastInDim S2x50x6400 ![0, 1, 2] bcast_S1x50x1_S2x50x6400_0_1_2 main_v53
  let main_v55 : IVec S2x50x6400 1 := cmpi .slt main_v4 main_v54
  let main_v56 : IVec S2x50x6400 1 := andi main_v51 main_v55
  let main_cst_9 : FVec F S_ .f32 := constant S_ .f32 0x00000000#32
  let main_v57 : FVec F S50 .f32 := broadcastInDim S50 ![] bcast_S_S50 main_cst_9
  let main_v58 : IVec S50 1 := cmpf .une main_arg5 main_v57
  let main_v59 : FVec F S10000x8x128 .f32 := Host.absf main_arg0
  fn_part3 (F := F) main_arg1 main_arg6 main_arg7 main_arg8 main_arg19 main_v41 main_v45 main_v49 main_v56 main_v58 main_v59

def fn_part1 {F : FTy → Type} [FloatOps F] (main_arg0 : FVec F S10000x8x128 .f32) (main_arg1 : FVec F S320000x128 .f32) (main_arg3 : IVec S10000 32) (main_arg4 : IVec S320000 32) (main_arg5 : FVec F S50 .f32) (main_arg6 : FVec F S50x20x128 .f32) (main_arg7 : FVec F S1000x128 .f32) (main_arg8 : FVec F S9x128 .f32) (main_arg10 : FVec F S128x128 .f32) (main_arg15 : FVec F S128x128 .f32) (main_arg16 : FVec F S128x128 .f32) (main_arg19 : FVec F S8x128x128 .f32) (main_arg20 : FVec F S128x128 .f32) (main_arg22 : FVec F S128 .f32) (main_v0 : IVec S50 32) (main_v3 : IVec S1x50x1 32) (main_v4 : IVec S2x50x6400 32) (main_v15 : IVec S128 1) (main_v18 : IVec S128 1) : IVec S50x200 1 × IVec S50x6400 1 × IVec S2x50x6400 1 × IVec S50 1 × IVec S10000x8x128 1 × IVec S320000x128 1 × IVec S50x20x128 1 × IVec S1000x128 1 × IVec S9x128 1 × IVec S8x128x128 1 :=
  let main_v19 : IVec S128 1 := andi main_v15 main_v18
  let main_v20 : FVec F S128 .f32 := Host.absf main_arg22
  let main_cst_3 : FVec F S_ .f32 := constant S_ .f32 0x7F800000#32
  let main_v21 : FVec F S128 .f32 := broadcastInDim S128 ![] bcast_S_S128 main_cst_3
  let main_v22 : IVec S128 1 := cmpf .olt main_v20 main_v21
  let main_v23 : IVec S128 1 := andi main_v19 main_v22
  let main_v24 : FVec F S128x128 .f32 := Host.absf main_arg10
  let main_cst_4 : FVec F S_ .f32 := constant S_ .f32 0x7F800000#32
  let main_v25 : FVec F S128x128 .f32 := broadcastInDim S128x128 ![] bcast_S_S128x128 main_cst_4
  let main_v26 : IVec S128x128 1 := cmpf .olt main_v24 main_v25
  let main_v27 : FVec F S128x128 .f32 := Host.absf main_arg15
  let main_cst_5 : FVec F S_ .f32 := constant S_ .f32 0x7F800000#32
  let main_v28 : FVec F S128x128 .f32 := broadcastInDim S128x128 ![] bcast_S_S128x128 main_cst_5
  let main_v29 : IVec S128x128 1 := cmpf .olt main_v27 main_v28
  let main_v30 : IVec S128x128 1 := andi main_v26 main_v29
  let main_v31 : FVec F S128x128 .f32 := Host.absf main_arg16
  let main_cst_6 : FVec F S_ .f32 := constant S_ .f32 0x7F800000#32
  let main_v32 : FVec F S128x128 .f32 := broadcastInDim S128x128 ![] bcast_S_S128x128 main_cst_6
  let main_v33 : IVec S128x128 1 := cmpf .olt main_v31 main_v32
  let main_v34 : IVec S128x128 1 := andi main_v30 main_v33
  let main_v35 : FVec F S128x128 .f32 := Host.absf main_arg20
  let main_cst_7 : FVec F S_ .f32 := constant S_ .f32 0x7F800000#32
  let main_v36 : FVec F S128x128 .f32 := broadcastInDim S128x128 ![] bcast_S_S128x128 main_cst_7
  let main_v37 : IVec S128x128 1 := cmpf .olt main_v35 main_v36
  fn_part2 (F := F) main_arg0 main_arg1 main_arg3 main_arg4 main_arg5 main_arg6 main_arg7 main_arg8 main_arg19 main_v0 main_v3 main_v4 main_v23 main_v34 main_v37

def fn {F : FTy → Type} [FloatOps F] (main_arg0 : FVec F S10000x8x128 .f32) (main_arg1 : FVec F S320000x128 .f32) (main_arg2 : IVec S2x320000 32) (main_arg3 : IVec S10000 32) (main_arg4 : IVec S320000 32) (main_arg5 : FVec F S50 .f32) (main_arg6 : FVec F S50x20x128 .f32) (main_arg7 : FVec F S1000x128 .f32) (main_arg8 : FVec F S9x128 .f32) (main_arg9 : FVec F S128 .f32) (main_arg10 : FVec F S128x128 .f32) (main_arg11 : FVec F S512x128 .f32) (main_arg12 : FVec F S512x128 .f32) (main_arg13 : FVec F S512 .f32) (main_arg14 : FVec F S512 .f32) (main_arg15 : FVec F S128x128 .f32) (main_arg16 : FVec F S128x128 .f32) (main_arg17 : FVec F S128 .f32) (main_arg18 : FVec F S128 .f32) (main_arg19 : FVec F S8x128x128 .f32) (main_arg20 : FVec F S128x128 .f32) (main_arg21 : FVec F S128 .f32) (main_arg22 : FVec F S128 .f32) (main_arg23 : FVec F S2000x256 .f32) (main_arg24 : FVec F S2000 .f32) : IVec S50x200 1 × IVec S50x6400 1 × IVec S2x50x6400 1 × IVec S50 1 × IVec S10000x8x128 1 × IVec S320000x128 1 × IVec S50x20x128 1 × IVec S1000x128 1 × IVec S9x128 1 × IVec S8x128x128 1 :=
  let main_v0 : IVec S50 32 := iotaInDim S50 32 0
  let main_v1 : IVec S1x50x1 32 := broadcastInDim S1x50x1 ![1] bcast_S50_S1x50x1_1 main_v0
  let main_c : IVec S_ 32 := constantI S_ 32 200#32
  let main_v2 : IVec S1x50x1 32 := broadcastInDim S1x50x1 ![] bcast_S_S1x50x1 main_c
  let main_v3 : IVec S1x50x1 32 := muli main_v2 main_v1
  let main_v4 : IVec S2x50x6400 32 := shapeCast S2x50x6400 main_arg2 shapeCasts_S2x320000_S2x50x6400
  let main_v5 : FVec F S128 .f32 := Host.absf main_arg9
  let main_cst : FVec F S_ .f32 := constant S_ .f32 0x7F800000#32
  let main_v6 : FVec F S128 .f32 := broadcastInDim S128 ![] bcast_S_S128 main_cst
  let main_v7 : IVec S128 1 := cmpf .olt main_v5 main_v6
  let main_v8 : FVec F S128 .f32 := Host.absf main_arg17
  let main_cst_0 : FVec F S_ .f32 := constant S_ .f32 0x7F800000#32
  let main_v9 : FVec F S128 .f32 := broadcastInDim S128 ![] bcast_S_S128 main_cst_0
  let main_v10 : IVec S128 1 := cmpf .olt main_v8 main_v9
  let main_v11 : IVec S128 1 := andi main_v7 main_v10
  let main_v12 : FVec F S128 .f32 := Host.absf main_arg18
  let main_cst_1 : FVec F S_ .f32 := constant S_ .f32 0x7F800000#32
  let main_v13 : FVec F S128 .f32 := broadcastInDim S128 ![] bcast_S_S128 main_cst_1
  let main_v14 : IVec S128 1 := cmpf .olt main_v12 main_v13
  let main_v15 : IVec S128 1 := andi main_v11 main_v14
  let main_v16 : FVec F S128 .f32 := Host.absf main_arg21
  let main_cst_2 : FVec F S_ .f32 := constant S_ .f32 0x7F800000#32
  let main_v17 : FVec F S128 .f32 := broadcastInDim S128 ![] bcast_S_S128 main_cst_2
  let main_v18 : IVec S128 1 := cmpf .olt main_v16 main_v17
  fn_part1 (F := F) main_arg0 main_arg1 main_arg3 main_arg4 main_arg5 main_arg6 main_arg7 main_arg8 main_arg10 main_arg15 main_arg16 main_arg19 main_arg20 main_arg22 main_v0 main_v3 main_v4 main_v15 main_v18
-- ==== Kernel.lean ====
abbrev S10000x8x128 : Shape := ⟨3, ![10000, 8, 128]⟩
abbrev S320000x128 : Shape := ⟨2, ![320000, 128]⟩
abbrev S2x320000 : Shape := ⟨2, ![2, 320000]⟩
abbrev S10000 : Shape := ⟨1, ![10000]⟩
abbrev S320000 : Shape := ⟨1, ![320000]⟩
abbrev S50 : Shape := ⟨1, ![50]⟩
abbrev S50x20x128 : Shape := ⟨3, ![50, 20, 128]⟩
abbrev S1000x128 : Shape := ⟨2, ![1000, 128]⟩
abbrev S9x128 : Shape := ⟨2, ![9, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128x128 : Shape := ⟨3, ![8, 128, 128]⟩
abbrev S2000x256 : Shape := ⟨2, ![2000, 256]⟩
abbrev S2000 : Shape := ⟨1, ![2000]⟩
abbrev S1x128 : Shape := ⟨2, ![1, 128]⟩
abbrev S1x20x128 : Shape := ⟨3, ![1, 20, 128]⟩
abbrev S20x128 : Shape := ⟨2, ![20, 128]⟩
abbrev S20x1000 : Shape := ⟨2, ![20, 1000]⟩
abbrev S20 : Shape := ⟨1, ![20]⟩
abbrev S20x1 : Shape := ⟨2, ![20, 1]⟩
abbrev S1x512 : Shape := ⟨2, ![1, 512]⟩
abbrev S50x128 : Shape := ⟨2, ![50, 128]⟩
abbrev S8x50x128 : Shape := ⟨3, ![8, 50, 128]⟩
abbrev S8x50x9 : Shape := ⟨3, ![8, 50, 9]⟩
abbrev S50x1x128 : Shape := ⟨3, ![50, 1, 128]⟩
abbrev S50x512 : Shape := ⟨2, ![50, 512]⟩
abbrev S50x20 : Shape := ⟨2, ![50, 20]⟩
abbrev S50x1 : Shape := ⟨2, ![50, 1]⟩
abbrev S50x20x1 : Shape := ⟨3, ![50, 20, 1]⟩
abbrev S1x50x128 : Shape := ⟨3, ![1, 50, 128]⟩
abbrev S50x9 : Shape := ⟨2, ![50, 9]⟩
abbrev S1x50x9 : Shape := ⟨3, ![1, 50, 9]⟩
abbrev S50x8x128 : Shape := ⟨3, ![50, 8, 128]⟩
abbrev S50x8x9 : Shape := ⟨3, ![50, 8, 9]⟩
abbrev S50x6400x128 : Shape := ⟨3, ![50, 6400, 128]⟩
abbrev S50x8x6400 : Shape := ⟨3, ![50, 8, 6400]⟩
abbrev S1x6400x128 : Shape := ⟨3, ![1, 6400, 128]⟩
abbrev S1x8x128 : Shape := ⟨3, ![1, 8, 128]⟩
abbrev S1x8x6400 : Shape := ⟨3, ![1, 8, 6400]⟩
abbrev S6400x128 : Shape := ⟨2, ![6400, 128]⟩
abbrev S8x128 : Shape := ⟨2, ![8, 128]⟩
abbrev S1x6400 : Shape := ⟨2, ![1, 6400]⟩
abbrev S8x6400 : Shape := ⟨2, ![8, 6400]⟩
abbrev S50x200x8x128 : Shape := ⟨4, ![50, 200, 8, 128]⟩
abbrev S50x8x200 : Shape := ⟨3, ![50, 8, 200]⟩
abbrev S50x200x128 : Shape := ⟨3, ![50, 200, 128]⟩
abbrev S1x200x8x128 : Shape := ⟨4, ![1, 200, 8, 128]⟩
abbrev S1x8x9 : Shape := ⟨3, ![1, 8, 9]⟩
abbrev S1x8x200 : Shape := ⟨3, ![1, 8, 200]⟩
abbrev S1x200x128 : Shape := ⟨3, ![1, 200, 128]⟩
abbrev S200x8x128 : Shape := ⟨3, ![200, 8, 128]⟩
abbrev S200x1x128 : Shape := ⟨3, ![200, 1, 128]⟩
abbrev S200x128 : Shape := ⟨2, ![200, 128]⟩
abbrev S1x128x128 : Shape := ⟨3, ![1, 128, 128]⟩
abbrev S8x9 : Shape := ⟨2, ![8, 9]⟩
abbrev S1x1 : Shape := ⟨2, ![1, 1]⟩
abbrev S1x200 : Shape := ⟨2, ![1, 200]⟩
abbrev S8x200 : Shape := ⟨2, ![8, 200]⟩
abbrev S50x8x1 : Shape := ⟨3, ![50, 8, 1]⟩
abbrev S50x8 : Shape := ⟨2, ![50, 8]⟩
abbrev S50x1x8 : Shape := ⟨3, ![50, 1, 8]⟩
abbrev S1x320000 : Shape := ⟨2, ![1, 320000]⟩
abbrev S50x1x6400 : Shape := ⟨3, ![50, 1, 6400]⟩
abbrev S50x1x1 : Shape := ⟨3, ![50, 1, 1]⟩
abbrev S1x1x6400 : Shape := ⟨3, ![1, 1, 6400]⟩
abbrev S1x1x8 : Shape := ⟨3, ![1, 1, 8]⟩
abbrev S1x1x1 : Shape := ⟨3, ![1, 1, 1]⟩
abbrev S1x1x128 : Shape := ⟨3, ![1, 1, 128]⟩
abbrev S200x6400 : Shape := ⟨2, ![200, 6400]⟩
abbrev S1 : Shape := ⟨1, ![1]⟩
abbrev S1x2000 : Shape := ⟨2, ![1, 2000]⟩
abbrev S50x2000 : Shape := ⟨2, ![50, 2000]⟩
abbrev S2000x128 : Shape := ⟨2, ![2000, 128]⟩

abbrev nBuf : Space → Nat
  | .hbm => 57
  | .vmem => 61
  | .smem => 0
  | _ => 0

abbrev bufTy : (tb : Table) → Fin (tcTables nBuf tb) → BufTy
  | .hbm, ⟨0, _⟩ => ⟨S10000x8x128, .f32⟩
  | .hbm, ⟨1, _⟩ => ⟨S320000x128, .f32⟩
  | .hbm, ⟨2, _⟩ => ⟨S2x320000, .i32⟩
  | .hbm, ⟨3, _⟩ => ⟨S10000, .i32⟩
  | .hbm, ⟨4, _⟩ => ⟨S320000, .i32⟩
  | .hbm, ⟨5, _⟩ => ⟨S50, .f32⟩
  | .hbm, ⟨6, _⟩ => ⟨S50x20x128, .f32⟩
  | .hbm, ⟨7, _⟩ => ⟨S1000x128, .f32⟩
  | .hbm, ⟨8, _⟩ => ⟨S9x128, .f32⟩
  | .hbm, ⟨9, _⟩ => ⟨S128, .f32⟩
  | .hbm, ⟨10, _⟩ => ⟨S128x128, .f32⟩
  | .hbm, ⟨11, _⟩ => ⟨S512x128, .f32⟩
  | .hbm, ⟨12, _⟩ => ⟨S512x128, .f32⟩
  | .hbm, ⟨13, _⟩ => ⟨S512, .f32⟩
  | .hbm, ⟨14, _⟩ => ⟨S512, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S8x128x128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S2000x256, .f32⟩
  | .hbm, ⟨24, _⟩ => ⟨S2000, .f32⟩
  | .hbm, ⟨25, _⟩ => ⟨S1x128, .f32⟩
  | .hbm, ⟨26, _⟩ => ⟨S50x20x128, .f32⟩
  | .hbm, ⟨27, _⟩ => ⟨S1x512, .f32⟩
  | .hbm, ⟨28, _⟩ => ⟨S1x512, .f32⟩
  | .hbm, ⟨29, _⟩ => ⟨S1x128, .f32⟩
  | .hbm, ⟨30, _⟩ => ⟨S1x128, .f32⟩
  | .hbm, ⟨31, _⟩ => ⟨S50x128, .f32⟩
  | .hbm, ⟨32, _⟩ => ⟨S8x50x128, .f32⟩
  | .hbm, ⟨33, _⟩ => ⟨S8x50x9, .f32⟩
  | .hbm, ⟨34, _⟩ => ⟨S50x8x128, .f32⟩
  | .hbm, ⟨35, _⟩ => ⟨S50x8x9, .f32⟩
  | .hbm, ⟨36, _⟩ => ⟨S50x6400x128, .f32⟩
  | .hbm, ⟨37, _⟩ => ⟨S1x128, .f32⟩
  | .hbm, ⟨38, _⟩ => ⟨S50x8x6400, .f32⟩
  | .hbm, ⟨39, _⟩ => ⟨S50x200x8x128, .f32⟩
  | .hbm, ⟨40, _⟩ => ⟨S1x128, .f32⟩
  | .hbm, ⟨41, _⟩ => ⟨S50x8x200, .f32⟩
  | .hbm, ⟨42, _⟩ => ⟨S50x200x128, .f32⟩
  | .hbm, ⟨43, _⟩ => ⟨S50x8x1, .f32⟩
  | .hbm, ⟨44, _⟩ => ⟨S50x8, .f32⟩
  | .hbm, ⟨45, _⟩ => ⟨S50x1x8, .f32⟩
  | .hbm, ⟨46, _⟩ => ⟨S1x320000, .i32⟩
  | .hbm, ⟨47, _⟩ => ⟨S320000, .i32⟩
  | .hbm, ⟨48, _⟩ => ⟨S50x1x6400, .i32⟩
  | .hbm, ⟨49, _⟩ => ⟨S1x320000, .i32⟩
  | .hbm, ⟨50, _⟩ => ⟨S320000, .i32⟩
  | .hbm, ⟨51, _⟩ => ⟨S50x1x6400, .i32⟩
  | .hbm, ⟨52, _⟩ => ⟨S50x1x1, .f32⟩
  | .hbm, ⟨53, _⟩ => ⟨S50x1x128, .f32⟩
  | .hbm, ⟨54, _⟩ => ⟨S50x128, .f32⟩
  | .hbm, ⟨55, _⟩ => ⟨S1x2000, .f32⟩
  | .hbm, ⟨56, _⟩ => ⟨S50x2000, .f32⟩
  | .local _ .vmem, ⟨0, _⟩ => ⟨S1x20x128, .f32⟩
  | .local _ .vmem, ⟨1, _⟩ => ⟨S1x20x128, .f32⟩
  | .local _ .vmem, ⟨2, _⟩ => ⟨S1000x128, .f32⟩
  | .local _ .vmem, ⟨3, _⟩ => ⟨S128x128, .f32⟩
  | .local _ .vmem, ⟨4, _⟩ => ⟨S1x128, .f32⟩
  | .local _ .vmem, ⟨5, _⟩ => ⟨S1x20x128, .f32⟩
  | .local _ .vmem, ⟨6, _⟩ => ⟨S1x20x128, .f32⟩
  | .local _ .vmem, ⟨7, _⟩ => ⟨S50x20x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S9x128, .f32⟩
  | .local _ .vmem, ⟨17, _⟩ => ⟨S50x128, .f32⟩
  | .local _ .vmem, ⟨18, _⟩ => ⟨S8x50x128, .f32⟩
  | .local _ .vmem, ⟨19, _⟩ => ⟨S8x50x9, .f32⟩
  | .local _ .vmem, ⟨20, _⟩ => ⟨S1x6400x128, .f32⟩
  | .local _ .vmem, ⟨21, _⟩ => ⟨S1x6400x128, .f32⟩
  | .local _ .vmem, ⟨22, _⟩ => ⟨S128x128, .f32⟩
  | .local _ .vmem, ⟨23, _⟩ => ⟨S1x8x128, .f32⟩
  | .local _ .vmem, ⟨24, _⟩ => ⟨S1x8x128, .f32⟩
  | .local _ .vmem, ⟨25, _⟩ => ⟨S1x128, .f32⟩
  | .local _ .vmem, ⟨26, _⟩ => ⟨S1x8x6400, .f32⟩
  | .local _ .vmem, ⟨27, _⟩ => ⟨S1x8x6400, .f32⟩
  | .local _ .vmem, ⟨28, _⟩ => ⟨S1x200x8x128, .f32⟩
  | .local _ .vmem, ⟨29, _⟩ => ⟨S1x200x8x128, .f32⟩
  | .local _ .vmem, ⟨30, _⟩ => ⟨S8x128x128, .f32⟩
  | .local _ .vmem, ⟨31, _⟩ => ⟨S1x8x128, .f32⟩
  | .local _ .vmem, ⟨32, _⟩ => ⟨S1x8x128, .f32⟩
  | .local _ .vmem, ⟨33, _⟩ => ⟨S1x8x9, .f32⟩
  | .local _ .vmem, ⟨34, _⟩ => ⟨S1x8x9, .f32⟩
  | .local _ .vmem, ⟨35, _⟩ => ⟨S1x128, .f32⟩
  | .local _ .vmem, ⟨36, _⟩ => ⟨S1x8x200, .f32⟩
  | .local _ .vmem, ⟨37, _⟩ => ⟨S1x8x200, .f32⟩
  | .local _ .vmem, ⟨38, _⟩ => ⟨S1x200x128, .f32⟩
  | .local _ .vmem, ⟨39, _⟩ => ⟨S1x200x128, .f32⟩
  | .local _ .vmem, ⟨40, _⟩ => ⟨S1x1x6400, .i32⟩
  | .local _ .vmem, ⟨41, _⟩ => ⟨S1x1x6400, .i32⟩
  | .local _ .vmem, ⟨42, _⟩ => ⟨S1x1x6400, .i32⟩
  | .local _ .vmem, ⟨43, _⟩ => ⟨S1x1x6400, .i32⟩
  | .local _ .vmem, ⟨44, _⟩ => ⟨S1x8x6400, .f32⟩
  | .local _ .vmem, ⟨45, _⟩ => ⟨S1x8x6400, .f32⟩
  | .local _ .vmem, ⟨46, _⟩ => ⟨S1x8x200, .f32⟩
  | .local _ .vmem, ⟨47, _⟩ => ⟨S1x8x200, .f32⟩
  | .local _ .vmem, ⟨48, _⟩ => ⟨S1x1x8, .f32⟩
  | .local _ .vmem, ⟨49, _⟩ => ⟨S1x1x8, .f32⟩
  | .local _ .vmem, ⟨50, _⟩ => ⟨S1x1x1, .f32⟩
  | .local _ .vmem, ⟨51, _⟩ => ⟨S1x1x1, .f32⟩
  | .local _ .vmem, ⟨52, _⟩ => ⟨S1x200x128, .f32⟩
  | .local _ .vmem, ⟨53, _⟩ => ⟨S1x200x128, .f32⟩
  | .local _ .vmem, ⟨54, _⟩ => ⟨S1x1x128, .f32⟩
  | .local _ .vmem, ⟨55, _⟩ => ⟨S1x1x128, .f32⟩
  | .local _ .vmem, ⟨56, _⟩ => ⟨S50x128, .f32⟩
  | .local _ .vmem, ⟨57, _⟩ => ⟨S50x128, .f32⟩
  | .local _ .vmem, ⟨58, _⟩ => ⟨S2000x256, .f32⟩
  | .local _ .vmem, ⟨59, _⟩ => ⟨S1x2000, .f32⟩
  | .local _ .vmem, ⟨60, _⟩ => ⟨S50x2000, .f32⟩
  | _, _ => ⟨S10000x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6_0 : Ref sig .tc := ⟨.hbm, 31, rfl⟩
abbrev main_v6_1 : Ref sig .tc := ⟨.hbm, 32, rfl⟩
abbrev main_v6_2 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14_0 : Ref sig .tc := ⟨.hbm, 41, rfl⟩
abbrev main_v14_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg7_1 : Ref sig .tc := ⟨.vmem, 55, rfl⟩
abbrev cc5_stg0_0 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc4_sem6_0 : DmaSem sig := 52
abbrev cc4_sem6_1 : DmaSem sig := 53
abbrev cc4_sem7_0 : DmaSem sig := 54
abbrev cc4_sem7_1 : DmaSem sig := 55
abbrev cc5_sem0_0 : DmaSem sig := 56
abbrev cc5_sem1_0 : DmaSem sig := 57
abbrev cc5_sem2_0 : DmaSem sig := 58
abbrev cc5_sem3_0 : DmaSem sig := 59
abbrev cc5_sem4_0 : DmaSem sig := 60

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x20x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S50x20x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S9x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S50x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8x50x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S8x50x9 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x8x6400 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x200x8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x8x9 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x8x200 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x200x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x6400 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x6400 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x8x6400 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x8x200 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1x8 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x200x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x1x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := .none

abbrev stage5_0 : Fin 1 → Memref sig .tc .vmem S50x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S50x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S2000x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x2000 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S50x2000 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
-- ==== ReferenceIdeal.lean ====
abbrev S10000x8x128 : Shape := ⟨3, ![10000, 8, 128]⟩
abbrev S320000x128 : Shape := ⟨2, ![320000, 128]⟩
abbrev S2x320000 : Shape := ⟨2, ![2, 320000]⟩
abbrev S10000 : Shape := ⟨1, ![10000]⟩
abbrev S320000 : Shape := ⟨1, ![320000]⟩
abbrev S50 : Shape := ⟨1, ![50]⟩
abbrev S50x20x128 : Shape := ⟨3, ![50, 20, 128]⟩
abbrev S1000x128 : Shape := ⟨2, ![1000, 128]⟩
abbrev S9x128 : Shape := ⟨2, ![9, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128x128 : Shape := ⟨3, ![8, 128, 128]⟩
abbrev S2000x256 : Shape := ⟨2, ![2000, 256]⟩
abbrev S2000 : Shape := ⟨1, ![2000]⟩
abbrev S1x128 : Shape := ⟨2, ![1, 128]⟩
abbrev S1001x128 : Shape := ⟨2, ![1001, 128]⟩
abbrev S128x1001 : Shape := ⟨2, ![128, 1001]⟩
abbrev S1000x1001 : Shape := ⟨2, ![1000, 1001]⟩
abbrev S_ : Shape := ⟨0, ![]⟩
abbrev S1000 : Shape := ⟨1, ![1000]⟩
abbrev S1000x1 : Shape := ⟨2, ![1000, 1]⟩
abbrev S1000x1000 : Shape := ⟨2, ![1000, 1000]⟩
abbrev S128x512 : Shape := ⟨2, ![128, 512]⟩
abbrev S50x20x512 : Shape := ⟨3, ![50, 20, 512]⟩
abbrev S1x1x512 : Shape := ⟨3, ![1, 1, 512]⟩
abbrev S50x512 : Shape := ⟨2, ![50, 512]⟩
abbrev S50x128 : Shape := ⟨2, ![50, 128]⟩
abbrev S50x1x512 : Shape := ⟨3, ![50, 1, 512]⟩
abbrev S1x320000 : Shape := ⟨2, ![1, 320000]⟩
abbrev S8x10000x128 : Shape := ⟨3, ![8, 10000, 128]⟩
abbrev S1x10000 : Shape := ⟨2, ![1, 10000]⟩
abbrev S50x1 : Shape := ⟨2, ![50, 1]⟩
abbrev S50x10000 : Shape := ⟨2, ![50, 10000]⟩
abbrev S10000x1 : Shape := ⟨2, ![10000, 1]⟩
abbrev S50x2000 : Shape := ⟨2, ![50, 2000]⟩
abbrev S50x20 : Shape := ⟨2, ![50, 20]⟩
abbrev S128x9 : Shape := ⟨2, ![128, 9]⟩
abbrev S50x9 : Shape := ⟨2, ![50, 9]⟩
abbrev S50x8 : Shape := ⟨2, ![50, 8]⟩
abbrev S10000x8 : Shape := ⟨2, ![10000, 8]⟩
abbrev S10000x8x1 : Shape := ⟨3, ![10000, 8, 1]⟩
abbrev S10000x128 : Shape := ⟨2, ![10000, 128]⟩
abbrev S10000x1x128 : Shape := ⟨3, ![10000, 1, 128]⟩
abbrev S320000x1 : Shape := ⟨2, ![320000, 1]⟩
abbrev S50x256 : Shape := ⟨2, ![50, 256]⟩
abbrev S256x2000 : Shape := ⟨2, ![256, 2000]⟩
abbrev S1x2000 : Shape := ⟨2, ![1, 2000]⟩

abbrev nBuf : Space → Nat
  | .hbm => 1043
  | .vmem => 0
  | .smem => 0
  | _ => 0

abbrev hbmTy0_0 (i : Nat) : BufTy := match i % 128 with
  | 0 => ⟨S10000x8x128, .f32⟩
  | 1 => ⟨S320000x128, .f32⟩
  | 2 => ⟨S2x320000, .i32⟩
  | 3 => ⟨S10000, .i32⟩
  | 4 => ⟨S320000, .i32⟩
  | 5 => ⟨S50, .f32⟩
  | 6 => ⟨S50x20x128, .f32⟩
  | 7 => ⟨S1000x128, .f32⟩
  | 8 => ⟨S9x128, .f32⟩
  | 9 => ⟨S128, .f32⟩
  | 10 => ⟨S128x128, .f32⟩
  | 11 => ⟨S512x128, .f32⟩
  | 12 => ⟨S512x128, .f32⟩
  | 13 => ⟨S512, .f32⟩
  | 14 => ⟨S512, .f32⟩
  | 15 => ⟨S128x128, .f32⟩
  | 16 => ⟨S128x128, .f32⟩
  | 17 => ⟨S128, .f32⟩
  | 18 => ⟨S128, .f32⟩
  | 19 => ⟨S8x128x128, .f32⟩
  | 20 => ⟨S128x128, .f32⟩
  | 21 => ⟨S128, .f32⟩
  | 22 => ⟨S128, .f32⟩
  | 23 => ⟨S2000x256, .f32⟩
  | 24 => ⟨S2000, .f32⟩
  | 25 => ⟨S1000x128, .f32⟩
  | 26 => ⟨S1x128, .f32⟩
  | 27 => ⟨S1001x128, .f32⟩
  | 28 => ⟨S1000x128, .f32⟩
  | 29 => ⟨S128x1001, .f32⟩
  | 30 => ⟨S1000x1001, .f32⟩
  | 31 => ⟨S_, .f32⟩
  | 32 => ⟨S1000, .f32⟩
  | 33 => ⟨S_, .f32⟩
  | 34 => ⟨S1000, .f32⟩
  | 35 => ⟨S1000, .f32⟩
  | 36 => ⟨S1000x1, .f32⟩
  | 37 => ⟨S1000x1001, .f32⟩
  | 38 => ⟨S1000x1001, .f32⟩
  | 39 => ⟨S1000x1001, .f32⟩
  | 40 => ⟨S_, .f32⟩
  | 41 => ⟨S1000, .f32⟩
  | 42 => ⟨S1000x1, .f32⟩
  | 43 => ⟨S1000x1001, .f32⟩
  | 44 => ⟨S1000x1001, .f32⟩
  | 45 => ⟨S1000x1, .f32⟩
  | 46 => ⟨S1000x128, .f32⟩
  | 47 => ⟨S1000x128, .f32⟩
  | 48 => ⟨S1000x1000, .f32⟩
  | 49 => ⟨S1000x128, .f32⟩
  | 50 => ⟨S1000x128, .f32⟩
  | 51 => ⟨S50x20x128, .f32⟩
  | 52 => ⟨S128x512, .f32⟩
  | 53 => ⟨S50x20x512, .f32⟩
  | 54 => ⟨S1x1x512, .f32⟩
  | 55 => ⟨S50x20x512, .f32⟩
  | 56 => ⟨S50x20x512, .f32⟩
  | 57 => ⟨S128x512, .f32⟩
  | 58 => ⟨S50x512, .f32⟩
  | 59 => ⟨S_, .f32⟩
  | 60 => ⟨S50x128, .f32⟩
  | 61 => ⟨S50x1x512, .f32⟩
  | 62 => ⟨S50x512, .f32⟩
  | 63 => ⟨S50x512, .f32⟩
  | 64 => ⟨S50x512, .f32⟩
  | 65 => ⟨S50x512, .f32⟩
  | 66 => ⟨S50x128, .f32⟩
  | 67 => ⟨S50x128, .f32⟩
  | 68 => ⟨S50x128, .f32⟩
  | 69 => ⟨S50x128, .f32⟩
  | 70 => ⟨S50x128, .f32⟩
  | 71 => ⟨S50x128, .f32⟩
  | 72 => ⟨S_, .f32⟩
  | 73 => ⟨S50x128, .f32⟩
  | 74 => ⟨S50x128, .f32⟩
  | 75 => ⟨S_, .f32⟩
  | 76 => ⟨S50x128, .f32⟩
  | 77 => ⟨S50x128, .f32⟩
  | 78 => ⟨S50x128, .f32⟩
  | 79 => ⟨S50x128, .f32⟩
  | 80 => ⟨S50x128, .f32⟩
  | 81 => ⟨S_, .f32⟩
  | 82 => ⟨S50x128, .f32⟩
  | 83 => ⟨S50x128, .f32⟩
  | 84 => ⟨S_, .f32⟩
  | 85 => ⟨S50x128, .f32⟩
  | 86 => ⟨S50x128, .f32⟩
  | 87 => ⟨S50x128, .f32⟩
  | 88 => ⟨S50x128, .f32⟩
  | 89 => ⟨S50x128, .f32⟩
  | 90 => ⟨S50x128, .f32⟩
  | 91 => ⟨S50x128, .f32⟩
  | 92 => ⟨S_, .f32⟩
  | 93 => ⟨S50x128, .f32⟩
  | 94 => ⟨S50x128, .f32⟩
  | 95 => ⟨S_, .f32⟩
  | 96 => ⟨S50x128, .f32⟩
  | 97 => ⟨S50x128, .f32⟩
  | 98 => ⟨S50x128, .f32⟩
  | 99 => ⟨S50x128, .f32⟩
  | 100 => ⟨S50x1x512, .f32⟩
  | 101 => ⟨S50x512, .f32⟩
  | 102 => ⟨S50x512, .f32⟩
  | 103 => ⟨S50x512, .f32⟩
  | 104 => ⟨S50x512, .f32⟩
  | 105 => ⟨S50x128, .f32⟩
  | 106 => ⟨S50x128, .f32⟩
  | 107 => ⟨S50x128, .f32⟩
  | 108 => ⟨S50x128, .f32⟩
  | 109 => ⟨S50x128, .f32⟩
  | 110 => ⟨S50x128, .f32⟩
  | 111 => ⟨S_, .f32⟩
  | 112 => ⟨S50x128, .f32⟩
  | 113 => ⟨S50x128, .f32⟩
  | 114 => ⟨S_, .f32⟩
  | 115 => ⟨S50x128, .f32⟩
  | 116 => ⟨S50x128, .f32⟩
  | 117 => ⟨S50x128, .f32⟩
  | 118 => ⟨S50x128, .f32⟩
  | 119 => ⟨S50x128, .f32⟩
  | 120 => ⟨S_, .f32⟩
  | 121 => ⟨S50x128, .f32⟩
  | 122 => ⟨S50x128, .f32⟩
  | 123 => ⟨S_, .f32⟩
  | 124 => ⟨S50x128, .f32⟩
  | 125 => ⟨S50x128, .f32⟩
  | 126 => ⟨S50x128, .f32⟩
  | 127 => ⟨S50x128, .f32⟩
  | _ => ⟨S10000x8x128, .f32⟩

abbrev hbmTy0_1 (i : Nat) : BufTy := match i % 128 with
  | 0 => ⟨S50x128, .f32⟩
  | 1 => ⟨S50x128, .f32⟩
  | 2 => ⟨S50x128, .f32⟩
  | 3 => ⟨S_, .f32⟩
  | 4 => ⟨S50x128, .f32⟩
  | 5 => ⟨S50x128, .f32⟩
  | 6 => ⟨S_, .f32⟩
  | 7 => ⟨S50x128, .f32⟩
  | 8 => ⟨S50x128, .f32⟩
  | 9 => ⟨S50x128, .f32⟩
  | 10 => ⟨S50x128, .f32⟩
  | 11 => ⟨S50x1x512, .f32⟩
  | 12 => ⟨S50x512, .f32⟩
  | 13 => ⟨S50x512, .f32⟩
  | 14 => ⟨S50x512, .f32⟩
  | 15 => ⟨S50x512, .f32⟩
  | 16 => ⟨S50x128, .f32⟩
  | 17 => ⟨S50x128, .f32⟩
  | 18 => ⟨S50x128, .f32⟩
  | 19 => ⟨S50x128, .f32⟩
  | 20 => ⟨S50x128, .f32⟩
  | 21 => ⟨S50x128, .f32⟩
  | 22 => ⟨S_, .f32⟩
  | 23 => ⟨S50x128, .f32⟩
  | 24 => ⟨S50x128, .f32⟩
  | 25 => ⟨S_, .f32⟩
  | 26 => ⟨S50x128, .f32⟩
  | 27 => ⟨S50x128, .f32⟩
  | 28 => ⟨S50x128, .f32⟩
  | 29 => ⟨S50x128, .f32⟩
  | 30 => ⟨S50x128, .f32⟩
  | 31 => ⟨S_, .f32⟩
  | 32 => ⟨S50x128, .f32⟩
  | 33 => ⟨S50x128, .f32⟩
  | 34 => ⟨S_, .f32⟩
  | 35 => ⟨S50x128, .f32⟩
  | 36 => ⟨S50x128, .f32⟩
  | 37 => ⟨S50x128, .f32⟩
  | 38 => ⟨S50x128, .f32⟩
  | 39 => ⟨S50x128, .f32⟩
  | 40 => ⟨S50x128, .f32⟩
  | 41 => ⟨S50x128, .f32⟩
  | 42 => ⟨S_, .f32⟩
  | 43 => ⟨S50x128, .f32⟩
  | 44 => ⟨S50x128, .f32⟩
  | 45 => ⟨S_, .f32⟩
  | 46 => ⟨S50x128, .f32⟩
  | 47 => ⟨S50x128, .f32⟩
  | 48 => ⟨S50x128, .f32⟩
  | 49 => ⟨S50x128, .f32⟩
  | 50 => ⟨S50x1x512, .f32⟩
  | 51 => ⟨S50x512, .f32⟩
  | 52 => ⟨S50x512, .f32⟩
  | 53 => ⟨S50x512, .f32⟩
  | 54 => ⟨S50x512, .f32⟩
  | 55 => ⟨S50x128, .f32⟩
  | 56 => ⟨S50x128, .f32⟩
  | 57 => ⟨S50x128, .f32⟩
  | 58 => ⟨S50x128, .f32⟩
  | 59 => ⟨S50x128, .f32⟩
  | 60 => ⟨S50x128, .f32⟩
  | 61 => ⟨S_, .f32⟩
  | 62 => ⟨S50x128, .f32⟩
  | 63 => ⟨S50x128, .f32⟩
  | 64 => ⟨S_, .f32⟩
  | 65 => ⟨S50x128, .f32⟩
  | 66 => ⟨S50x128, .f32⟩
  | 67 => ⟨S50x128, .f32⟩
  | 68 => ⟨S50x128, .f32⟩
  | 69 => ⟨S50x128, .f32⟩
  | 70 => ⟨S_, .f32⟩
  | 71 => ⟨S50x128, .f32⟩
  | 72 => ⟨S50x128, .f32⟩
  | 73 => ⟨S_, .f32⟩
  | 74 => ⟨S50x128, .f32⟩
  | 75 => ⟨S50x128, .f32⟩
  | 76 => ⟨S50x128, .f32⟩
  | 77 => ⟨S50x128, .f32⟩
  | 78 => ⟨S50x128, .f32⟩
  | 79 => ⟨S50x128, .f32⟩
  | 80 => ⟨S50x128, .f32⟩
  | 81 => ⟨S_, .f32⟩
  | 82 => ⟨S50x128, .f32⟩
  | 83 => ⟨S50x128, .f32⟩
  | 84 => ⟨S_, .f32⟩
  | 85 => ⟨S50x128, .f32⟩
  | 86 => ⟨S50x128, .f32⟩
  | 87 => ⟨S50x128, .f32⟩
  | 88 => ⟨S50x128, .f32⟩
  | 89 => ⟨S50x1x512, .f32⟩
  | 90 => ⟨S50x512, .f32⟩
  | 91 => ⟨S50x512, .f32⟩
  | 92 => ⟨S50x512, .f32⟩
  | 93 => ⟨S50x512, .f32⟩
  | 94 => ⟨S50x128, .f32⟩
  | 95 => ⟨S50x128, .f32⟩
  | 96 => ⟨S50x128, .f32⟩
  | 97 => ⟨S50x128, .f32⟩
  | 98 => ⟨S50x128, .f32⟩
  | 99 => ⟨S50x128, .f32⟩
  | 100 => ⟨S_, .f32⟩
  | 101 => ⟨S50x128, .f32⟩
  | 102 => ⟨S50x128, .f32⟩
  | 103 => ⟨S_, .f32⟩
  | 104 => ⟨S50x128, .f32⟩
  | 105 => ⟨S50x128, .f32⟩
  | 106 => ⟨S50x128, .f32⟩
  | 107 => ⟨S50x128, .f32⟩
  | 108 => ⟨S50x128, .f32⟩
  | 109 => ⟨S_, .f32⟩
  | 110 => ⟨S50x128, .f32⟩
  | 111 => ⟨S50x128, .f32⟩
  | 112 => ⟨S_, .f32⟩
  | 113 => ⟨S50x128, .f32⟩
  | 114 => ⟨S50x128, .f32⟩
  | 115 => ⟨S50x128, .f32⟩
  | 116 => ⟨S50x128, .f32⟩
  | 117 => ⟨S50x128, .f32⟩
  | 118 => ⟨S50x128, .f32⟩
  | 119 => ⟨S50x128, .f32⟩
  | 120 => ⟨S_, .f32⟩
  | 121 => ⟨S50x128, .f32⟩
  | 122 => ⟨S50x128, .f32⟩
  | 123 => ⟨S_, .f32⟩
  | 124 => ⟨S50x128, .f32⟩
  | 125 => ⟨S50x128, .f32⟩
  | 126 => ⟨S50x128, .f32⟩
  | 127 => ⟨S50x128, .f32⟩
  | _ => ⟨S10000x8x128, .f32⟩

abbrev hbmTy0_2 (i : Nat) : BufTy := match i % 128 with
  | 0 => ⟨S50x1x512, .f32⟩
  | 1 => ⟨S50x512, .f32⟩
  | 2 => ⟨S50x512, .f32⟩
  | 3 => ⟨S50x512, .f32⟩
  | 4 => ⟨S50x512, .f32⟩
  | 5 => ⟨S50x128, .f32⟩
  | 6 => ⟨S50x128, .f32⟩
  | 7 => ⟨S50x128, .f32⟩
  | 8 => ⟨S50x128, .f32⟩
  | 9 => ⟨S50x128, .f32⟩
  | 10 => ⟨S50x128, .f32⟩
  | 11 => ⟨S_, .f32⟩
  | 12 => ⟨S50x128, .f32⟩
  | 13 => ⟨S50x128, .f32⟩
  | 14 => ⟨S_, .f32⟩
  | 15 => ⟨S50x128, .f32⟩
  | 16 => ⟨S50x128, .f32⟩
  | 17 => ⟨S50x128, .f32⟩
  | 18 => ⟨S50x128, .f32⟩
  | 19 => ⟨S50x128, .f32⟩
  | 20 => ⟨S_, .f32⟩
  | 21 => ⟨S50x128, .f32⟩
  | 22 => ⟨S50x128, .f32⟩
  | 23 => ⟨S_, .f32⟩
  | 24 => ⟨S50x128, .f32⟩
  | 25 => ⟨S50x128, .f32⟩
  | 26 => ⟨S50x128, .f32⟩
  | 27 => ⟨S50x128, .f32⟩
  | 28 => ⟨S50x128, .f32⟩
  | 29 => ⟨S50x128, .f32⟩
  | 30 => ⟨S50x128, .f32⟩
  | 31 => ⟨S_, .f32⟩
  | 32 => ⟨S50x128, .f32⟩
  | 33 => ⟨S50x128, .f32⟩
  | 34 => ⟨S_, .f32⟩
  | 35 => ⟨S50x128, .f32⟩
  | 36 => ⟨S50x128, .f32⟩
  | 37 => ⟨S50x128, .f32⟩
  | 38 => ⟨S50x128, .f32⟩
  | 39 => ⟨S50x1x512, .f32⟩
  | 40 => ⟨S50x512, .f32⟩
  | 41 => ⟨S50x512, .f32⟩
  | 42 => ⟨S50x512, .f32⟩
  | 43 => ⟨S50x512, .f32⟩
  | 44 => ⟨S50x128, .f32⟩
  | 45 => ⟨S50x128, .f32⟩
  | 46 => ⟨S50x128, .f32⟩
  | 47 => ⟨S50x128, .f32⟩
  | 48 => ⟨S50x128, .f32⟩
  | 49 => ⟨S50x128, .f32⟩
  | 50 => ⟨S_, .f32⟩
  | 51 => ⟨S50x128, .f32⟩
  | 52 => ⟨S50x128, .f32⟩
  | 53 => ⟨S_, .f32⟩
  | 54 => ⟨S50x128, .f32⟩
  | 55 => ⟨S50x128, .f32⟩
  | 56 => ⟨S50x128, .f32⟩
  | 57 => ⟨S50x128, .f32⟩
  | 58 => ⟨S50x128, .f32⟩
  | 59 => ⟨S_, .f32⟩
  | 60 => ⟨S50x128, .f32⟩
  | 61 => ⟨S50x128, .f32⟩
  | 62 => ⟨S_, .f32⟩
  | 63 => ⟨S50x128, .f32⟩
  | 64 => ⟨S50x128, .f32⟩
  | 65 => ⟨S50x128, .f32⟩
  | 66 => ⟨S50x128, .f32⟩
  | 67 => ⟨S50x128, .f32⟩
  | 68 => ⟨S50x128, .f32⟩
  | 69 => ⟨S50x128, .f32⟩
  | 70 => ⟨S_, .f32⟩
  | 71 => ⟨S50x128, .f32⟩
  | 72 => ⟨S50x128, .f32⟩
  | 73 => ⟨S_, .f32⟩
  | 74 => ⟨S50x128, .f32⟩
  | 75 => ⟨S50x128, .f32⟩
  | 76 => ⟨S50x128, .f32⟩
  | 77 => ⟨S50x128, .f32⟩
  | 78 => ⟨S50x1x512, .f32⟩
  | 79 => ⟨S50x512, .f32⟩
  | 80 => ⟨S50x512, .f32⟩
  | 81 => ⟨S50x512, .f32⟩
  | 82 => ⟨S50x512, .f32⟩
  | 83 => ⟨S50x128, .f32⟩
  | 84 => ⟨S50x128, .f32⟩
  | 85 => ⟨S50x128, .f32⟩
  | 86 => ⟨S50x128, .f32⟩
  | 87 => ⟨S50x128, .f32⟩
  | 88 => ⟨S50x128, .f32⟩
  | 89 => ⟨S_, .f32⟩
  | 90 => ⟨S50x128, .f32⟩
  | 91 => ⟨S50x128, .f32⟩
  | 92 => ⟨S_, .f32⟩
  | 93 => ⟨S50x128, .f32⟩
  | 94 => ⟨S50x128, .f32⟩
  | 95 => ⟨S50x128, .f32⟩
  | 96 => ⟨S50x128, .f32⟩
  | 97 => ⟨S50x128, .f32⟩
  | 98 => ⟨S_, .f32⟩
  | 99 => ⟨S50x128, .f32⟩
  | 100 => ⟨S50x128, .f32⟩
  | 101 => ⟨S_, .f32⟩
  | 102 => ⟨S50x128, .f32⟩
  | 103 => ⟨S50x128, .f32⟩
  | 104 => ⟨S50x128, .f32⟩
  | 105 => ⟨S50x128, .f32⟩
  | 106 => ⟨S50x128, .f32⟩
  | 107 => ⟨S50x128, .f32⟩
  | 108 => ⟨S50x128, .f32⟩
  | 109 => ⟨S_, .f32⟩
  | 110 => ⟨S50x128, .f32⟩
  | 111 => ⟨S50x128, .f32⟩
  | 112 => ⟨S_, .f32⟩
  | 113 => ⟨S50x128, .f32⟩
  | 114 => ⟨S50x128, .f32⟩
  | 115 => ⟨S50x128, .f32⟩
  | 116 => ⟨S50x128, .f32⟩
  | 117 => ⟨S50x1x512, .f32⟩
  | 118 => ⟨S50x512, .f32⟩
  | 119 => ⟨S50x512, .f32⟩
  | 120 => ⟨S50x512, .f32⟩
  | 121 => ⟨S50x512, .f32⟩
  | 122 => ⟨S50x128, .f32⟩
  | 123 => ⟨S50x128, .f32⟩
  | 124 => ⟨S50x128, .f32⟩
  | 125 => ⟨S50x128, .f32⟩
  | 126 => ⟨S50x128, .f32⟩
  | 127 => ⟨S50x128, .f32⟩
  | _ => ⟨S10000x8x128, .f32⟩

abbrev hbmTy0_3 (i : Nat) : BufTy := match i % 128 with
  | 0 => ⟨S_, .f32⟩
  | 1 => ⟨S50x128, .f32⟩
  | 2 => ⟨S50x128, .f32⟩
  | 3 => ⟨S_, .f32⟩
  | 4 => ⟨S50x128, .f32⟩
  | 5 => ⟨S50x128, .f32⟩
  | 6 => ⟨S50x128, .f32⟩
  | 7 => ⟨S50x128, .f32⟩
  | 8 => ⟨S50x128, .f32⟩
  | 9 => ⟨S_, .f32⟩
  | 10 => ⟨S50x128, .f32⟩
  | 11 => ⟨S50x128, .f32⟩
  | 12 => ⟨S_, .f32⟩
  | 13 => ⟨S50x128, .f32⟩
  | 14 => ⟨S50x128, .f32⟩
  | 15 => ⟨S50x128, .f32⟩
  | 16 => ⟨S50x128, .f32⟩
  | 17 => ⟨S50x128, .f32⟩
  | 18 => ⟨S50x128, .f32⟩
  | 19 => ⟨S50x128, .f32⟩
  | 20 => ⟨S_, .f32⟩
  | 21 => ⟨S50x128, .f32⟩
  | 22 => ⟨S50x128, .f32⟩
  | 23 => ⟨S_, .f32⟩
  | 24 => ⟨S50x128, .f32⟩
  | 25 => ⟨S50x128, .f32⟩
  | 26 => ⟨S50x128, .f32⟩
  | 27 => ⟨S50x128, .f32⟩
  | 28 => ⟨S50x1x512, .f32⟩
  | 29 => ⟨S50x512, .f32⟩
  | 30 => ⟨S50x512, .f32⟩
  | 31 => ⟨S50x512, .f32⟩
  | 32 => ⟨S50x512, .f32⟩
  | 33 => ⟨S50x128, .f32⟩
  | 34 => ⟨S50x128, .f32⟩
  | 35 => ⟨S50x128, .f32⟩
  | 36 => ⟨S50x128, .f32⟩
  | 37 => ⟨S50x128, .f32⟩
  | 38 => ⟨S50x128, .f32⟩
  | 39 => ⟨S_, .f32⟩
  | 40 => ⟨S50x128, .f32⟩
  | 41 => ⟨S50x128, .f32⟩
  | 42 => ⟨S_, .f32⟩
  | 43 => ⟨S50x128, .f32⟩
  | 44 => ⟨S50x128, .f32⟩
  | 45 => ⟨S50x128, .f32⟩
  | 46 => ⟨S50x128, .f32⟩
  | 47 => ⟨S50x128, .f32⟩
  | 48 => ⟨S_, .f32⟩
  | 49 => ⟨S50x128, .f32⟩
  | 50 => ⟨S50x128, .f32⟩
  | 51 => ⟨S_, .f32⟩
  | 52 => ⟨S50x128, .f32⟩
  | 53 => ⟨S50x128, .f32⟩
  | 54 => ⟨S50x128, .f32⟩
  | 55 => ⟨S50x128, .f32⟩
  | 56 => ⟨S50x128, .f32⟩
  | 57 => ⟨S50x128, .f32⟩
  | 58 => ⟨S50x128, .f32⟩
  | 59 => ⟨S_, .f32⟩
  | 60 => ⟨S50x128, .f32⟩
  | 61 => ⟨S50x128, .f32⟩
  | 62 => ⟨S_, .f32⟩
  | 63 => ⟨S50x128, .f32⟩
  | 64 => ⟨S50x128, .f32⟩
  | 65 => ⟨S50x128, .f32⟩
  | 66 => ⟨S50x128, .f32⟩
  | 67 => ⟨S50x1x512, .f32⟩
  | 68 => ⟨S50x512, .f32⟩
  | 69 => ⟨S50x512, .f32⟩
  | 70 => ⟨S50x512, .f32⟩
  | 71 => ⟨S50x512, .f32⟩
  | 72 => ⟨S50x128, .f32⟩
  | 73 => ⟨S50x128, .f32⟩
  | 74 => ⟨S50x128, .f32⟩
  | 75 => ⟨S50x128, .f32⟩
  | 76 => ⟨S50x128, .f32⟩
  | 77 => ⟨S50x128, .f32⟩
  | 78 => ⟨S_, .f32⟩
  | 79 => ⟨S50x128, .f32⟩
  | 80 => ⟨S50x128, .f32⟩
  | 81 => ⟨S_, .f32⟩
  | 82 => ⟨S50x128, .f32⟩
  | 83 => ⟨S50x128, .f32⟩
  | 84 => ⟨S50x128, .f32⟩
  | 85 => ⟨S50x128, .f32⟩
  | 86 => ⟨S50x128, .f32⟩
  | 87 => ⟨S_, .f32⟩
  | 88 => ⟨S50x128, .f32⟩
  | 89 => ⟨S50x128, .f32⟩
  | 90 => ⟨S_, .f32⟩
  | 91 => ⟨S50x128, .f32⟩
  | 92 => ⟨S50x128, .f32⟩
  | 93 => ⟨S50x128, .f32⟩
  | 94 => ⟨S50x128, .f32⟩
  | 95 => ⟨S50x128, .f32⟩
  | 96 => ⟨S50x128, .f32⟩
  | 97 => ⟨S50x128, .f32⟩
  | 98 => ⟨S_, .f32⟩
  | 99 => ⟨S50x128, .f32⟩
  | 100 => ⟨S50x128, .f32⟩
  | 101 => ⟨S_, .f32⟩
  | 102 => ⟨S50x128, .f32⟩
  | 103 => ⟨S50x128, .f32⟩
  | 104 => ⟨S50x128, .f32⟩
  | 105 => ⟨S50x128, .f32⟩
  | 106 => ⟨S50x1x512, .f32⟩
  | 107 => ⟨S50x512, .f32⟩
  | 108 => ⟨S50x512, .f32⟩
  | 109 => ⟨S50x512, .f32⟩
  | 110 => ⟨S50x512, .f32⟩
  | 111 => ⟨S50x128, .f32⟩
  | 112 => ⟨S50x128, .f32⟩
  | 113 => ⟨S50x128, .f32⟩
  | 114 => ⟨S50x128, .f32⟩
  | 115 => ⟨S50x128, .f32⟩
  | 116 => ⟨S50x128, .f32⟩
  | 117 => ⟨S_, .f32⟩
  | 118 => ⟨S50x128, .f32⟩
  | 119 => ⟨S50x128, .f32⟩
  | 120 => ⟨S_, .f32⟩
  | 121 => ⟨S50x128, .f32⟩
  | 122 => ⟨S50x128, .f32⟩
  | 123 => ⟨S50x128, .f32⟩
  | 124 => ⟨S50x128, .f32⟩
  | 125 => ⟨S50x128, .f32⟩
  | 126 => ⟨S_, .f32⟩
  | 127 => ⟨S50x128, .f32⟩
  | _ => ⟨S10000x8x128, .f32⟩

abbrev hbmTy0_4 (i : Nat) : BufTy := match i % 128 with
  | 0 => ⟨S50x128, .f32⟩
  | 1 => ⟨S_, .f32⟩
  | 2 => ⟨S50x128, .f32⟩
  | 3 => ⟨S50x128, .f32⟩
  | 4 => ⟨S50x128, .f32⟩
  | 5 => ⟨S50x128, .f32⟩
  | 6 => ⟨S50x128, .f32⟩
  | 7 => ⟨S50x128, .f32⟩
  | 8 => ⟨S50x128, .f32⟩
  | 9 => ⟨S_, .f32⟩
  | 10 => ⟨S50x128, .f32⟩
  | 11 => ⟨S50x128, .f32⟩
  | 12 => ⟨S_, .f32⟩
  | 13 => ⟨S50x128, .f32⟩
  | 14 => ⟨S50x128, .f32⟩
  | 15 => ⟨S50x128, .f32⟩
  | 16 => ⟨S50x128, .f32⟩
  | 17 => ⟨S50x1x512, .f32⟩
  | 18 => ⟨S50x512, .f32⟩
  | 19 => ⟨S50x512, .f32⟩
  | 20 => ⟨S50x512, .f32⟩
  | 21 => ⟨S50x512, .f32⟩
  | 22 => ⟨S50x128, .f32⟩
  | 23 => ⟨S50x128, .f32⟩
  | 24 => ⟨S50x128, .f32⟩
  | 25 => ⟨S50x128, .f32⟩
  | 26 => ⟨S50x128, .f32⟩
  | 27 => ⟨S50x128, .f32⟩
  | 28 => ⟨S_, .f32⟩
  | 29 => ⟨S50x128, .f32⟩
  | 30 => ⟨S50x128, .f32⟩
  | 31 => ⟨S_, .f32⟩
  | 32 => ⟨S50x128, .f32⟩
  | 33 => ⟨S50x128, .f32⟩
  | 34 => ⟨S50x128, .f32⟩
  | 35 => ⟨S50x128, .f32⟩
  | 36 => ⟨S50x128, .f32⟩
  | 37 => ⟨S_, .f32⟩
  | 38 => ⟨S50x128, .f32⟩
  | 39 => ⟨S50x128, .f32⟩
  | 40 => ⟨S_, .f32⟩
  | 41 => ⟨S50x128, .f32⟩
  | 42 => ⟨S50x128, .f32⟩
  | 43 => ⟨S50x128, .f32⟩
  | 44 => ⟨S50x128, .f32⟩
  | 45 => ⟨S50x128, .f32⟩
  | 46 => ⟨S50x128, .f32⟩
  | 47 => ⟨S50x128, .f32⟩
  | 48 => ⟨S_, .f32⟩
  | 49 => ⟨S50x128, .f32⟩
  | 50 => ⟨S50x128, .f32⟩
  | 51 => ⟨S_, .f32⟩
  | 52 => ⟨S50x128, .f32⟩
  | 53 => ⟨S50x128, .f32⟩
  | 54 => ⟨S50x128, .f32⟩
  | 55 => ⟨S50x128, .f32⟩
  | 56 => ⟨S50x1x512, .f32⟩
  | 57 => ⟨S50x512, .f32⟩
  | 58 => ⟨S50x512, .f32⟩
  | 59 => ⟨S50x512, .f32⟩
  | 60 => ⟨S50x512, .f32⟩
  | 61 => ⟨S50x128, .f32⟩
  | 62 => ⟨S50x128, .f32⟩
  | 63 => ⟨S50x128, .f32⟩
  | 64 => ⟨S50x128, .f32⟩
  | 65 => ⟨S50x128, .f32⟩
  | 66 => ⟨S50x128, .f32⟩
  | 67 => ⟨S_, .f32⟩
  | 68 => ⟨S50x128, .f32⟩
  | 69 => ⟨S50x128, .f32⟩
  | 70 => ⟨S_, .f32⟩
  | 71 => ⟨S50x128, .f32⟩
  | 72 => ⟨S50x128, .f32⟩
  | 73 => ⟨S50x128, .f32⟩
  | 74 => ⟨S50x128, .f32⟩
  | 75 => ⟨S50x128, .f32⟩
  | 76 => ⟨S_, .f32⟩
  | 77 => ⟨S50x128, .f32⟩
  | 78 => ⟨S50x128, .f32⟩
  | 79 => ⟨S_, .f32⟩
  | 80 => ⟨S50x128, .f32⟩
  | 81 => ⟨S50x128, .f32⟩
  | 82 => ⟨S50x128, .f32⟩
  | 83 => ⟨S50x128, .f32⟩
  | 84 => ⟨S50x128, .f32⟩
  | 85 => ⟨S50x128, .f32⟩
  | 86 => ⟨S50x128, .f32⟩
  | 87 => ⟨S_, .f32⟩
  | 88 => ⟨S50x128, .f32⟩
  | 89 => ⟨S50x128, .f32⟩
  | 90 => ⟨S_, .f32⟩
  | 91 => ⟨S50x128, .f32⟩
  | 92 => ⟨S50x128, .f32⟩
  | 93 => ⟨S50x128, .f32⟩
  | 94 => ⟨S50x128, .f32⟩
  | 95 => ⟨S50x1x512, .f32⟩
  | 96 => ⟨S50x512, .f32⟩
  | 97 => ⟨S50x512, .f32⟩
  | 98 => ⟨S50x512, .f32⟩
  | 99 => ⟨S50x512, .f32⟩
  | 100 => ⟨S50x128, .f32⟩
  | 101 => ⟨S50x128, .f32⟩
  | 102 => ⟨S50x128, .f32⟩
  | 103 => ⟨S50x128, .f32⟩
  | 104 => ⟨S50x128, .f32⟩
  | 105 => ⟨S50x128, .f32⟩
  | 106 => ⟨S_, .f32⟩
  | 107 => ⟨S50x128, .f32⟩
  | 108 => ⟨S50x128, .f32⟩
  | 109 => ⟨S_, .f32⟩
  | 110 => ⟨S50x128, .f32⟩
  | 111 => ⟨S50x128, .f32⟩
  | 112 => ⟨S50x128, .f32⟩
  | 113 => ⟨S50x128, .f32⟩
  | 114 => ⟨S50x128, .f32⟩
  | 115 => ⟨S_, .f32⟩
  | 116 => ⟨S50x128, .f32⟩
  | 117 => ⟨S50x128, .f32⟩
  | 118 => ⟨S_, .f32⟩
  | 119 => ⟨S50x128, .f32⟩
  | 120 => ⟨S50x128, .f32⟩
  | 121 => ⟨S50x128, .f32⟩
  | 122 => ⟨S50x128, .f32⟩
  | 123 => ⟨S50x128, .f32⟩
  | 124 => ⟨S50x128, .f32⟩
  | 125 => ⟨S50x128, .f32⟩
  | 126 => ⟨S_, .f32⟩
  | 127 => ⟨S50x128, .f32⟩
  | _ => ⟨S10000x8x128, .f32⟩

abbrev hbmTy0_5 (i : Nat) : BufTy := match i % 128 with
  | 0 => ⟨S50x128, .f32⟩
  | 1 => ⟨S_, .f32⟩
  | 2 => ⟨S50x128, .f32⟩
  | 3 => ⟨S50x128, .f32⟩
  | 4 => ⟨S50x128, .f32⟩
  | 5 => ⟨S50x128, .f32⟩
  | 6 => ⟨S50x1x512, .f32⟩
  | 7 => ⟨S50x512, .f32⟩
  | 8 => ⟨S50x512, .f32⟩
  | 9 => ⟨S50x512, .f32⟩
  | 10 => ⟨S50x512, .f32⟩
  | 11 => ⟨S50x128, .f32⟩
  | 12 => ⟨S50x128, .f32⟩
  | 13 => ⟨S50x128, .f32⟩
  | 14 => ⟨S50x128, .f32⟩
  | 15 => ⟨S50x128, .f32⟩
  | 16 => ⟨S50x128, .f32⟩
  | 17 => ⟨S_, .f32⟩
  | 18 => ⟨S50x128, .f32⟩
  | 19 => ⟨S50x128, .f32⟩
  | 20 => ⟨S_, .f32⟩
  | 21 => ⟨S50x128, .f32⟩
  | 22 => ⟨S50x128, .f32⟩
  | 23 => ⟨S50x128, .f32⟩
  | 24 => ⟨S50x128, .f32⟩
  | 25 => ⟨S50x128, .f32⟩
  | 26 => ⟨S_, .f32⟩
  | 27 => ⟨S50x128, .f32⟩
  | 28 => ⟨S50x128, .f32⟩
  | 29 => ⟨S_, .f32⟩
  | 30 => ⟨S50x128, .f32⟩
  | 31 => ⟨S50x128, .f32⟩
  | 32 => ⟨S50x128, .f32⟩
  | 33 => ⟨S50x128, .f32⟩
  | 34 => ⟨S50x128, .f32⟩
  | 35 => ⟨S50x128, .f32⟩
  | 36 => ⟨S50x128, .f32⟩
  | 37 => ⟨S_, .f32⟩
  | 38 => ⟨S50x128, .f32⟩
  | 39 => ⟨S50x128, .f32⟩
  | 40 => ⟨S_, .f32⟩
  | 41 => ⟨S50x128, .f32⟩
  | 42 => ⟨S50x128, .f32⟩
  | 43 => ⟨S50x128, .f32⟩
  | 44 => ⟨S50x128, .f32⟩
  | 45 => ⟨S50x1x512, .f32⟩
  | 46 => ⟨S50x512, .f32⟩
  | 47 => ⟨S50x512, .f32⟩
  | 48 => ⟨S50x512, .f32⟩
  | 49 => ⟨S50x512, .f32⟩
  | 50 => ⟨S50x128, .f32⟩
  | 51 => ⟨S50x128, .f32⟩
  | 52 => ⟨S50x128, .f32⟩
  | 53 => ⟨S50x128, .f32⟩
  | 54 => ⟨S50x128, .f32⟩
  | 55 => ⟨S50x128, .f32⟩
  | 56 => ⟨S_, .f32⟩
  | 57 => ⟨S50x128, .f32⟩
  | 58 => ⟨S50x128, .f32⟩
  | 59 => ⟨S_, .f32⟩
  | 60 => ⟨S50x128, .f32⟩
  | 61 => ⟨S50x128, .f32⟩
  | 62 => ⟨S50x128, .f32⟩
  | 63 => ⟨S50x128, .f32⟩
  | 64 => ⟨S50x128, .f32⟩
  | 65 => ⟨S_, .f32⟩
  | 66 => ⟨S50x128, .f32⟩
  | 67 => ⟨S50x128, .f32⟩
  | 68 => ⟨S_, .f32⟩
  | 69 => ⟨S50x128, .f32⟩
  | 70 => ⟨S50x128, .f32⟩
  | 71 => ⟨S50x128, .f32⟩
  | 72 => ⟨S50x128, .f32⟩
  | 73 => ⟨S50x128, .f32⟩
  | 74 => ⟨S50x128, .f32⟩
  | 75 => ⟨S50x128, .f32⟩
  | 76 => ⟨S_, .f32⟩
  | 77 => ⟨S50x128, .f32⟩
  | 78 => ⟨S50x128, .f32⟩
  | 79 => ⟨S_, .f32⟩
  | 80 => ⟨S50x128, .f32⟩
  | 81 => ⟨S50x128, .f32⟩
  | 82 => ⟨S50x128, .f32⟩
  | 83 => ⟨S50x128, .f32⟩
  | 84 => ⟨S50x1x512, .f32⟩
  | 85 => ⟨S50x512, .f32⟩
  | 86 => ⟨S50x512, .f32⟩
  | 87 => ⟨S50x512, .f32⟩
  | 88 => ⟨S50x512, .f32⟩
  | 89 => ⟨S50x128, .f32⟩
  | 90 => ⟨S50x128, .f32⟩
  | 91 => ⟨S50x128, .f32⟩
  | 92 => ⟨S50x128, .f32⟩
  | 93 => ⟨S50x128, .f32⟩
  | 94 => ⟨S50x128, .f32⟩
  | 95 => ⟨S_, .f32⟩
  | 96 => ⟨S50x128, .f32⟩
  | 97 => ⟨S50x128, .f32⟩
  | 98 => ⟨S_, .f32⟩
  | 99 => ⟨S50x128, .f32⟩
  | 100 => ⟨S50x128, .f32⟩
  | 101 => ⟨S50x128, .f32⟩
  | 102 => ⟨S50x128, .f32⟩
  | 103 => ⟨S50x128, .f32⟩
  | 104 => ⟨S_, .f32⟩
  | 105 => ⟨S50x128, .f32⟩
  | 106 => ⟨S50x128, .f32⟩
  | 107 => ⟨S_, .f32⟩
  | 108 => ⟨S50x128, .f32⟩
  | 109 => ⟨S50x128, .f32⟩
  | 110 => ⟨S50x128, .f32⟩
  | 111 => ⟨S50x128, .f32⟩
  | 112 => ⟨S50x128, .f32⟩
  | 113 => ⟨S50x128, .f32⟩
  | 114 => ⟨S50x128, .f32⟩
  | 115 => ⟨S_, .f32⟩
  | 116 => ⟨S50x128, .f32⟩
  | 117 => ⟨S50x128, .f32⟩
  | 118 => ⟨S_, .f32⟩
  | 119 => ⟨S50x128, .f32⟩
  | 120 => ⟨S50x128, .f32⟩
  | 121 => ⟨S50x128, .f32⟩
  | 122 => ⟨S50x128, .f32⟩
  | 123 => ⟨S50x1x512, .f32⟩
  | 124 => ⟨S50x512, .f32⟩
  | 125 => ⟨S50x512, .f32⟩
  | 126 => ⟨S50x512, .f32⟩
  | 127 => ⟨S50x512, .f32⟩
  | _ => ⟨S10000x8x128, .f32⟩

abbrev hbmTy0_6 (i : Nat) : BufTy := match i % 128 with
  | 0 => ⟨S50x128, .f32⟩
  | 1 => ⟨S50x128, .f32⟩
  | 2 => ⟨S50x128, .f32⟩
  | 3 => ⟨S50x128, .f32⟩
  | 4 => ⟨S50x128, .f32⟩
  | 5 => ⟨S50x128, .f32⟩
  | 6 => ⟨S_, .f32⟩
  | 7 => ⟨S50x128, .f32⟩
  | 8 => ⟨S50x128, .f32⟩
  | 9 => ⟨S_, .f32⟩
  | 10 => ⟨S50x128, .f32⟩
  | 11 => ⟨S50x128, .f32⟩
  | 12 => ⟨S50x128, .f32⟩
  | 13 => ⟨S50x128, .f32⟩
  | 14 => ⟨S50x128, .f32⟩
  | 15 => ⟨S_, .f32⟩
  | 16 => ⟨S50x128, .f32⟩
  | 17 => ⟨S50x128, .f32⟩
  | 18 => ⟨S_, .f32⟩
  | 19 => ⟨S50x128, .f32⟩
  | 20 => ⟨S50x128, .f32⟩
  | 21 => ⟨S50x128, .f32⟩
  | 22 => ⟨S50x128, .f32⟩
  | 23 => ⟨S50x128, .f32⟩
  | 24 => ⟨S50x128, .f32⟩
  | 25 => ⟨S50x128, .f32⟩
  | 26 => ⟨S_, .f32⟩
  | 27 => ⟨S50x128, .f32⟩
  | 28 => ⟨S50x128, .f32⟩
  | 29 => ⟨S_, .f32⟩
  | 30 => ⟨S50x128, .f32⟩
  | 31 => ⟨S50x128, .f32⟩
  | 32 => ⟨S50x128, .f32⟩
  | 33 => ⟨S50x128, .f32⟩
  | 34 => ⟨S50x1x512, .f32⟩
  | 35 => ⟨S50x512, .f32⟩
  | 36 => ⟨S50x512, .f32⟩
  | 37 => ⟨S50x512, .f32⟩
  | 38 => ⟨S50x512, .f32⟩
  | 39 => ⟨S50x128, .f32⟩
  | 40 => ⟨S50x128, .f32⟩
  | 41 => ⟨S50x128, .f32⟩
  | 42 => ⟨S50x128, .f32⟩
  | 43 => ⟨S50x128, .f32⟩
  | 44 => ⟨S50x128, .f32⟩
  | 45 => ⟨S_, .f32⟩
  | 46 => ⟨S50x128, .f32⟩
  | 47 => ⟨S50x128, .f32⟩
  | 48 => ⟨S_, .f32⟩
  | 49 => ⟨S50x128, .f32⟩
  | 50 => ⟨S50x128, .f32⟩
  | 51 => ⟨S50x128, .f32⟩
  | 52 => ⟨S50x128, .f32⟩
  | 53 => ⟨S50x128, .f32⟩
  | 54 => ⟨S_, .f32⟩
  | 55 => ⟨S50x128, .f32⟩
  | 56 => ⟨S50x128, .f32⟩
  | 57 => ⟨S_, .f32⟩
  | 58 => ⟨S50x128, .f32⟩
  | 59 => ⟨S50x128, .f32⟩
  | 60 => ⟨S50x128, .f32⟩
  | 61 => ⟨S50x128, .f32⟩
  | 62 => ⟨S50x128, .f32⟩
  | 63 => ⟨S50x128, .f32⟩
  | 64 => ⟨S50x128, .f32⟩
  | 65 => ⟨S_, .f32⟩
  | 66 => ⟨S50x128, .f32⟩
  | 67 => ⟨S50x128, .f32⟩
  | 68 => ⟨S_, .f32⟩
  | 69 => ⟨S50x128, .f32⟩
  | 70 => ⟨S50x128, .f32⟩
  | 71 => ⟨S50x128, .f32⟩
  | 72 => ⟨S50x128, .f32⟩
  | 73 => ⟨S1x320000, .i32⟩
  | 74 => ⟨S320000, .i32⟩
  | 75 => ⟨S1x320000, .i32⟩
  | 76 => ⟨S320000, .i32⟩
  | 77 => ⟨S8x10000x128, .f32⟩
  | 78 => ⟨S10000x8x128, .f32⟩
  | 79 => ⟨S128x128, .f32⟩
  | 80 => ⟨S320000x128, .f32⟩
  | 81 => ⟨S1x10000, .i32⟩
  | 82 => ⟨S50, .i32⟩
  | 83 => ⟨S50x1, .i32⟩
  | 84 => ⟨S50x10000, .i32⟩
  | 85 => ⟨S50x10000, .i32⟩
  | 86 => ⟨S50x10000, .i1⟩
  | 87 => ⟨S_, .f32⟩
  | 88 => ⟨S50x128, .f32⟩
  | 89 => ⟨S_, .f32⟩
  | 90 => ⟨S50, .f32⟩
  | 91 => ⟨S50, .f32⟩
  | 92 => ⟨S10000x1, .i32⟩
  | 93 => ⟨S10000, .f32⟩
  | 94 => ⟨S_, .f32⟩
  | 95 => ⟨S50x2000, .f32⟩
  | 96 => ⟨S_, .i32⟩
  | 97 => ⟨S128x128, .f32⟩
  | 98 => ⟨S50x128, .f32⟩
  | 99 => ⟨S128, .f32⟩
  | 100 => ⟨S128x128, .f32⟩
  | 101 => ⟨S128, .f32⟩
  | 102 => ⟨S50x20x128, .f32⟩
  | 103 => ⟨S9x128, .f32⟩
  | 104 => ⟨S10000, .i32⟩
  | 105 => ⟨S10000x8x128, .f32⟩
  | 106 => ⟨S320000, .i32⟩
  | 107 => ⟨S320000x128, .f32⟩
  | 108 => ⟨S128, .f32⟩
  | 109 => ⟨S50x10000, .i1⟩
  | 110 => ⟨S320000, .i32⟩
  | 111 => ⟨S320000, .i32⟩
  | 112 => ⟨S128, .f32⟩
  | 113 => ⟨S10000x8x128, .f32⟩
  | 114 => ⟨S2000x256, .f32⟩
  | 115 => ⟨S2000, .f32⟩
  | 116 => ⟨S_, .i32⟩
  | 117 => ⟨S50x128, .f32⟩
  | 118 => ⟨S10000, .f32⟩
  | 119 => ⟨S50x2000, .f32⟩
  | 120 => ⟨S_, .i32⟩
  | 121 => ⟨S_, .i1⟩
  | 122 => ⟨S128x128, .f32⟩
  | 123 => ⟨S50x128, .f32⟩
  | 124 => ⟨S1x128, .f32⟩
  | 125 => ⟨S50x128, .f32⟩
  | 126 => ⟨S50x128, .f32⟩
  | 127 => ⟨S128x128, .f32⟩
  | _ => ⟨S10000x8x128, .f32⟩

abbrev hbmTy0_7 (i : Nat) : BufTy := match i % 128 with
  | 0 => ⟨S50x128, .f32⟩
  | 1 => ⟨S50x128, .f32⟩
  | 2 => ⟨S1x128, .f32⟩
  | 3 => ⟨S50x128, .f32⟩
  | 4 => ⟨S50x128, .f32⟩
  | 5 => ⟨S_, .f32⟩
  | 6 => ⟨S50x128, .f32⟩
  | 7 => ⟨S50x128, .f32⟩
  | 8 => ⟨S50x20, .f32⟩
  | 9 => ⟨S_, .f32⟩
  | 10 => ⟨S50, .f32⟩
  | 11 => ⟨S_, .f32⟩
  | 12 => ⟨S50, .f32⟩
  | 13 => ⟨S50, .f32⟩
  | 14 => ⟨S50x1, .f32⟩
  | 15 => ⟨S50x20, .f32⟩
  | 16 => ⟨S50x20, .f32⟩
  | 17 => ⟨S50x20, .f32⟩
  | 18 => ⟨S_, .f32⟩
  | 19 => ⟨S50, .f32⟩
  | 20 => ⟨S50x1, .f32⟩
  | 21 => ⟨S50x20, .f32⟩
  | 22 => ⟨S50x20, .f32⟩
  | 23 => ⟨S50x128, .f32⟩
  | 24 => ⟨S128x9, .f32⟩
  | 25 => ⟨S50x9, .f32⟩
  | 26 => ⟨S_, .f32⟩
  | 27 => ⟨S50, .f32⟩
  | 28 => ⟨S_, .f32⟩
  | 29 => ⟨S50, .f32⟩
  | 30 => ⟨S50, .f32⟩
  | 31 => ⟨S50x1, .f32⟩
  | 32 => ⟨S50x9, .f32⟩
  | 33 => ⟨S50x9, .f32⟩
  | 34 => ⟨S50x9, .f32⟩
  | 35 => ⟨S_, .f32⟩
  | 36 => ⟨S50, .f32⟩
  | 37 => ⟨S50x1, .f32⟩
  | 38 => ⟨S50x9, .f32⟩
  | 39 => ⟨S50x9, .f32⟩
  | 40 => ⟨S50x8, .f32⟩
  | 41 => ⟨S50x1, .f32⟩
  | 42 => ⟨S50, .f32⟩
  | 43 => ⟨S10000x1, .i32⟩
  | 44 => ⟨S10000x8, .f32⟩
  | 45 => ⟨S10000x8x1, .f32⟩
  | 46 => ⟨S10000x1, .i32⟩
  | 47 => ⟨S10000x128, .f32⟩
  | 48 => ⟨S10000x1x128, .f32⟩
  | 49 => ⟨S10000x8x128, .f32⟩
  | 50 => ⟨S10000x8x128, .f32⟩
  | 51 => ⟨S10000x8x128, .f32⟩
  | 52 => ⟨S10000x8x128, .f32⟩
  | 53 => ⟨S_, .f32⟩
  | 54 => ⟨S10000x128, .f32⟩
  | 55 => ⟨S_, .f32⟩
  | 56 => ⟨S10000x128, .f32⟩
  | 57 => ⟨S10000x128, .i1⟩
  | 58 => ⟨S10000x128, .f32⟩
  | 59 => ⟨S10000x128, .f32⟩
  | 60 => ⟨S320000x1, .i32⟩
  | 61 => ⟨S320000x128, .f32⟩
  | 62 => ⟨S320000x128, .f32⟩
  | 63 => ⟨S_, .f32⟩
  | 64 => ⟨S320000x128, .f32⟩
  | 65 => ⟨S320000x128, .i1⟩
  | 66 => ⟨S320000x128, .f32⟩
  | 67 => ⟨S320000x128, .f32⟩
  | 68 => ⟨S10000, .f32⟩
  | 69 => ⟨S1x10000, .f32⟩
  | 70 => ⟨S_, .f32⟩
  | 71 => ⟨S_, .f32⟩
  | 72 => ⟨S50x10000, .f32⟩
  | 73 => ⟨S50x10000, .f32⟩
  | 74 => ⟨S50x10000, .f32⟩
  | 75 => ⟨S_, .f32⟩
  | 76 => ⟨S50, .f32⟩
  | 77 => ⟨S10000x1, .i32⟩
  | 78 => ⟨S10000, .f32⟩
  | 79 => ⟨S10000, .f32⟩
  | 80 => ⟨S10000, .f32⟩
  | 81 => ⟨S_, .f32⟩
  | 82 => ⟨S50, .f32⟩
  | 83 => ⟨S10000x1, .i32⟩
  | 84 => ⟨S50, .f32⟩
  | 85 => ⟨S10000x1, .i32⟩
  | 86 => ⟨S10000, .f32⟩
  | 87 => ⟨S10000, .f32⟩
  | 88 => ⟨S_, .f32⟩
  | 89 => ⟨S10000x128, .f32⟩
  | 90 => ⟨S320000x1, .i32⟩
  | 91 => ⟨S320000, .f32⟩
  | 92 => ⟨S320000x1, .f32⟩
  | 93 => ⟨S320000x128, .f32⟩
  | 94 => ⟨S320000x128, .f32⟩
  | 95 => ⟨S320000x1, .i32⟩
  | 96 => ⟨S10000x128, .f32⟩
  | 97 => ⟨S10000, .f32⟩
  | 98 => ⟨S1x10000, .f32⟩
  | 99 => ⟨S_, .f32⟩
  | 100 => ⟨S_, .f32⟩
  | 101 => ⟨S50x10000, .f32⟩
  | 102 => ⟨S50x10000, .f32⟩
  | 103 => ⟨S50x10000, .f32⟩
  | 104 => ⟨S_, .f32⟩
  | 105 => ⟨S50, .f32⟩
  | 106 => ⟨S10000x1, .i32⟩
  | 107 => ⟨S10000, .f32⟩
  | 108 => ⟨S10000, .f32⟩
  | 109 => ⟨S10000, .f32⟩
  | 110 => ⟨S_, .f32⟩
  | 111 => ⟨S50, .f32⟩
  | 112 => ⟨S10000x1, .i32⟩
  | 113 => ⟨S50, .f32⟩
  | 114 => ⟨S10000x1, .i32⟩
  | 115 => ⟨S10000, .f32⟩
  | 116 => ⟨S10000, .f32⟩
  | 117 => ⟨S10000x1, .i32⟩
  | 118 => ⟨S10000, .f32⟩
  | 119 => ⟨S10000, .f32⟩
  | 120 => ⟨S_, .f32⟩
  | 121 => ⟨S10000, .f32⟩
  | 122 => ⟨S10000, .f32⟩
  | 123 => ⟨S10000, .f32⟩
  | 124 => ⟨S10000, .f32⟩
  | 125 => ⟨S_, .f32⟩
  | 126 => ⟨S50x128, .f32⟩
  | 127 => ⟨S10000x1, .f32⟩
  | _ => ⟨S10000x8x128, .f32⟩

abbrev hbmTy0_8 (i : Nat) : BufTy := match i % 128 with
  | 0 => ⟨S10000x1, .i32⟩
  | 1 => ⟨S10000x8, .f32⟩
  | 2 => ⟨S10000x8x1, .f32⟩
  | 3 => ⟨S10000x8x128, .f32⟩
  | 4 => ⟨S10000x8x128, .f32⟩
  | 5 => ⟨S_, .f32⟩
  | 6 => ⟨S10000x128, .f32⟩
  | 7 => ⟨S10000x128, .f32⟩
  | 8 => ⟨S10000x128, .f32⟩
  | 9 => ⟨S10000x1, .i32⟩
  | 10 => ⟨S50x128, .f32⟩
  | 11 => ⟨S50x256, .f32⟩
  | 12 => ⟨S256x2000, .f32⟩
  | 13 => ⟨S50x2000, .f32⟩
  | 14 => ⟨S1x2000, .f32⟩
  | 15 => ⟨S50x2000, .f32⟩
  | 16 => ⟨S50x2000, .f32⟩
  | 17 => ⟨S_, .i32⟩
  | 18 => ⟨S_, .i32⟩
  | _ => ⟨S10000x8x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S10000x8x128, .f32⟩

abbrev bufTy : (tb : Table) → Fin (tcTables nBuf tb) → BufTy
  | .hbm, ⟨i, _⟩ => hbmTy i
  | _, _ => ⟨S10000x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_cst_8 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_9 : Ref sig .tc := ⟨.hbm, 111, rfl⟩
abbrev main_v78 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_11 : Ref sig .tc := ⟨.hbm, 120, rfl⟩
abbrev main_v85 : Ref sig .tc := ⟨.hbm, 121, rfl⟩
abbrev main_v86 : Ref sig .tc := ⟨.hbm, 122, rfl⟩
abbrev main_cst_12 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_13 : Ref sig .tc := ⟨.hbm, 131, rfl⟩
abbrev main_v94 : Ref sig .tc := ⟨.hbm, 132, rfl⟩
abbrev main_v95 : Ref sig .tc := ⟨.hbm, 133, rfl⟩
abbrev main_cst_14 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_15 : Ref sig .tc := ⟨.hbm, 150, rfl⟩
abbrev main_v111 : Ref sig .tc := ⟨.hbm, 151, rfl⟩
abbrev main_v112 : Ref sig .tc := ⟨.hbm, 152, rfl⟩
abbrev main_cst_16 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_17 : Ref sig .tc := ⟨.hbm, 159, rfl⟩
abbrev main_v118 : Ref sig .tc := ⟨.hbm, 160, rfl⟩
abbrev main_v119 : Ref sig .tc := ⟨.hbm, 161, rfl⟩
abbrev main_cst_18 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_19 : Ref sig .tc := ⟨.hbm, 170, rfl⟩
abbrev main_v127 : Ref sig .tc := ⟨.hbm, 171, rfl⟩
abbrev main_v128 : Ref sig .tc := ⟨.hbm, 172, rfl⟩
abbrev main_cst_20 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_21 : Ref sig .tc := ⟨.hbm, 189, rfl⟩
abbrev main_v144 : Ref sig .tc := ⟨.hbm, 190, rfl⟩
abbrev main_v145 : Ref sig .tc := ⟨.hbm, 191, rfl⟩
abbrev main_cst_22 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_23 : Ref sig .tc := ⟨.hbm, 198, rfl⟩
abbrev main_v151 : Ref sig .tc := ⟨.hbm, 199, rfl⟩
abbrev main_v152 : Ref sig .tc := ⟨.hbm, 200, rfl⟩
abbrev main_cst_24 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_25 : Ref sig .tc := ⟨.hbm, 209, rfl⟩
abbrev main_v160 : Ref sig .tc := ⟨.hbm, 210, rfl⟩
abbrev main_v161 : Ref sig .tc := ⟨.hbm, 211, rfl⟩
abbrev main_cst_26 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_27 : Ref sig .tc := ⟨.hbm, 228, rfl⟩
abbrev main_v177 : Ref sig .tc := ⟨.hbm, 229, rfl⟩
abbrev main_v178 : Ref sig .tc := ⟨.hbm, 230, rfl⟩
abbrev main_cst_28 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_29 : Ref sig .tc := ⟨.hbm, 237, rfl⟩
abbrev main_v184 : Ref sig .tc := ⟨.hbm, 238, rfl⟩
abbrev main_v185 : Ref sig .tc := ⟨.hbm, 239, rfl⟩
abbrev main_cst_30 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_cst_31 : Ref sig .tc := ⟨.hbm, 248, rfl⟩
abbrev main_v193 : Ref sig .tc := ⟨.hbm, 249, rfl⟩
abbrev main_v194 : Ref sig .tc := ⟨.hbm, 250, rfl⟩
abbrev main_cst_32 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_33 : Ref sig .tc := ⟨.hbm, 267, rfl⟩
abbrev main_v210 : Ref sig .tc := ⟨.hbm, 268, rfl⟩
abbrev main_v211 : Ref sig .tc := ⟨.hbm, 269, rfl⟩
abbrev main_cst_34 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_cst_35 : Ref sig .tc := ⟨.hbm, 276, rfl⟩
abbrev main_v217 : Ref sig .tc := ⟨.hbm, 277, rfl⟩
abbrev main_v218 : Ref sig .tc := ⟨.hbm, 278, rfl⟩
abbrev main_cst_36 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_cst_37 : Ref sig .tc := ⟨.hbm, 287, rfl⟩
abbrev main_v226 : Ref sig .tc := ⟨.hbm, 288, rfl⟩
abbrev main_v227 : Ref sig .tc := ⟨.hbm, 289, rfl⟩
abbrev main_cst_38 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_cst_39 : Ref sig .tc := ⟨.hbm, 306, rfl⟩
abbrev main_v243 : Ref sig .tc := ⟨.hbm, 307, rfl⟩
abbrev main_v244 : Ref sig .tc := ⟨.hbm, 308, rfl⟩
abbrev main_cst_40 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_cst_41 : Ref sig .tc := ⟨.hbm, 315, rfl⟩
abbrev main_v250 : Ref sig .tc := ⟨.hbm, 316, rfl⟩
abbrev main_v251 : Ref sig .tc := ⟨.hbm, 317, rfl⟩
abbrev main_cst_42 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_cst_43 : Ref sig .tc := ⟨.hbm, 326, rfl⟩
abbrev main_v259 : Ref sig .tc := ⟨.hbm, 327, rfl⟩
abbrev main_v260 : Ref sig .tc := ⟨.hbm, 328, rfl⟩
abbrev main_cst_44 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_cst_45 : Ref sig .tc := ⟨.hbm, 345, rfl⟩
abbrev main_v276 : Ref sig .tc := ⟨.hbm, 346, rfl⟩
abbrev main_v277 : Ref sig .tc := ⟨.hbm, 347, rfl⟩
abbrev main_cst_46 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_cst_47 : Ref sig .tc := ⟨.hbm, 354, rfl⟩
abbrev main_v283 : Ref sig .tc := ⟨.hbm, 355, rfl⟩
abbrev main_v284 : Ref sig .tc := ⟨.hbm, 356, rfl⟩
abbrev main_cst_48 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_cst_49 : Ref sig .tc := ⟨.hbm, 365, rfl⟩
abbrev main_v292 : Ref sig .tc := ⟨.hbm, 366, rfl⟩
abbrev main_v293 : Ref sig .tc := ⟨.hbm, 367, rfl⟩
abbrev main_cst_50 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_cst_51 : Ref sig .tc := ⟨.hbm, 384, rfl⟩
abbrev main_v309 : Ref sig .tc := ⟨.hbm, 385, rfl⟩
abbrev main_v310 : Ref sig .tc := ⟨.hbm, 386, rfl⟩
abbrev main_cst_52 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_cst_53 : Ref sig .tc := ⟨.hbm, 393, rfl⟩
abbrev main_v316 : Ref sig .tc := ⟨.hbm, 394, rfl⟩
abbrev main_v317 : Ref sig .tc := ⟨.hbm, 395, rfl⟩
abbrev main_cst_54 : Ref sig .tc := ⟨.hbm, 396, rfl⟩
abbrev main_v318 : Ref sig .tc := ⟨.hbm, 397, rfl⟩
abbrev main_v319 : Ref sig .tc := ⟨.hbm, 398, rfl⟩
abbrev main_v320 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_cst_55 : Ref sig .tc := ⟨.hbm, 404, rfl⟩
abbrev main_v325 : Ref sig .tc := ⟨.hbm, 405, rfl⟩
abbrev main_v326 : Ref sig .tc := ⟨.hbm, 406, rfl⟩
abbrev main_cst_56 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_cst_57 : Ref sig .tc := ⟨.hbm, 423, rfl⟩
abbrev main_v342 : Ref sig .tc := ⟨.hbm, 424, rfl⟩
abbrev main_v343 : Ref sig .tc := ⟨.hbm, 425, rfl⟩
abbrev main_cst_58 : Ref sig .tc := ⟨.hbm, 426, rfl⟩
abbrev main_v344 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_v348 : Ref sig .tc := ⟨.hbm, 431, rfl⟩
abbrev main_cst_59 : Ref sig .tc := ⟨.hbm, 432, rfl⟩
abbrev main_v349 : Ref sig .tc := ⟨.hbm, 433, rfl⟩
abbrev main_v350 : Ref sig .tc := ⟨.hbm, 434, rfl⟩
abbrev main_cst_60 : Ref sig .tc := ⟨.hbm, 435, rfl⟩
abbrev main_v351 : Ref sig .tc := ⟨.hbm, 436, rfl⟩
abbrev main_v352 : Ref sig .tc := ⟨.hbm, 437, rfl⟩
abbrev main_v353 : Ref sig .tc := ⟨.hbm, 438, rfl⟩
abbrev main_v354 : Ref sig .tc := ⟨.hbm, 439, rfl⟩
abbrev main_v355 : Ref sig .tc := ⟨.hbm, 440, rfl⟩
abbrev main_v356 : Ref sig .tc := ⟨.hbm, 441, rfl⟩
abbrev main_v357 : Ref sig .tc := ⟨.hbm, 442, rfl⟩
abbrev main_cst_61 : Ref sig .tc := ⟨.hbm, 443, rfl⟩
abbrev main_v358 : Ref sig .tc := ⟨.hbm, 444, rfl⟩
abbrev main_v359 : Ref sig .tc := ⟨.hbm, 445, rfl⟩
abbrev main_cst_62 : Ref sig .tc := ⟨.hbm, 446, rfl⟩
abbrev main_v360 : Ref sig .tc := ⟨.hbm, 447, rfl⟩
abbrev main_v361 : Ref sig .tc := ⟨.hbm, 448, rfl⟩
abbrev main_v362 : Ref sig .tc := ⟨.hbm, 449, rfl⟩
abbrev main_v363 : Ref sig .tc := ⟨.hbm, 450, rfl⟩
abbrev main_v364 : Ref sig .tc := ⟨.hbm, 451, rfl⟩
abbrev main_v365 : Ref sig .tc := ⟨.hbm, 452, rfl⟩
abbrev main_v366 : Ref sig .tc := ⟨.hbm, 453, rfl⟩
abbrev main_v367 : Ref sig .tc := ⟨.hbm, 454, rfl⟩
abbrev main_v368 : Ref sig .tc := ⟨.hbm, 455, rfl⟩
abbrev main_v369 : Ref sig .tc := ⟨.hbm, 456, rfl⟩
abbrev main_v370 : Ref sig .tc := ⟨.hbm, 457, rfl⟩
abbrev main_v371 : Ref sig .tc := ⟨.hbm, 458, rfl⟩
abbrev main_v372 : Ref sig .tc := ⟨.hbm, 459, rfl⟩
abbrev main_v373 : Ref sig .tc := ⟨.hbm, 460, rfl⟩
abbrev main_v374 : Ref sig .tc := ⟨.hbm, 461, rfl⟩
abbrev main_cst_63 : Ref sig .tc := ⟨.hbm, 462, rfl⟩
abbrev main_v375 : Ref sig .tc := ⟨.hbm, 463, rfl⟩
abbrev main_v376 : Ref sig .tc := ⟨.hbm, 464, rfl⟩
abbrev main_cst_64 : Ref sig .tc := ⟨.hbm, 465, rfl⟩
abbrev main_v377 : Ref sig .tc := ⟨.hbm, 466, rfl⟩
abbrev main_v378 : Ref sig .tc := ⟨.hbm, 467, rfl⟩
abbrev main_v379 : Ref sig .tc := ⟨.hbm, 468, rfl⟩
abbrev main_v380 : Ref sig .tc := ⟨.hbm, 469, rfl⟩
abbrev main_v381 : Ref sig .tc := ⟨.hbm, 470, rfl⟩
abbrev main_cst_65 : Ref sig .tc := ⟨.hbm, 471, rfl⟩
abbrev main_v382 : Ref sig .tc := ⟨.hbm, 472, rfl⟩
abbrev main_v383 : Ref sig .tc := ⟨.hbm, 473, rfl⟩
abbrev main_cst_66 : Ref sig .tc := ⟨.hbm, 474, rfl⟩
abbrev main_v384 : Ref sig .tc := ⟨.hbm, 475, rfl⟩
abbrev main_v385 : Ref sig .tc := ⟨.hbm, 476, rfl⟩
abbrev main_v386 : Ref sig .tc := ⟨.hbm, 477, rfl⟩
abbrev main_v387 : Ref sig .tc := ⟨.hbm, 478, rfl⟩
abbrev main_v388 : Ref sig .tc := ⟨.hbm, 479, rfl⟩
abbrev main_v389 : Ref sig .tc := ⟨.hbm, 480, rfl⟩
abbrev main_v390 : Ref sig .tc := ⟨.hbm, 481, rfl⟩
abbrev main_cst_67 : Ref sig .tc := ⟨.hbm, 482, rfl⟩
abbrev main_v391 : Ref sig .tc := ⟨.hbm, 483, rfl⟩
abbrev main_v392 : Ref sig .tc := ⟨.hbm, 484, rfl⟩
abbrev main_cst_68 : Ref sig .tc := ⟨.hbm, 485, rfl⟩
abbrev main_v393 : Ref sig .tc := ⟨.hbm, 486, rfl⟩
abbrev main_v394 : Ref sig .tc := ⟨.hbm, 487, rfl⟩
abbrev main_v395 : Ref sig .tc := ⟨.hbm, 488, rfl⟩
abbrev main_v396 : Ref sig .tc := ⟨.hbm, 489, rfl⟩
abbrev main_v397 : Ref sig .tc := ⟨.hbm, 490, rfl⟩
abbrev main_v398 : Ref sig .tc := ⟨.hbm, 491, rfl⟩
abbrev main_v399 : Ref sig .tc := ⟨.hbm, 492, rfl⟩
abbrev main_v400 : Ref sig .tc := ⟨.hbm, 493, rfl⟩
abbrev main_v401 : Ref sig .tc := ⟨.hbm, 494, rfl⟩
abbrev main_v402 : Ref sig .tc := ⟨.hbm, 495, rfl⟩
abbrev main_v403 : Ref sig .tc := ⟨.hbm, 496, rfl⟩
abbrev main_v404 : Ref sig .tc := ⟨.hbm, 497, rfl⟩
abbrev main_v405 : Ref sig .tc := ⟨.hbm, 498, rfl⟩
abbrev main_v406 : Ref sig .tc := ⟨.hbm, 499, rfl⟩
abbrev main_v407 : Ref sig .tc := ⟨.hbm, 500, rfl⟩
abbrev main_cst_69 : Ref sig .tc := ⟨.hbm, 501, rfl⟩
abbrev main_v408 : Ref sig .tc := ⟨.hbm, 502, rfl⟩
abbrev main_v409 : Ref sig .tc := ⟨.hbm, 503, rfl⟩
abbrev main_cst_70 : Ref sig .tc := ⟨.hbm, 504, rfl⟩
abbrev main_v410 : Ref sig .tc := ⟨.hbm, 505, rfl⟩
abbrev main_v411 : Ref sig .tc := ⟨.hbm, 506, rfl⟩
abbrev main_v412 : Ref sig .tc := ⟨.hbm, 507, rfl⟩
abbrev main_v413 : Ref sig .tc := ⟨.hbm, 508, rfl⟩
abbrev main_v414 : Ref sig .tc := ⟨.hbm, 509, rfl⟩
abbrev main_cst_71 : Ref sig .tc := ⟨.hbm, 510, rfl⟩
abbrev main_v415 : Ref sig .tc := ⟨.hbm, 511, rfl⟩
abbrev main_v416 : Ref sig .tc := ⟨.hbm, 512, rfl⟩
abbrev main_cst_72 : Ref sig .tc := ⟨.hbm, 513, rfl⟩
abbrev main_v417 : Ref sig .tc := ⟨.hbm, 514, rfl⟩
abbrev main_v418 : Ref sig .tc := ⟨.hbm, 515, rfl⟩
abbrev main_v419 : Ref sig .tc := ⟨.hbm, 516, rfl⟩
abbrev main_v420 : Ref sig .tc := ⟨.hbm, 517, rfl⟩
abbrev main_v421 : Ref sig .tc := ⟨.hbm, 518, rfl⟩
abbrev main_v422 : Ref sig .tc := ⟨.hbm, 519, rfl⟩
abbrev main_v423 : Ref sig .tc := ⟨.hbm, 520, rfl⟩
abbrev main_cst_73 : Ref sig .tc := ⟨.hbm, 521, rfl⟩
abbrev main_v424 : Ref sig .tc := ⟨.hbm, 522, rfl⟩
abbrev main_v425 : Ref sig .tc := ⟨.hbm, 523, rfl⟩
abbrev main_cst_74 : Ref sig .tc := ⟨.hbm, 524, rfl⟩
abbrev main_v426 : Ref sig .tc := ⟨.hbm, 525, rfl⟩
abbrev main_v427 : Ref sig .tc := ⟨.hbm, 526, rfl⟩
abbrev main_v428 : Ref sig .tc := ⟨.hbm, 527, rfl⟩
abbrev main_v429 : Ref sig .tc := ⟨.hbm, 528, rfl⟩
abbrev main_v430 : Ref sig .tc := ⟨.hbm, 529, rfl⟩
abbrev main_v431 : Ref sig .tc := ⟨.hbm, 530, rfl⟩
abbrev main_v432 : Ref sig .tc := ⟨.hbm, 531, rfl⟩
abbrev main_v433 : Ref sig .tc := ⟨.hbm, 532, rfl⟩
abbrev main_v434 : Ref sig .tc := ⟨.hbm, 533, rfl⟩
abbrev main_v435 : Ref sig .tc := ⟨.hbm, 534, rfl⟩
abbrev main_v436 : Ref sig .tc := ⟨.hbm, 535, rfl⟩
abbrev main_v437 : Ref sig .tc := ⟨.hbm, 536, rfl⟩
abbrev main_v438 : Ref sig .tc := ⟨.hbm, 537, rfl⟩
abbrev main_v439 : Ref sig .tc := ⟨.hbm, 538, rfl⟩
abbrev main_v440 : Ref sig .tc := ⟨.hbm, 539, rfl⟩
abbrev main_cst_75 : Ref sig .tc := ⟨.hbm, 540, rfl⟩
abbrev main_v441 : Ref sig .tc := ⟨.hbm, 541, rfl⟩
abbrev main_v442 : Ref sig .tc := ⟨.hbm, 542, rfl⟩
abbrev main_cst_76 : Ref sig .tc := ⟨.hbm, 543, rfl⟩
abbrev main_v443 : Ref sig .tc := ⟨.hbm, 544, rfl⟩
abbrev main_v444 : Ref sig .tc := ⟨.hbm, 545, rfl⟩
abbrev main_v445 : Ref sig .tc := ⟨.hbm, 546, rfl⟩
abbrev main_v446 : Ref sig .tc := ⟨.hbm, 547, rfl⟩
abbrev main_v447 : Ref sig .tc := ⟨.hbm, 548, rfl⟩
abbrev main_cst_77 : Ref sig .tc := ⟨.hbm, 549, rfl⟩
abbrev main_v448 : Ref sig .tc := ⟨.hbm, 550, rfl⟩
abbrev main_v449 : Ref sig .tc := ⟨.hbm, 551, rfl⟩
abbrev main_cst_78 : Ref sig .tc := ⟨.hbm, 552, rfl⟩
abbrev main_v450 : Ref sig .tc := ⟨.hbm, 553, rfl⟩
abbrev main_v451 : Ref sig .tc := ⟨.hbm, 554, rfl⟩
abbrev main_v452 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_v456 : Ref sig .tc := ⟨.hbm, 559, rfl⟩
abbrev main_cst_79 : Ref sig .tc := ⟨.hbm, 560, rfl⟩
abbrev main_v457 : Ref sig .tc := ⟨.hbm, 561, rfl⟩
abbrev main_v458 : Ref sig .tc := ⟨.hbm, 562, rfl⟩
abbrev main_cst_80 : Ref sig .tc := ⟨.hbm, 563, rfl⟩
abbrev main_v459 : Ref sig .tc := ⟨.hbm, 564, rfl⟩
abbrev main_v460 : Ref sig .tc := ⟨.hbm, 565, rfl⟩
abbrev main_v461 : Ref sig .tc := ⟨.hbm, 566, rfl⟩
abbrev main_v462 : Ref sig .tc := ⟨.hbm, 567, rfl⟩
abbrev main_v463 : Ref sig .tc := ⟨.hbm, 568, rfl⟩
abbrev main_v464 : Ref sig .tc := ⟨.hbm, 569, rfl⟩
abbrev main_v465 : Ref sig .tc := ⟨.hbm, 570, rfl⟩
abbrev main_v466 : Ref sig .tc := ⟨.hbm, 571, rfl⟩
abbrev main_v467 : Ref sig .tc := ⟨.hbm, 572, rfl⟩
abbrev main_v468 : Ref sig .tc := ⟨.hbm, 573, rfl⟩
abbrev main_v469 : Ref sig .tc := ⟨.hbm, 574, rfl⟩
abbrev main_v470 : Ref sig .tc := ⟨.hbm, 575, rfl⟩
abbrev main_v471 : Ref sig .tc := ⟨.hbm, 576, rfl⟩
abbrev main_v472 : Ref sig .tc := ⟨.hbm, 577, rfl⟩
abbrev main_v473 : Ref sig .tc := ⟨.hbm, 578, rfl⟩
abbrev main_cst_81 : Ref sig .tc := ⟨.hbm, 579, rfl⟩
abbrev main_v474 : Ref sig .tc := ⟨.hbm, 580, rfl⟩
abbrev main_v475 : Ref sig .tc := ⟨.hbm, 581, rfl⟩
abbrev main_cst_82 : Ref sig .tc := ⟨.hbm, 582, rfl⟩
abbrev main_v476 : Ref sig .tc := ⟨.hbm, 583, rfl⟩
abbrev main_v477 : Ref sig .tc := ⟨.hbm, 584, rfl⟩
abbrev main_v478 : Ref sig .tc := ⟨.hbm, 585, rfl⟩
abbrev main_v479 : Ref sig .tc := ⟨.hbm, 586, rfl⟩
abbrev main_v480 : Ref sig .tc := ⟨.hbm, 587, rfl⟩
abbrev main_cst_83 : Ref sig .tc := ⟨.hbm, 588, rfl⟩
abbrev main_v481 : Ref sig .tc := ⟨.hbm, 589, rfl⟩
abbrev main_v482 : Ref sig .tc := ⟨.hbm, 590, rfl⟩
abbrev main_cst_84 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_v486 : Ref sig .tc := ⟨.hbm, 595, rfl⟩
abbrev main_v487 : Ref sig .tc := ⟨.hbm, 596, rfl⟩
abbrev main_v488 : Ref sig .tc := ⟨.hbm, 597, rfl⟩
abbrev main_v489 : Ref sig .tc := ⟨.hbm, 598, rfl⟩
abbrev main_cst_85 : Ref sig .tc := ⟨.hbm, 599, rfl⟩
abbrev main_v490 : Ref sig .tc := ⟨.hbm, 600, rfl⟩
abbrev main_v491 : Ref sig .tc := ⟨.hbm, 601, rfl⟩
abbrev main_cst_86 : Ref sig .tc := ⟨.hbm, 602, rfl⟩
abbrev main_v492 : Ref sig .tc := ⟨.hbm, 603, rfl⟩
abbrev main_v493 : Ref sig .tc := ⟨.hbm, 604, rfl⟩
abbrev main_v494 : Ref sig .tc := ⟨.hbm, 605, rfl⟩
abbrev main_v495 : Ref sig .tc := ⟨.hbm, 606, rfl⟩
abbrev main_v496 : Ref sig .tc := ⟨.hbm, 607, rfl⟩
abbrev main_v497 : Ref sig .tc := ⟨.hbm, 608, rfl⟩
abbrev main_v498 : Ref sig .tc := ⟨.hbm, 609, rfl⟩
abbrev main_v499 : Ref sig .tc := ⟨.hbm, 610, rfl⟩
abbrev main_v500 : Ref sig .tc := ⟨.hbm, 611, rfl⟩
abbrev main_v501 : Ref sig .tc := ⟨.hbm, 612, rfl⟩
abbrev main_v502 : Ref sig .tc := ⟨.hbm, 613, rfl⟩
abbrev main_v503 : Ref sig .tc := ⟨.hbm, 614, rfl⟩
abbrev main_v504 : Ref sig .tc := ⟨.hbm, 615, rfl⟩
abbrev main_v505 : Ref sig .tc := ⟨.hbm, 616, rfl⟩
abbrev main_v506 : Ref sig .tc := ⟨.hbm, 617, rfl⟩
abbrev main_cst_87 : Ref sig .tc := ⟨.hbm, 618, rfl⟩
abbrev main_v507 : Ref sig .tc := ⟨.hbm, 619, rfl⟩
abbrev main_v508 : Ref sig .tc := ⟨.hbm, 620, rfl⟩
abbrev main_cst_88 : Ref sig .tc := ⟨.hbm, 621, rfl⟩
abbrev main_v509 : Ref sig .tc := ⟨.hbm, 622, rfl⟩
abbrev main_v510 : Ref sig .tc := ⟨.hbm, 623, rfl⟩
abbrev main_v511 : Ref sig .tc := ⟨.hbm, 624, rfl⟩
abbrev main_v512 : Ref sig .tc := ⟨.hbm, 625, rfl⟩
abbrev main_v513 : Ref sig .tc := ⟨.hbm, 626, rfl⟩
abbrev main_cst_89 : Ref sig .tc := ⟨.hbm, 627, rfl⟩
abbrev main_v514 : Ref sig .tc := ⟨.hbm, 628, rfl⟩
abbrev main_v515 : Ref sig .tc := ⟨.hbm, 629, rfl⟩
abbrev main_cst_90 : Ref sig .tc := ⟨.hbm, 630, rfl⟩
abbrev main_v516 : Ref sig .tc := ⟨.hbm, 631, rfl⟩
abbrev main_v517 : Ref sig .tc := ⟨.hbm, 632, rfl⟩
abbrev main_v518 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_cst_91 : Ref sig .tc := ⟨.hbm, 638, rfl⟩
abbrev main_v523 : Ref sig .tc := ⟨.hbm, 639, rfl⟩
abbrev main_v524 : Ref sig .tc := ⟨.hbm, 640, rfl⟩
abbrev main_cst_92 : Ref sig .tc := ⟨.hbm, 641, rfl⟩
abbrev main_v525 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_v533 : Ref sig .tc := ⟨.hbm, 650, rfl⟩
abbrev main_v534 : Ref sig .tc := ⟨.hbm, 651, rfl⟩
abbrev main_v535 : Ref sig .tc := ⟨.hbm, 652, rfl⟩
abbrev main_v536 : Ref sig .tc := ⟨.hbm, 653, rfl⟩
abbrev main_v537 : Ref sig .tc := ⟨.hbm, 654, rfl⟩
abbrev main_v538 : Ref sig .tc := ⟨.hbm, 655, rfl⟩
abbrev main_v539 : Ref sig .tc := ⟨.hbm, 656, rfl⟩
abbrev main_cst_93 : Ref sig .tc := ⟨.hbm, 657, rfl⟩
abbrev main_v540 : Ref sig .tc := ⟨.hbm, 658, rfl⟩
abbrev main_v541 : Ref sig .tc := ⟨.hbm, 659, rfl⟩
abbrev main_cst_94 : Ref sig .tc := ⟨.hbm, 660, rfl⟩
abbrev main_v542 : Ref sig .tc := ⟨.hbm, 661, rfl⟩
abbrev main_v543 : Ref sig .tc := ⟨.hbm, 662, rfl⟩
abbrev main_v544 : Ref sig .tc := ⟨.hbm, 663, rfl⟩
abbrev main_v545 : Ref sig .tc := ⟨.hbm, 664, rfl⟩
abbrev main_v546 : Ref sig .tc := ⟨.hbm, 665, rfl⟩
abbrev main_cst_95 : Ref sig .tc := ⟨.hbm, 666, rfl⟩
abbrev main_v547 : Ref sig .tc := ⟨.hbm, 667, rfl⟩
abbrev main_v548 : Ref sig .tc := ⟨.hbm, 668, rfl⟩
abbrev main_cst_96 : Ref sig .tc := ⟨.hbm, 669, rfl⟩
abbrev main_v549 : Ref sig .tc := ⟨.hbm, 670, rfl⟩
abbrev main_v550 : Ref sig .tc := ⟨.hbm, 671, rfl⟩
abbrev main_v551 : Ref sig .tc := ⟨.hbm, 672, rfl⟩
abbrev main_v552 : Ref sig .tc := ⟨.hbm, 673, rfl⟩
abbrev main_v553 : Ref sig .tc := ⟨.hbm, 674, rfl⟩
abbrev main_v554 : Ref sig .tc := ⟨.hbm, 675, rfl⟩
abbrev main_v555 : Ref sig .tc := ⟨.hbm, 676, rfl⟩
abbrev main_cst_97 : Ref sig .tc := ⟨.hbm, 677, rfl⟩
abbrev main_v556 : Ref sig .tc := ⟨.hbm, 678, rfl⟩
abbrev main_v557 : Ref sig .tc := ⟨.hbm, 679, rfl⟩
abbrev main_cst_98 : Ref sig .tc := ⟨.hbm, 680, rfl⟩
abbrev main_v558 : Ref sig .tc := ⟨.hbm, 681, rfl⟩
abbrev main_v559 : Ref sig .tc := ⟨.hbm, 682, rfl⟩
abbrev main_v560 : Ref sig .tc := ⟨.hbm, 683, rfl⟩
abbrev main_v561 : Ref sig .tc := ⟨.hbm, 684, rfl⟩
abbrev main_v562 : Ref sig .tc := ⟨.hbm, 685, rfl⟩
abbrev main_v563 : Ref sig .tc := ⟨.hbm, 686, rfl⟩
abbrev main_v564 : Ref sig .tc := ⟨.hbm, 687, rfl⟩
abbrev main_v565 : Ref sig .tc := ⟨.hbm, 688, rfl⟩
abbrev main_v566 : Ref sig .tc := ⟨.hbm, 689, rfl⟩
abbrev main_v567 : Ref sig .tc := ⟨.hbm, 690, rfl⟩
abbrev main_v568 : Ref sig .tc := ⟨.hbm, 691, rfl⟩
abbrev main_v569 : Ref sig .tc := ⟨.hbm, 692, rfl⟩
abbrev main_v570 : Ref sig .tc := ⟨.hbm, 693, rfl⟩
abbrev main_v571 : Ref sig .tc := ⟨.hbm, 694, rfl⟩
abbrev main_v572 : Ref sig .tc := ⟨.hbm, 695, rfl⟩
abbrev main_cst_99 : Ref sig .tc := ⟨.hbm, 696, rfl⟩
abbrev main_v573 : Ref sig .tc := ⟨.hbm, 697, rfl⟩
abbrev main_v574 : Ref sig .tc := ⟨.hbm, 698, rfl⟩
abbrev main_cst_100 : Ref sig .tc := ⟨.hbm, 699, rfl⟩
abbrev main_v575 : Ref sig .tc := ⟨.hbm, 700, rfl⟩
abbrev main_v576 : Ref sig .tc := ⟨.hbm, 701, rfl⟩
abbrev main_v577 : Ref sig .tc := ⟨.hbm, 702, rfl⟩
abbrev main_v578 : Ref sig .tc := ⟨.hbm, 703, rfl⟩
abbrev main_v579 : Ref sig .tc := ⟨.hbm, 704, rfl⟩
abbrev main_cst_101 : Ref sig .tc := ⟨.hbm, 705, rfl⟩
abbrev main_v580 : Ref sig .tc := ⟨.hbm, 706, rfl⟩
abbrev main_v581 : Ref sig .tc := ⟨.hbm, 707, rfl⟩
abbrev main_cst_102 : Ref sig .tc := ⟨.hbm, 708, rfl⟩
abbrev main_v582 : Ref sig .tc := ⟨.hbm, 709, rfl⟩
abbrev main_v583 : Ref sig .tc := ⟨.hbm, 710, rfl⟩
abbrev main_v584 : Ref sig .tc := ⟨.hbm, 711, rfl⟩
abbrev main_v585 : Ref sig .tc := ⟨.hbm, 712, rfl⟩
abbrev main_v586 : Ref sig .tc := ⟨.hbm, 713, rfl⟩
abbrev main_v587 : Ref sig .tc := ⟨.hbm, 714, rfl⟩
abbrev main_v588 : Ref sig .tc := ⟨.hbm, 715, rfl⟩
abbrev main_cst_103 : Ref sig .tc := ⟨.hbm, 716, rfl⟩
abbrev main_v589 : Ref sig .tc := ⟨.hbm, 717, rfl⟩
abbrev main_v590 : Ref sig .tc := ⟨.hbm, 718, rfl⟩
abbrev main_cst_104 : Ref sig .tc := ⟨.hbm, 719, rfl⟩
abbrev main_v591 : Ref sig .tc := ⟨.hbm, 720, rfl⟩
abbrev main_v592 : Ref sig .tc := ⟨.hbm, 721, rfl⟩
abbrev main_v593 : Ref sig .tc := ⟨.hbm, 722, rfl⟩
abbrev main_v594 : Ref sig .tc := ⟨.hbm, 723, rfl⟩
abbrev main_v595 : Ref sig .tc := ⟨.hbm, 724, rfl⟩
abbrev main_v596 : Ref sig .tc := ⟨.hbm, 725, rfl⟩
abbrev main_v597 : Ref sig .tc := ⟨.hbm, 726, rfl⟩
abbrev main_v598 : Ref sig .tc := ⟨.hbm, 727, rfl⟩
abbrev main_v599 : Ref sig .tc := ⟨.hbm, 728, rfl⟩
abbrev main_v600 : Ref sig .tc := ⟨.hbm, 729, rfl⟩
abbrev main_v601 : Ref sig .tc := ⟨.hbm, 730, rfl⟩
abbrev main_v602 : Ref sig .tc := ⟨.hbm, 731, rfl⟩
abbrev main_v603 : Ref sig .tc := ⟨.hbm, 732, rfl⟩
abbrev main_v604 : Ref sig .tc := ⟨.hbm, 733, rfl⟩
abbrev main_v605 : Ref sig .tc := ⟨.hbm, 734, rfl⟩
abbrev main_cst_105 : Ref sig .tc := ⟨.hbm, 735, rfl⟩
abbrev main_v606 : Ref sig .tc := ⟨.hbm, 736, rfl⟩
abbrev main_v607 : Ref sig .tc := ⟨.hbm, 737, rfl⟩
abbrev main_cst_106 : Ref sig .tc := ⟨.hbm, 738, rfl⟩
abbrev main_v608 : Ref sig .tc := ⟨.hbm, 739, rfl⟩
abbrev main_v609 : Ref sig .tc := ⟨.hbm, 740, rfl⟩
abbrev main_v610 : Ref sig .tc := ⟨.hbm, 741, rfl⟩
abbrev main_v611 : Ref sig .tc := ⟨.hbm, 742, rfl⟩
abbrev main_v612 : Ref sig .tc := ⟨.hbm, 743, rfl⟩
abbrev main_cst_107 : Ref sig .tc := ⟨.hbm, 744, rfl⟩
abbrev main_v613 : Ref sig .tc := ⟨.hbm, 745, rfl⟩
abbrev main_v614 : Ref sig .tc := ⟨.hbm, 746, rfl⟩
abbrev main_cst_108 : Ref sig .tc := ⟨.hbm, 747, rfl⟩
abbrev main_v615 : Ref sig .tc := ⟨.hbm, 748, rfl⟩
abbrev main_v616 : Ref sig .tc := ⟨.hbm, 749, rfl⟩
abbrev main_v617 : Ref sig .tc := ⟨.hbm, 750, rfl⟩
abbrev main_v618 : Ref sig .tc := ⟨.hbm, 751, rfl⟩
abbrev main_v619 : Ref sig .tc := ⟨.hbm, 752, rfl⟩
abbrev main_v620 : Ref sig .tc := ⟨.hbm, 753, rfl⟩
abbrev main_v621 : Ref sig .tc := ⟨.hbm, 754, rfl⟩
abbrev main_cst_109 : Ref sig .tc := ⟨.hbm, 755, rfl⟩
abbrev main_v622 : Ref sig .tc := ⟨.hbm, 756, rfl⟩
abbrev main_v623 : Ref sig .tc := ⟨.hbm, 757, rfl⟩
abbrev main_cst_110 : Ref sig .tc := ⟨.hbm, 758, rfl⟩
abbrev main_v624 : Ref sig .tc := ⟨.hbm, 759, rfl⟩
abbrev main_v625 : Ref sig .tc := ⟨.hbm, 760, rfl⟩
abbrev main_v626 : Ref sig .tc := ⟨.hbm, 761, rfl⟩
abbrev main_v627 : Ref sig .tc := ⟨.hbm, 762, rfl⟩
abbrev main_v628 : Ref sig .tc := ⟨.hbm, 763, rfl⟩
abbrev main_v629 : Ref sig .tc := ⟨.hbm, 764, rfl⟩
abbrev main_v630 : Ref sig .tc := ⟨.hbm, 765, rfl⟩
abbrev main_v631 : Ref sig .tc := ⟨.hbm, 766, rfl⟩
abbrev main_v632 : Ref sig .tc := ⟨.hbm, 767, rfl⟩
abbrev main_v633 : Ref sig .tc := ⟨.hbm, 768, rfl⟩
abbrev main_v634 : Ref sig .tc := ⟨.hbm, 769, rfl⟩
abbrev main_v635 : Ref sig .tc := ⟨.hbm, 770, rfl⟩
abbrev main_v636 : Ref sig .tc := ⟨.hbm, 771, rfl⟩
abbrev main_v637 : Ref sig .tc := ⟨.hbm, 772, rfl⟩
abbrev main_v638 : Ref sig .tc := ⟨.hbm, 773, rfl⟩
abbrev main_cst_111 : Ref sig .tc := ⟨.hbm, 774, rfl⟩
abbrev main_v639 : Ref sig .tc := ⟨.hbm, 775, rfl⟩
abbrev main_v640 : Ref sig .tc := ⟨.hbm, 776, rfl⟩
abbrev main_cst_112 : Ref sig .tc := ⟨.hbm, 777, rfl⟩
abbrev main_v641 : Ref sig .tc := ⟨.hbm, 778, rfl⟩
abbrev main_v642 : Ref sig .tc := ⟨.hbm, 779, rfl⟩
abbrev main_v643 : Ref sig .tc := ⟨.hbm, 780, rfl⟩
abbrev main_v644 : Ref sig .tc := ⟨.hbm, 781, rfl⟩
abbrev main_v645 : Ref sig .tc := ⟨.hbm, 782, rfl⟩
abbrev main_cst_113 : Ref sig .tc := ⟨.hbm, 783, rfl⟩
abbrev main_v646 : Ref sig .tc := ⟨.hbm, 784, rfl⟩
abbrev main_v647 : Ref sig .tc := ⟨.hbm, 785, rfl⟩
abbrev main_cst_114 : Ref sig .tc := ⟨.hbm, 786, rfl⟩
abbrev main_v648 : Ref sig .tc := ⟨.hbm, 787, rfl⟩
abbrev main_v649 : Ref sig .tc := ⟨.hbm, 788, rfl⟩
abbrev main_v650 : Ref sig .tc := ⟨.hbm, 789, rfl⟩
abbrev main_v651 : Ref sig .tc := ⟨.hbm, 790, rfl⟩
abbrev main_v652 : Ref sig .tc := ⟨.hbm, 791, rfl⟩
abbrev main_v653 : Ref sig .tc := ⟨.hbm, 792, rfl⟩
abbrev main_v654 : Ref sig .tc := ⟨.hbm, 793, rfl⟩
abbrev main_cst_115 : Ref sig .tc := ⟨.hbm, 794, rfl⟩
abbrev main_v655 : Ref sig .tc := ⟨.hbm, 795, rfl⟩
abbrev main_v656 : Ref sig .tc := ⟨.hbm, 796, rfl⟩
abbrev main_cst_116 : Ref sig .tc := ⟨.hbm, 797, rfl⟩
abbrev main_v657 : Ref sig .tc := ⟨.hbm, 798, rfl⟩
abbrev main_v658 : Ref sig .tc := ⟨.hbm, 799, rfl⟩
abbrev main_v659 : Ref sig .tc := ⟨.hbm, 800, rfl⟩
abbrev main_v660 : Ref sig .tc := ⟨.hbm, 801, rfl⟩
abbrev main_v661 : Ref sig .tc := ⟨.hbm, 802, rfl⟩
abbrev main_v662 : Ref sig .tc := ⟨.hbm, 803, rfl⟩
abbrev main_v663 : Ref sig .tc := ⟨.hbm, 804, rfl⟩
abbrev main_v664 : Ref sig .tc := ⟨.hbm, 805, rfl⟩
abbrev main_v665 : Ref sig .tc := ⟨.hbm, 806, rfl⟩
abbrev main_v666 : Ref sig .tc := ⟨.hbm, 807, rfl⟩
abbrev main_v667 : Ref sig .tc := ⟨.hbm, 808, rfl⟩
abbrev main_v668 : Ref sig .tc := ⟨.hbm, 809, rfl⟩
abbrev main_v669 : Ref sig .tc := ⟨.hbm, 810, rfl⟩
abbrev main_v670 : Ref sig .tc := ⟨.hbm, 811, rfl⟩
abbrev main_v671 : Ref sig .tc := ⟨.hbm, 812, rfl⟩
abbrev main_cst_117 : Ref sig .tc := ⟨.hbm, 813, rfl⟩
abbrev main_v672 : Ref sig .tc := ⟨.hbm, 814, rfl⟩
abbrev main_v673 : Ref sig .tc := ⟨.hbm, 815, rfl⟩
abbrev main_cst_118 : Ref sig .tc := ⟨.hbm, 816, rfl⟩
abbrev main_v674 : Ref sig .tc := ⟨.hbm, 817, rfl⟩
abbrev main_v675 : Ref sig .tc := ⟨.hbm, 818, rfl⟩
abbrev main_v676 : Ref sig .tc := ⟨.hbm, 819, rfl⟩
abbrev main_v677 : Ref sig .tc := ⟨.hbm, 820, rfl⟩
abbrev main_v678 : Ref sig .tc := ⟨.hbm, 821, rfl⟩
abbrev main_cst_119 : Ref sig .tc := ⟨.hbm, 822, rfl⟩
abbrev main_v679 : Ref sig .tc := ⟨.hbm, 823, rfl⟩
abbrev main_v680 : Ref sig .tc := ⟨.hbm, 824, rfl⟩
abbrev main_cst_120 : Ref sig .tc := ⟨.hbm, 825, rfl⟩
abbrev main_v681 : Ref sig .tc := ⟨.hbm, 826, rfl⟩
abbrev main_v682 : Ref sig .tc := ⟨.hbm, 827, rfl⟩
abbrev main_v683 : Ref sig .tc := ⟨.hbm, 828, rfl⟩
abbrev main_v684 : Ref sig .tc := ⟨.hbm, 829, rfl⟩
abbrev main_v685 : Ref sig .tc := ⟨.hbm, 830, rfl⟩
abbrev main_v686 : Ref sig .tc := ⟨.hbm, 831, rfl⟩
abbrev main_v687 : Ref sig .tc := ⟨.hbm, 832, rfl⟩
abbrev main_cst_121 : Ref sig .tc := ⟨.hbm, 833, rfl⟩
abbrev main_v688 : Ref sig .tc := ⟨.hbm, 834, rfl⟩
abbrev main_v689 : Ref sig .tc := ⟨.hbm, 835, rfl⟩
abbrev main_cst_122 : Ref sig .tc := ⟨.hbm, 836, rfl⟩
abbrev main_v690 : Ref sig .tc := ⟨.hbm, 837, rfl⟩
abbrev main_v691 : Ref sig .tc := ⟨.hbm, 838, rfl⟩
abbrev main_v692 : Ref sig .tc := ⟨.hbm, 839, rfl⟩
abbrev main_v693 : Ref sig .tc := ⟨.hbm, 840, rfl⟩
abbrev main_v694 : Ref sig .tc := ⟨.hbm, 841, rfl⟩
abbrev main_v695 : Ref sig .tc := ⟨.hbm, 842, rfl⟩
abbrev main_v696 : Ref sig .tc := ⟨.hbm, 843, rfl⟩
abbrev main_v697 : Ref sig .tc := ⟨.hbm, 844, rfl⟩
abbrev main_v698 : Ref sig .tc := ⟨.hbm, 845, rfl⟩
abbrev main_v699 : Ref sig .tc := ⟨.hbm, 846, rfl⟩
abbrev main_v700 : Ref sig .tc := ⟨.hbm, 847, rfl⟩
abbrev main_v701 : Ref sig .tc := ⟨.hbm, 848, rfl⟩
abbrev main_v702 : Ref sig .tc := ⟨.hbm, 849, rfl⟩
abbrev main_v703 : Ref sig .tc := ⟨.hbm, 850, rfl⟩
abbrev main_v704 : Ref sig .tc := ⟨.hbm, 851, rfl⟩
abbrev main_v705 : Ref sig .tc := ⟨.hbm, 852, rfl⟩
abbrev main_v706 : Ref sig .tc := ⟨.hbm, 853, rfl⟩
abbrev main_v707 : Ref sig .tc := ⟨.hbm, 854, rfl⟩
abbrev main_cst_123 : Ref sig .tc := ⟨.hbm, 855, rfl⟩
abbrev main_v708 : Ref sig .tc := ⟨.hbm, 856, rfl⟩
abbrev main_cst_124 : Ref sig .tc := ⟨.hbm, 857, rfl⟩
abbrev main_v709 : Ref sig .tc := ⟨.hbm, 858, rfl⟩
abbrev main_v710 : Ref sig .tc := ⟨.hbm, 859, rfl⟩
abbrev main_v711 : Ref sig .tc := ⟨.hbm, 860, rfl⟩
abbrev main_v712 : Ref sig .tc := ⟨.hbm, 861, rfl⟩
abbrev main_cst_125 : Ref sig .tc := ⟨.hbm, 862, rfl⟩
abbrev main_v713 : Ref sig .tc := ⟨.hbm, 863, rfl⟩
abbrev main_c : Ref sig .tc := ⟨.hbm, 864, rfl⟩
abbrev main_v714_0 : Ref sig .tc := ⟨.hbm, 865, rfl⟩
abbrev main_v714_1 : Ref sig .tc := ⟨.hbm, 866, rfl⟩
abbrev main_v714_2 : Ref sig .tc := ⟨.hbm, 867, rfl⟩
abbrev main_v714_3 : Ref sig .tc := ⟨.hbm, 868, rfl⟩
abbrev main_v714_4 : Ref sig .tc := ⟨.hbm, 869, rfl⟩
abbrev main_v714_5 : Ref sig .tc := ⟨.hbm, 870, rfl⟩
abbrev main_v714_6 : Ref sig .tc := ⟨.hbm, 871, rfl⟩
abbrev main_v714_7 : Ref sig .tc := ⟨.hbm, 872, rfl⟩
abbrev main_v714_8 : Ref sig .tc := ⟨.hbm, 873, rfl⟩
abbrev main_v714_9 : Ref sig .tc := ⟨.hbm, 874, rfl⟩
abbrev main_v714_10 : Ref sig .tc := ⟨.hbm, 875, rfl⟩
abbrev main_v714_11 : Ref sig .tc := ⟨.hbm, 876, rfl⟩
abbrev main_v714_12 : Ref sig .tc := ⟨.hbm, 877, rfl⟩
abbrev main_v714_13 : Ref sig .tc := ⟨.hbm, 878, rfl⟩
abbrev main_v714_14 : Ref sig .tc := ⟨.hbm, 879, rfl⟩
abbrev main_v714_15 : Ref sig .tc := ⟨.hbm, 880, rfl⟩
abbrev main_v714_16 : Ref sig .tc := ⟨.hbm, 881, rfl⟩
abbrev main_v714_17 : Ref sig .tc := ⟨.hbm, 882, rfl⟩
abbrev main_v714_18 : Ref sig .tc := ⟨.hbm, 883, rfl⟩
abbrev main_v714_19 : Ref sig .tc := ⟨.hbm, 884, rfl⟩
abbrev main_v714_20 : Ref sig .tc := ⟨.hbm, 885, rfl⟩
abbrev main_v714_21 : Ref sig .tc := ⟨.hbm, 886, rfl⟩
abbrev main_v714_22 : Ref sig .tc := ⟨.hbm, 887, rfl⟩
abbrev main_while0c_c_148 : Ref sig .tc := ⟨.hbm, 888, rfl⟩
abbrev main_while0c_v715 : Ref sig .tc := ⟨.hbm, 889, rfl⟩
abbrev main_while0b_v715 : Ref sig .tc := ⟨.hbm, 890, rfl⟩
abbrev main_while0b_v716 : Ref sig .tc := ⟨.hbm, 891, rfl⟩
abbrev main_while0b_v717 : Ref sig .tc := ⟨.hbm, 892, rfl⟩
abbrev main_while0b_v718 : Ref sig .tc := ⟨.hbm, 893, rfl⟩
abbrev main_while0b_v719 : Ref sig .tc := ⟨.hbm, 894, rfl⟩
abbrev main_while0b_v720 : Ref sig .tc := ⟨.hbm, 895, rfl⟩
abbrev main_while0b_v721 : Ref sig .tc := ⟨.hbm, 896, rfl⟩
abbrev main_while0b_v722 : Ref sig .tc := ⟨.hbm, 897, rfl⟩
abbrev main_while0b_v723 : Ref sig .tc := ⟨.hbm, 898, rfl⟩
abbrev main_while0b_v724 : Ref sig .tc := ⟨.hbm, 899, rfl⟩
abbrev main_while0b_v725 : Ref sig .tc := ⟨.hbm, 900, rfl⟩
abbrev main_while0b_call2_cst : Ref sig .tc := ⟨.hbm, 901, rfl⟩
abbrev main_while0b_call2_v0 : Ref sig .tc := ⟨.hbm, 902, rfl⟩
abbrev main_while0b_v726 : Ref sig .tc := ⟨.hbm, 903, rfl⟩
abbrev main_while0b_v727 : Ref sig .tc := ⟨.hbm, 904, rfl⟩
abbrev main_while0b_cst_148 : Ref sig .tc := ⟨.hbm, 905, rfl⟩
abbrev main_while0b_v728 : Ref sig .tc := ⟨.hbm, 906, rfl⟩
abbrev main_while0b_cst_149 : Ref sig .tc := ⟨.hbm, 907, rfl⟩
abbrev main_while0b_v729 : Ref sig .tc := ⟨.hbm, 908, rfl⟩
abbrev main_while0b_v730 : Ref sig .tc := ⟨.hbm, 909, rfl⟩
abbrev main_while0b_v731 : Ref sig .tc := ⟨.hbm, 910, rfl⟩
abbrev main_while0b_v732 : Ref sig .tc := ⟨.hbm, 911, rfl⟩
abbrev main_while0b_v733 : Ref sig .tc := ⟨.hbm, 912, rfl⟩
abbrev main_while0b_v734 : Ref sig .tc := ⟨.hbm, 913, rfl⟩
abbrev main_while0b_cst_150 : Ref sig .tc := ⟨.hbm, 914, rfl⟩
abbrev main_while0b_v735 : Ref sig .tc := ⟨.hbm, 915, rfl⟩
abbrev main_while0b_v736 : Ref sig .tc := ⟨.hbm, 916, rfl⟩
abbrev main_while0b_v737 : Ref sig .tc := ⟨.hbm, 917, rfl⟩
abbrev main_while0b_v738 : Ref sig .tc := ⟨.hbm, 918, rfl⟩
abbrev main_while0b_v739 : Ref sig .tc := ⟨.hbm, 919, rfl⟩
abbrev main_while0b_v740 : Ref sig .tc := ⟨.hbm, 920, rfl⟩
abbrev main_while0b_v741 : Ref sig .tc := ⟨.hbm, 921, rfl⟩
abbrev main_while0b_cst_151 : Ref sig .tc := ⟨.hbm, 922, rfl⟩
abbrev main_while0b_v742 : Ref sig .tc := ⟨.hbm, 923, rfl⟩
abbrev main_while0b_cst_152 : Ref sig .tc := ⟨.hbm, 924, rfl⟩
abbrev main_while0b_v743 : Ref sig .tc := ⟨.hbm, 925, rfl⟩
abbrev main_while0b_v744 : Ref sig .tc := ⟨.hbm, 926, rfl⟩
abbrev main_while0b_v745 : Ref sig .tc := ⟨.hbm, 927, rfl⟩
abbrev main_while0b_v746 : Ref sig .tc := ⟨.hbm, 928, rfl⟩
abbrev main_while0b_v747 : Ref sig .tc := ⟨.hbm, 929, rfl⟩
abbrev main_while0b_v748 : Ref sig .tc := ⟨.hbm, 930, rfl⟩
abbrev main_while0b_cst_153 : Ref sig .tc := ⟨.hbm, 931, rfl⟩
abbrev main_while0b_v749 : Ref sig .tc := ⟨.hbm, 932, rfl⟩
abbrev main_while0b_v750 : Ref sig .tc := ⟨.hbm, 933, rfl⟩
abbrev main_while0b_v751 : Ref sig .tc := ⟨.hbm, 934, rfl⟩
abbrev main_while0b_v752 : Ref sig .tc := ⟨.hbm, 935, rfl⟩
abbrev main_while0b_v753 : Ref sig .tc := ⟨.hbm, 936, rfl⟩
abbrev main_while0b_v754 : Ref sig .tc := ⟨.hbm, 937, rfl⟩
abbrev main_while0b_v755 : Ref sig .tc := ⟨.hbm, 938, rfl⟩
abbrev main_while0b_v756 : Ref sig .tc := ⟨.hbm, 939, rfl⟩
abbrev main_while0b_v757 : Ref sig .tc := ⟨.hbm, 940, rfl⟩
abbrev main_while0b_v758 : Ref sig .tc := ⟨.hbm, 941, rfl⟩
abbrev main_while0b_v759 : Ref sig .tc := ⟨.hbm, 942, rfl⟩
abbrev main_while0b_v760 : Ref sig .tc := ⟨.hbm, 943, rfl⟩
abbrev main_while0b_v761 : Ref sig .tc := ⟨.hbm, 944, rfl⟩
abbrev main_while0b_v762 : Ref sig .tc := ⟨.hbm, 945, rfl⟩
abbrev main_while0b_v763 : Ref sig .tc := ⟨.hbm, 946, rfl⟩
abbrev main_while0b_v764 : Ref sig .tc := ⟨.hbm, 947, rfl⟩
abbrev main_while0b_v765 : Ref sig .tc := ⟨.hbm, 948, rfl⟩
abbrev main_while0b_cst_154 : Ref sig .tc := ⟨.hbm, 949, rfl⟩
abbrev main_while0b_v766 : Ref sig .tc := ⟨.hbm, 950, rfl⟩
abbrev main_while0b_cst_155 : Ref sig .tc := ⟨.hbm, 951, rfl⟩
abbrev main_while0b_v767 : Ref sig .tc := ⟨.hbm, 952, rfl⟩
abbrev main_while0b_v768 : Ref sig .tc := ⟨.hbm, 953, rfl⟩
abbrev main_while0b_v769 : Ref sig .tc := ⟨.hbm, 954, rfl⟩
abbrev main_while0b_v770 : Ref sig .tc := ⟨.hbm, 955, rfl⟩
abbrev main_while0b_v771 : Ref sig .tc := ⟨.hbm, 956, rfl⟩
abbrev main_while0b_v772 : Ref sig .tc := ⟨.hbm, 957, rfl⟩
abbrev main_while0b_v773 : Ref sig .tc := ⟨.hbm, 958, rfl⟩
abbrev main_while0b_cst_156 : Ref sig .tc := ⟨.hbm, 959, rfl⟩
abbrev main_while0b_v774 : Ref sig .tc := ⟨.hbm, 960, rfl⟩
abbrev main_while0b_v775 : Ref sig .tc := ⟨.hbm, 961, rfl⟩
abbrev main_while0b_v776 : Ref sig .tc := ⟨.hbm, 962, rfl⟩
abbrev main_while0b_v777 : Ref sig .tc := ⟨.hbm, 963, rfl⟩
abbrev main_while0b_v778 : Ref sig .tc := ⟨.hbm, 964, rfl⟩
abbrev main_while0b_v779 : Ref sig .tc := ⟨.hbm, 965, rfl⟩
abbrev main_while0b_cst_157 : Ref sig .tc := ⟨.hbm, 966, rfl⟩
abbrev main_while0b_call5_v0 : Ref sig .tc := ⟨.hbm, 967, rfl⟩
abbrev main_while0b_call5_v1 : Ref sig .tc := ⟨.hbm, 968, rfl⟩
abbrev main_while0b_call5_v2 : Ref sig .tc := ⟨.hbm, 969, rfl⟩
abbrev main_while0b_v780 : Ref sig .tc := ⟨.hbm, 970, rfl⟩
abbrev main_while0b_cst_158 : Ref sig .tc := ⟨.hbm, 971, rfl⟩
abbrev main_while0b_v781 : Ref sig .tc := ⟨.hbm, 972, rfl⟩
abbrev main_while0b_v782 : Ref sig .tc := ⟨.hbm, 973, rfl⟩
abbrev main_while0b_v783 : Ref sig .tc := ⟨.hbm, 974, rfl⟩
abbrev main_while0b_v784 : Ref sig .tc := ⟨.hbm, 975, rfl⟩
abbrev main_while0b_v785 : Ref sig .tc := ⟨.hbm, 976, rfl⟩
abbrev main_while0b_cst_159 : Ref sig .tc := ⟨.hbm, 977, rfl⟩
abbrev main_while0b_v786 : Ref sig .tc := ⟨.hbm, 978, rfl⟩
abbrev main_while0b_v787 : Ref sig .tc := ⟨.hbm, 979, rfl⟩
abbrev main_while0b_v788 : Ref sig .tc := ⟨.hbm, 980, rfl⟩
abbrev main_while0b_v789 : Ref sig .tc := ⟨.hbm, 981, rfl⟩
abbrev main_while0b_v790 : Ref sig .tc := ⟨.hbm, 982, rfl⟩
abbrev main_while0b_v791 : Ref sig .tc := ⟨.hbm, 983, rfl⟩
abbrev main_while0b_cst_160 : Ref sig .tc := ⟨.hbm, 984, rfl⟩
abbrev main_while0b_v792 : Ref sig .tc := ⟨.hbm, 985, rfl⟩
abbrev main_while0b_v793 : Ref sig .tc := ⟨.hbm, 986, rfl⟩
abbrev main_while0b_v794 : Ref sig .tc := ⟨.hbm, 987, rfl⟩
abbrev main_while0b_v795 : Ref sig .tc := ⟨.hbm, 988, rfl⟩
abbrev main_while0b_v796 : Ref sig .tc := ⟨.hbm, 989, rfl⟩
abbrev main_while0b_v797 : Ref sig .tc := ⟨.hbm, 990, rfl⟩
abbrev main_while0b_v798 : Ref sig .tc := ⟨.hbm, 991, rfl⟩
abbrev main_while0b_v799 : Ref sig .tc := ⟨.hbm, 992, rfl⟩
abbrev main_while0b_v800 : Ref sig .tc := ⟨.hbm, 993, rfl⟩
abbrev main_while0b_v801 : Ref sig .tc := ⟨.hbm, 994, rfl⟩
abbrev main_while0b_cst_161 : Ref sig .tc := ⟨.hbm, 995, rfl⟩
abbrev main_while0b_call6_v0 : Ref sig .tc := ⟨.hbm, 996, rfl⟩
abbrev main_while0b_call6_v1 : Ref sig .tc := ⟨.hbm, 997, rfl⟩
abbrev main_while0b_call6_v2 : Ref sig .tc := ⟨.hbm, 998, rfl⟩
abbrev main_while0b_v802 : Ref sig .tc := ⟨.hbm, 999, rfl⟩
abbrev main_while0b_cst_162 : Ref sig .tc := ⟨.hbm, 1000, rfl⟩
abbrev main_while0b_v803 : Ref sig .tc := ⟨.hbm, 1001, rfl⟩
abbrev main_while0b_v804 : Ref sig .tc := ⟨.hbm, 1002, rfl⟩
abbrev main_while0b_v805 : Ref sig .tc := ⟨.hbm, 1003, rfl⟩
abbrev main_while0b_v806 : Ref sig .tc := ⟨.hbm, 1004, rfl⟩
abbrev main_while0b_v807 : Ref sig .tc := ⟨.hbm, 1005, rfl⟩
abbrev main_while0b_cst_163 : Ref sig .tc := ⟨.hbm, 1006, rfl⟩
abbrev main_while0b_v808 : Ref sig .tc := ⟨.hbm, 1007, rfl⟩
abbrev main_while0b_v809 : Ref sig .tc := ⟨.hbm, 1008, rfl⟩
abbrev main_while0b_v810 : Ref sig .tc := ⟨.hbm, 1009, rfl⟩
abbrev main_while0b_v811 : Ref sig .tc := ⟨.hbm, 1010, rfl⟩
abbrev main_while0b_v812 : Ref sig .tc := ⟨.hbm, 1011, rfl⟩
abbrev main_while0b_v813 : Ref sig .tc := ⟨.hbm, 1012, rfl⟩
abbrev main_while0b_v814 : Ref sig .tc := ⟨.hbm, 1013, rfl⟩
abbrev main_while0b_v815 : Ref sig .tc := ⟨.hbm, 1014, rfl⟩
abbrev main_while0b_v816 : Ref sig .tc := ⟨.hbm, 1015, rfl⟩
abbrev main_while0b_cst_164 : Ref sig .tc := ⟨.hbm, 1016, rfl⟩
abbrev main_while0b_v817 : Ref sig .tc := ⟨.hbm, 1017, rfl⟩
abbrev main_while0b_v818 : Ref sig .tc := ⟨.hbm, 1018, rfl⟩
abbrev main_while0b_v819 : Ref sig .tc := ⟨.hbm, 1019, rfl⟩
abbrev main_while0b_v820 : Ref sig .tc := ⟨.hbm, 1020, rfl⟩
abbrev main_while0b_cst_165 : Ref sig .tc := ⟨.hbm, 1021, rfl⟩
abbrev main_while0b_v821 : Ref sig .tc := ⟨.hbm, 1022, rfl⟩
abbrev main_while0b_v822 : Ref sig .tc := ⟨.hbm, 1023, rfl⟩
abbrev main_while0b_v823 : Ref sig .tc := ⟨.hbm, 1024, rfl⟩
abbrev main_while0b_v824 : Ref sig .tc := ⟨.hbm, 1025, rfl⟩
abbrev main_while0b_v825 : Ref sig .tc := ⟨.hbm, 1026, rfl⟩
abbrev main_while0b_v826 : Ref sig .tc := ⟨.hbm, 1027, rfl⟩
abbrev main_while0b_v827 : Ref sig .tc := ⟨.hbm, 1028, rfl⟩
abbrev main_while0b_cst_166 : Ref sig .tc := ⟨.hbm, 1029, rfl⟩
abbrev main_while0b_v828 : Ref sig .tc := ⟨.hbm, 1030, rfl⟩
abbrev main_while0b_v829 : Ref sig .tc := ⟨.hbm, 1031, rfl⟩
abbrev main_while0b_v830 : Ref sig .tc := ⟨.hbm, 1032, rfl⟩
abbrev main_while0b_v831 : Ref sig .tc := ⟨.hbm, 1033, rfl⟩
abbrev main_while0b_v832 : Ref sig .tc := ⟨.hbm, 1034, rfl⟩
abbrev main_while0b_v835 : Ref sig .tc := ⟨.hbm, 1035, rfl⟩
abbrev main_while0b_v836 : Ref sig .tc := ⟨.hbm, 1036, rfl⟩
abbrev main_while0b_v837 : Ref sig .tc := ⟨.hbm, 1037, rfl⟩
abbrev main_while0b_v838 : Ref sig .tc := ⟨.hbm, 1038, rfl⟩
abbrev main_while0b_v839 : Ref sig .tc := ⟨.hbm, 1039, rfl⟩
abbrev main_while0b_v840 : Ref sig .tc := ⟨.hbm, 1040, rfl⟩
abbrev main_while0b_c_167 : Ref sig .tc := ⟨.hbm, 1041, rfl⟩
abbrev main_while0b_v841 : Ref sig .tc := ⟨.hbm, 1042, rfl⟩

abbrev nD : Nat := 1
abbrev τ : Topo := Topo.v7x

variable {F : FTy → Type} [FloatOps F]

abbrev main_while0_count : Scf.Loop 32 := ⟨0#32, 8#32, 1#32⟩
-- ==== Proof.Maths.lean ====
module

public import Idealize.ShloMosaic.Lib.Pipeline.ValueKit
public import Idealize.ShloMosaic.Lib.Pointwise

@[expose] public section

noncomputable section

open Idealize.ShloMosaic

/-! Facts on extended reals that both programs' values need, and the functions that the two share. -/

namespace Cert.Maths

/-- The exponential linear unit as the kernel spells it. -/
def elu (x : EReal) : EReal := if 0 < x then x else Ideal.exp (min x 0) - 1

theorem elu_expm1 (x : EReal) : elu x = if 0 < x then x else Ideal.exp x - 1 := by
  unfold elu
  split
  · rfl
  · rename_i h
    rw [min_eq_left (not_lt.mp h)]

/-- Being a real number. -/
def IsReal (x : EReal) : Prop := ∃ r : ℝ, (r : EReal) = x

theorem isReal_coe (r : ℝ) : IsReal (r : EReal) := ⟨r, rfl⟩
theorem isReal_zero : IsReal 0 := ⟨0, by simp⟩
theorem isReal_one : IsReal 1 := ⟨1, by simp⟩

theorem isReal_of_lt {x : EReal} (h : max x (-x) < ⊤) : IsReal x := by
  induction x using EReal.rec with
  | bot => simp at h
  | top => simp at h
  | coe r => exact ⟨r, rfl⟩

variable {x y : EReal}

theorem IsReal.add (hx : IsReal x) (hy : IsReal y) : IsReal (x + y) := by
  obtain ⟨a, rfl⟩ := hx; obtain ⟨b, rfl⟩ := hy; exact ⟨a + b, by push_cast; rfl⟩

theorem IsReal.sub (hx : IsReal x) (hy : IsReal y) : IsReal (x - y) := by
  obtain ⟨a, rfl⟩ := hx; obtain ⟨b, rfl⟩ := hy; exact ⟨a - b, by push_cast; rfl⟩

theorem IsReal.mul (hx : IsReal x) (hy : IsReal y) : IsReal (x * y) := by
  obtain ⟨a, rfl⟩ := hx; obtain ⟨b, rfl⟩ := hy; exact ⟨a * b, by push_cast; rfl⟩

theorem isReal_sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

theorem isReal_exp (hx : IsReal x) : IsReal (Ideal.exp x) := by
  obtain ⟨a, rfl⟩ := hx; exact ⟨Real.exp a, rfl⟩

theorem exp_pos_of (hx : IsReal x) : 0 < Ideal.exp x := by
  obtain ⟨a, rfl⟩ := hx
  exact EReal.coe_pos.mpr (Real.exp_pos a)

theorem isReal_div (hx : IsReal x) (hy : y ≠ 0) : IsReal (Ideal.div x y) := by
  obtain ⟨a, rfl⟩ := hx
  unfold Ideal.div
  rw [if_neg hy]
  induction y using EReal.rec with
  | bot => simpa using isReal_zero
  | top => simpa using isReal_zero
  | coe r => exact ⟨a * r⁻¹, by push_cast; rfl⟩

theorem isReal_max (hx : IsReal x) (hy : IsReal y) : IsReal (max x y) := by
  rcases max_choice x y with h | h <;> rw [h] <;> assumption

theorem isReal_elu (hx : IsReal x) : IsReal (elu x) := by
  rw [elu_expm1]
  split
  · exact hx
  · exact (isReal_exp hx).sub isReal_one

/-- A real factor goes into a sum of reals. -/
theorem mul_sum_real {ι : Type} (s : Finset ι) {c : EReal} (hc : IsReal c) (f : ι → EReal) (hf : ∀ i ∈ s, IsReal (f i)) :
    c * ∑ i ∈ s, f i = ∑ i ∈ s, c * f i := by
  classical
  induction s using Finset.induction_on with
  | empty => simp
  | insert a s ha ih =>
    rw [Finset.sum_insert ha, Finset.sum_insert ha, ← ih fun i hi => hf i (Finset.mem_insert_of_mem hi)]
    obtain ⟨r, hr⟩ := hf a (Finset.mem_insert_self a s)
    obtain ⟨t, ht⟩ := isReal_sum s f fun i hi => hf i (Finset.mem_insert_of_mem hi)
    obtain ⟨k, rfl⟩ := hc
    rw [← hr, ← ht, ← EReal.coe_add, ← EReal.coe_mul, ← EReal.coe_mul, ← EReal.coe_mul, ← EReal.coe_add, mul_add]

theorem sum_mul_real {ι : Type} (s : Finset ι) {c : EReal} (hc : IsReal c) (f : ι → EReal) (hf : ∀ i ∈ s, IsReal (f i)) :
    (∑ i ∈ s, f i) * c = ∑ i ∈ s, f i * c := by
  rw [mul_comm, mul_sum_real s hc f hf]
  exact Finset.sum_congr rfl fun i _ => mul_comm _ _

/-- The largest of some numbers. -/
def top {ι : Type} [Fintype ι] (x : ι → EReal) : EReal := Finset.univ.fold max ⊥ x

theorem le_top_of {ι : Type} [Fintype ι] (x : ι → EReal) (i : ι) : x i ≤ top x :=
  Finset.le_fold_max _ |>.mpr (Or.inr ⟨i, Finset.mem_univ i, le_rfl⟩)

theorem isReal_top {ι : Type} [Fintype ι] [Nonempty ι] (x : ι → EReal) (hx : ∀ i, IsReal (x i)) : IsReal (top x) := by
  classical
  have key : ∀ s : Finset ι, s.Nonempty → IsReal (s.fold max ⊥ x) := fun s hs => by
    induction s using Finset.induction_on with
    | empty => exact absurd hs (by simp)
    | insert a s ha ih =>
      rw [Finset.fold_insert ha]
      rcases s.eq_empty_or_nonempty with rfl | h
      · simpa using hx a
      · exact isReal_max (hx a) (ih h)
  exact key _ Finset.univ_nonempty

/-- The exponentials of the distances from the largest, divided by their sum. -/
def softmax {ι : Type} [Fintype ι] (x : ι → EReal) (i : ι) : EReal :=
  Ideal.div (Ideal.exp (x i - top x)) (∑ k, Ideal.exp (x k - top x))

theorem isReal_softmax {ι : Type} [Fintype ι] [Nonempty ι] (x : ι → EReal) (hx : ∀ i, IsReal (x i)) (i : ι) : IsReal (softmax x i) := by
  have hd : ∀ k, IsReal (x k - top x) := fun k => (hx k).sub (isReal_top x hx)
  refine isReal_div (isReal_exp (hd i)) (ne_of_gt ?_)
  exact lt_of_lt_of_le (exp_pos_of (hd i)) (Finset.single_le_sum (f := fun k => Ideal.exp (x k - top x)) (fun k _ => (exp_pos_of (hd k)).le) (Finset.mem_univ i))

/-- A sum against an indicator is the term it picks. -/
theorem sum_pick {ι : Type} [Fintype ι] [DecidableEq ι] (x : ι → EReal) (k : ι) (h : ι → EReal) (hk : h k = 1) (hn : ∀ i, i ≠ k → h i = 0) :
    ∑ i, x i * h i = x k := by
  rw [Finset.sum_eq_single k (fun i _ hi => by rw [hn i hi, mul_zero]) (fun hh => absurd (Finset.mem_univ k) hh), hk, mul_one]

/-- One edge step: at each node the sum, over the edges that end there, of the edge's weight times `x` at its source. -/
def carry {E N : Type} [Fintype E] [DecidableEq N] (src dst : E → N) (w : E → EReal) (x : N → EReal) (n : N) : EReal :=
  ∑ e, if dst e = n then w e * x (src e) else 0

/-- One reasoning step on the distribution `x` over a graph's nodes. -/
def trip {E N : Type} [Fintype E] [Fintype N] [DecidableEq N] (src dst : E → N) (w : E → EReal) (q : N → EReal) (r : EReal) (x : N → EReal) (n : N) : EReal :=
  r * softmax (carry src dst w x) n + (1 - r) * softmax q n

/-- The distribution after `j` of the eight steps. -/
def walk {E N : Type} [Fintype E] [Fintype N] [DecidableEq N] (src dst : E → N) (w : Fin 8 → E → EReal) (q : Fin 8 → N → EReal) (r : Fin 8 → EReal) (x : N → EReal) : ℕ → N → EReal
  | 0 => x
  | j + 1 => trip src dst (w (Fin.ofNat 8 j)) (q (Fin.ofNat 8 j)) (r (Fin.ofNat 8 j)) (walk src dst w q r x j)

theorem isReal_carry {E N : Type} [Fintype E] [DecidableEq N] (src dst : E → N) (w : E → EReal) (x : N → EReal) (hw : ∀ e, IsReal (w e)) (hx : ∀ n, IsReal (x n)) (n : N) :
    IsReal (carry src dst w x n) := by
  refine isReal_sum _ _ fun e _ => ?_
  split
  · exact (hw e).mul (hx _)
  · exact isReal_zero

theorem isReal_walk {E N : Type} [Fintype E] [Fintype N] [DecidableEq N] [Nonempty N] (src dst : E → N) (w : Fin 8 → E → EReal) (q : Fin 8 → N → EReal) (r : Fin 8 → EReal) (x : N → EReal)
    (hw : ∀ j e, IsReal (w j e)) (hq : ∀ j n, IsReal (q j n)) (hr : ∀ j, IsReal (r j)) (hx : ∀ n, IsReal (x n)) (j : ℕ) (n : N) : IsReal (walk src dst w q r x j n) := by
  induction j generalizing n with
  | zero => exact hx n
  | succ j ih =>
    exact ((hr _).mul (isReal_softmax _ (isReal_carry src dst _ _ (hw _) ih) n)).add ((isReal_one.sub (hr _)).mul (isReal_softmax _ (hq _) n))

end Cert.Maths

end
-- ==== Proof.Question.lean ====
module

public import proofs.«01_k».proof.Proof.Maths

@[expose] public section

set_option maxRecDepth 16384

noncomputable section

open Idealize.ShloMosaic Idealize.ShloMosaic.TcCoe Idealize.SL.Sem
open Idealize.ShloMosaic.Pipeline (Dat)

/-! The question read by the tagger, the encoder and the decoder, as functions of the arguments. -/

namespace Cert.Maths

/-- The arguments that the question is read with. -/
structure Question where
  tok : Fin 50 → Fin 20 → Fin 128 → EReal
  voc : Fin 1000 → Fin 128 → EReal
  pe : Fin 9 → Fin 128 → EReal
  td : Fin 128 → EReal
  tw : Fin 128 → Fin 128 → EReal
  wih : Fin 512 → Fin 128 → EReal
  whh : Fin 512 → Fin 128 → EReal
  bih : Fin 512 → EReal
  bhh : Fin 512 → EReal
  dih : Fin 128 → Fin 128 → EReal
  dhh : Fin 128 → Fin 128 → EReal
  dbi : Fin 128 → EReal
  dbh : Fin 128 → EReal

/-- The arguments given as arrays. -/
def Question.of (a6 : FVec Ideal (⟨3, ![50, 20, 128]⟩ : Shape) .f32) (a7 : FVec Ideal (⟨2, ![1000, 128]⟩ : Shape) .f32) (a8 : FVec Ideal (⟨2, ![9, 128]⟩ : Shape) .f32)
    (a9 : FVec Ideal (⟨1, ![128]⟩ : Shape) .f32) (a10 : FVec Ideal (⟨2, ![128, 128]⟩ : Shape) .f32) (a11 a12 : FVec Ideal (⟨2, ![512, 128]⟩ : Shape) .f32)
    (a13 a14 : FVec Ideal (⟨1, ![512]⟩ : Shape) .f32) (a15 a16 : FVec Ideal (⟨2, ![128, 128]⟩ : Shape) .f32) (a17 a18 : FVec Ideal (⟨1, ![128]⟩ : Shape) .f32) : Question where
  tok g l d := a6 (ix3 g l d)
  voc v d := a7 (ix2 v d)
  pe p d := a8 (ix2 p d)
  td d := a9 (ix1 d)
  tw d k := a10 (ix2 d k)
  wih k d := a11 (ix2 k d)
  whh k d := a12 (ix2 k d)
  bih k := a13 (ix1 k)
  bhh k := a14 (ix1 k)
  dih k d := a15 (ix2 k d)
  dhh k d := a16 (ix2 k d)
  dbi k := a17 (ix1 k)
  dbh k := a18 (ix1 k)

/-- The softmax over a list whose last entry stands apart. -/
def apart {n : ℕ} (x : Fin n → EReal) (y : EReal) : Fin (n + 1) → EReal := Fin.snoc x y

theorem top_apart {n : ℕ} (x : Fin (n + 1) → EReal) : top x = max (top fun i : Fin n => x i.castSucc) (x (Fin.last n)) := by
  apply le_antisymm
  · unfold top
    rw [Finset.fold_max_le]
    refine ⟨bot_le, fun i _ => ?_⟩
    induction i using Fin.lastCases with
    | last => exact le_max_right _ _
    | cast i => exact le_max_of_le_left (le_top_of (fun i : Fin n => x i.castSucc) i)
  · refine max_le ?_ (le_top_of x _)
    unfold top
    rw [Finset.fold_max_le]
    exact ⟨bot_le, fun i _ => le_top_of x i.castSucc⟩

/-- One gate's argument: the input row's product with `w`, its bias, the hidden row's product with `u`, its bias. -/
def gate (w u : Fin 128 → EReal) (b c : EReal) (x h : Fin 128 → EReal) : EReal := (∑ d, x d * w d) + b + (∑ d, h d * u d) + c

namespace Question

variable (Q : Question)

/-- A token's distance to a word of the vocabulary, or to the default word at the end. -/
def near (g : Fin 50) (l : Fin 20) (v : Fin 1001) : EReal :=
  ∑ k : Fin 128, (∑ j : Fin 128, Q.tok g l j * Q.tw j k) * (apart (fun v => Q.voc v k) (Q.td k) v)

/-- The token itself and the vocabulary, weighted. -/
def tag (g : Fin 50) (l : Fin 20) (d : Fin 128) : EReal :=
  softmax (Q.near g l) (Fin.last 1000) * Q.tok g l d + ∑ v : Fin 1000, softmax (Q.near g l) v.castSucc * Q.voc v d

/-- The gates of the encoder at a token. -/
def gates (g : Fin 50) (l : Fin 20) (h : Fin 128 → EReal) (k : Fin 512) : EReal := gate (Q.wih k) (Q.whh k) (Q.bih k) (Q.bhh k) (Q.tag g l) h

/-- The cell after `t` tokens, and what it shows. -/
def cell (g : Fin 50) : ℕ → (Fin 128 → EReal) × (Fin 128 → EReal)
  | 0 => (fun _ => 0, fun _ => 0)
  | t + 1 =>
    let s := cell g t
    let a := Q.gates g (Fin.ofNat 20 t) s.2
    let c := fun d : Fin 128 => Ideal.logistic (a ⟨128 + d.val, by omega⟩) * s.1 d + Ideal.logistic (a ⟨d.val, by omega⟩) * Ideal.tanh (a ⟨256 + d.val, by omega⟩)
    (c, fun d : Fin 128 => Ideal.logistic (a ⟨384 + d.val, by omega⟩) * Ideal.tanh (c d))

/-- The encoded question. -/
def enc (g : Fin 50) : Fin 128 → EReal := (Q.cell g 20).2

/-- The decoder's row after `j` steps. -/
def row (g : Fin 50) : ℕ → Fin 128 → EReal
  | 0 => fun _ => 0
  | j + 1 => fun d => max (gate (Q.dih d) (Q.dhh d) (Q.dbi d) (Q.dbh d) (Q.enc g) (row g j)) 0

/-- A step's instruction: the tagged tokens weighted by their products with the decoder's row. -/
def ins (g : Fin 50) (t : Fin 8) (d : Fin 128) : EReal :=
  ∑ l : Fin 20, softmax (fun l => ∑ k : Fin 128, Q.row g (t.val + 1) k * Q.tag g l k) l * Q.tag g l d

/-- The instruction's similarities to the properties. -/
def foo (g : Fin 50) (t : Fin 8) (p : Fin 9) : EReal := softmax (fun p => ∑ d : Fin 128, Q.ins g t d * Q.pe p d) p

/-- What is known of the arguments. -/
structure Good : Prop where
  tok : ∀ g l d, IsReal (Q.tok g l d)
  voc : ∀ v d, IsReal (Q.voc v d)
  pe : ∀ p d, IsReal (Q.pe p d)
  td : ∀ d, IsReal (Q.td d)
  tw : ∀ d k, IsReal (Q.tw d k)
  dih : ∀ k d, IsReal (Q.dih k d)
  dhh : ∀ k d, IsReal (Q.dhh k d)
  dbi : ∀ k, IsReal (Q.dbi k)
  dbh : ∀ k, IsReal (Q.dbh k)

theorem exp_nonneg_of (x : EReal) : 0 ≤ Ideal.exp x := by
  induction x using EReal.rec with
  | bot => exact le_refl (0 : EReal)
  | top => exact (le_top : (0 : EReal) ≤ ⊤)
  | coe r => exact (exp_pos_of (isReal_coe r)).le

theorem isReal_logistic (x : EReal) : IsReal (Ideal.logistic x) := by
  refine isReal_div isReal_one (ne_of_gt ?_)
  have h := add_le_add (le_refl (1 : EReal)) (exp_nonneg_of (-x))
  rw [add_zero] at h
  exact lt_of_lt_of_le zero_lt_one h

theorem isReal_tanh (x : EReal) : IsReal (Ideal.tanh x) := by
  induction x using EReal.rec with
  | bot => exact ⟨-1, show ((-1 : ℝ) : EReal) = -1 by norm_num⟩
  | top => exact isReal_one
  | coe r => exact ⟨Real.tanh r, rfl⟩

theorem isReal_cell (g : Fin 50) (t : ℕ) : (∀ d, IsReal ((Q.cell g t).1 d)) ∧ ∀ d, IsReal ((Q.cell g t).2 d) := by
  induction t with
  | zero => exact ⟨fun _ => isReal_zero, fun _ => isReal_zero⟩
  | succ t ih =>
    exact ⟨fun d => ((isReal_logistic _).mul (ih.1 d)).add ((isReal_logistic _).mul (isReal_tanh _)), fun d => (isReal_logistic _).mul (isReal_tanh _)⟩

variable {Q} (h : Q.Good)
include h

theorem Good.near (g : Fin 50) (l : Fin 20) (v : Fin 1001) : IsReal (Q.near g l v) := by
  refine isReal_sum _ _ fun k _ => (isReal_sum _ _ fun j _ => (h.tok g l j).mul (h.tw j k)).mul ?_
  unfold apart
  induction v using Fin.lastCases with
  | last => rw [Fin.snoc_last]; exact h.td k
  | cast v => rw [Fin.snoc_castSucc]; exact h.voc v k

theorem Good.tag (g : Fin 50) (l : Fin 20) (d : Fin 128) : IsReal (Q.tag g l d) :=
  ((isReal_softmax _ (h.near g l) _).mul (h.tok g l d)).add (isReal_sum _ _ fun v _ => (isReal_softmax _ (h.near g l) _).mul (h.voc v d))

theorem Good.row (g : Fin 50) (j : ℕ) (d : Fin 128) : IsReal (Q.row g j d) := by
  induction j generalizing d with
  | zero => exact isReal_zero
  | succ j ih =>
    exact isReal_max ((((isReal_sum _ _ fun k _ => ((Q.isReal_cell g 20).2 k).mul (h.dih d k)).add (h.dbi d)).add (isReal_sum _ _ fun k _ => (ih k).mul (h.dhh d k))).add (h.dbh d)) isReal_zero

theorem Good.ins (g : Fin 50) (t : Fin 8) (d : Fin 128) : IsReal (Q.ins g t d) :=
  isReal_sum _ _ fun l _ => (isReal_softmax _ (fun l => isReal_sum _ _ fun k _ => (h.row g _ k).mul (h.tag g l k)) l).mul (h.tag g l d)

theorem Good.foo (g : Fin 50) (t : Fin 8) (p : Fin 9) : IsReal (Q.foo g t p) :=
  isReal_softmax _ (fun p => isReal_sum _ _ fun d _ => (h.ins g t d).mul (h.pe p d)) p

end Question

end Cert.Maths

end
-- ==== Proof.Spec.lean ====
module

public import proofs.«01_k».proof.Proof.Question

@[expose] public section

set_option maxRecDepth 16384

noncomputable section

open Idealize.ShloMosaic Idealize.ShloMosaic.TcCoe Idealize.SL.Sem
open Idealize.ShloMosaic.Pipeline (Dat)

/-! The result as one function of the arguments, which both programs are shown to compute. -/

namespace Cert.Maths

/-- The arguments read at their indices, with the encoded question, its instructions and their similarities to the properties. -/
structure Graphs where
  na : Fin 10000 → Fin 8 → Fin 128 → EReal
  ea : Fin 320000 → Fin 128 → EReal
  ei : Fin 2 → Fin 320000 → BitVec 32
  ni : Fin 10000 → BitVec 32
  bi : Fin 320000 → BitVec 32
  npg : Fin 50 → EReal
  enc : Fin 50 → Fin 128 → EReal
  ins : Fin 50 → Fin 8 → Fin 128 → EReal
  foo : Fin 50 → Fin 8 → Fin 9 → EReal
  wnp : Fin 8 → Fin 128 → Fin 128 → EReal
  we : Fin 128 → Fin 128 → EReal
  wnode : Fin 128 → EReal
  wrel : Fin 128 → EReal
  lw : Fin 2000 → Fin 256 → EReal
  lb : Fin 2000 → EReal

/-- The arguments given as arrays, and the question read. -/
def Graphs.of (Q : Question) (a0 : FVec Ideal (⟨3, ![10000, 8, 128]⟩ : Shape) .f32) (a1 : FVec Ideal (⟨2, ![320000, 128]⟩ : Shape) .f32) (a2 : IVec (⟨2, ![2, 320000]⟩ : Shape) 32)
    (a3 : IVec (⟨1, ![10000]⟩ : Shape) 32) (a4 : IVec (⟨1, ![320000]⟩ : Shape) 32) (a5 : FVec Ideal (⟨1, ![50]⟩ : Shape) .f32)
    (a19 : FVec Ideal (⟨3, ![8, 128, 128]⟩ : Shape) .f32) (a20 : FVec Ideal (⟨2, ![128, 128]⟩ : Shape) .f32) (a21 a22 : FVec Ideal (⟨1, ![128]⟩ : Shape) .f32)
    (a23 : FVec Ideal (⟨2, ![2000, 256]⟩ : Shape) .f32) (a24 : FVec Ideal (⟨1, ![2000]⟩ : Shape) .f32) : Graphs where
  na n p d := a0 (ix3 n p d)
  ea e d := a1 (ix2 e d)
  ei i e := a2 (ix2 i e)
  ni n := a3 (ix1 n)
  bi e := a4 (ix1 e)
  npg g := a5 (ix1 g)
  enc := Q.enc
  ins := Q.ins
  foo := Q.foo
  wnp p d j := a19 (ix3 p d j)
  we d k := a20 (ix2 d k)
  wnode d := a21 (ix1 d)
  wrel d := a22 (ix1 d)
  lw o d := a23 (ix2 o d)
  lb o := a24 (ix1 o)

/-- Node `n` of graph `g`. -/
def node (g : Fin 50) (n : Fin 200) : Fin 10000 := ⟨g.val * 200 + n.val, by omega⟩

/-- Edge `e` of graph `g`. -/
def edge (g : Fin 50) (e : Fin 6400) : Fin 320000 := ⟨g.val * 6400 + e.val, by omega⟩

namespace Graphs

variable (G : Graphs)

/-- Where edge `e` of graph `g` starts (`i = 0`) or ends (`i = 1`), inside the graph. -/
def ends (i : Fin 2) (g : Fin 50) (e : Fin 6400) : Fin 200 := Fin.ofNat 200 (G.ei i (edge g e)).toNat

/-- The score of an edge in one feature. -/
def es (g : Fin 50) (t : Fin 8) (e : Fin 6400) (d : Fin 128) : EReal := elu ((∑ k : Fin 128, G.ea (edge g e) k * G.we d k) * G.ins g t d)

/-- The score of an edge. -/
def ev (g : Fin 50) (t : Fin 8) (e : Fin 6400) : EReal := ∑ d : Fin 128, G.wrel d * G.es g t e d

/-- The score of a node. -/
def nsv (g : Fin 50) (t : Fin 8) (n : Fin 200) : EReal :=
  ∑ d : Fin 128, G.wnode d * elu (G.ins g t d * ∑ p : Fin 8, (∑ j : Fin 128, G.na (node g n) p j * G.wnp p d j) * G.foo g t p.castSucc)

/-- The attributes of a node, weighted by the last property similarities. -/
def anp (g : Fin 50) (n : Fin 200) (d : Fin 128) : EReal := ∑ p : Fin 8, G.na (node g n) p d * G.foo g 7 p.castSucc

/-- The distribution over a graph's nodes after `j` steps. -/
def dist (g : Fin 50) (j : ℕ) (n : Fin 200) : EReal :=
  walk (G.ends 0 g) (G.ends 1 g) (G.ev g) (G.nsv g) (fun t => G.foo g t (Fin.last 8)) (fun _ => Ideal.div 1 (G.npg g)) j n

/-- The nodes' weighted attributes summed at the last distribution. -/
def agg (g : Fin 50) (d : Fin 128) : EReal := ∑ n : Fin 200, G.dist g 8 n * G.anp g n d

/-- The result. -/
def out (g : Fin 50) (o : Fin 2000) : EReal :=
  (∑ d : Fin 128, G.enc g d * G.lw o (d.castAdd 128)) + (∑ d : Fin 128, G.agg g d * G.lw o (d.natAdd 128)) + G.lb o

/-- What the precondition says. -/
structure Good : Prop where
  node : ∀ g n, G.ni (node g n) = BitVec.ofNat 32 g.val
  edge : ∀ g e, G.bi (edge g e) = BitVec.ofNat 32 g.val
  inside : ∀ i g e, G.ei i (Cert.Maths.edge g e) = BitVec.ofNat 32 (g.val * 200 + (G.ends i g e).val)
  npg : ∀ g, G.npg g ≠ 0
  na : ∀ n p d, IsReal (G.na n p d)
  ea : ∀ e d, IsReal (G.ea e d)
  ins : ∀ g t d, IsReal (G.ins g t d)
  foo : ∀ g t p, IsReal (G.foo g t p)
  wnp : ∀ p d j, IsReal (G.wnp p d j)
  we : ∀ d k, IsReal (G.we d k)
  wnode : ∀ d, IsReal (G.wnode d)
  wrel : ∀ d, IsReal (G.wrel d)

namespace Good

variable {G} (h : G.Good)
include h

theorem isReal_es (g : Fin 50) (t : Fin 8) (e : Fin 6400) (d : Fin 128) : IsReal (G.es g t e d) :=
  isReal_elu ((isReal_sum _ _ fun k _ => (h.ea _ k).mul (h.we d k)).mul (h.ins g t d))

theorem isReal_ev (g : Fin 50) (t : Fin 8) (e : Fin 6400) : IsReal (G.ev g t e) :=
  isReal_sum _ _ fun d _ => (h.wrel d).mul (h.isReal_es g t e d)

theorem isReal_wx (n : Fin 10000) (p : Fin 8) (d : Fin 128) : IsReal (∑ j : Fin 128, G.na n p j * G.wnp p d j) :=
  isReal_sum _ _ fun j _ => (h.na n p j).mul (h.wnp p d j)

theorem isReal_nsv (g : Fin 50) (t : Fin 8) (n : Fin 200) : IsReal (G.nsv g t n) :=
  isReal_sum _ _ fun d _ => (h.wnode d).mul (isReal_elu ((h.ins g t d).mul (isReal_sum _ _ fun p _ => (h.isReal_wx _ p d).mul (h.foo g t _))))

theorem isReal_dist (g : Fin 50) (j : ℕ) (n : Fin 200) : IsReal (G.dist g j n) :=
  isReal_walk _ _ _ _ _ _ (h.isReal_ev g) (h.isReal_nsv g) (fun t => h.foo g t _) (fun _ => isReal_div isReal_one (h.npg g)) j n

end Good

end Graphs

/-- A word between a graph's first node and the next graph's is the graph's first node plus its remainder. -/
theorem word_inside (g : Fin 50) (b : BitVec 32) (h1 : (g.val * 200 : ℤ) ≤ b.toInt) (h2 : b.toInt < g.val * 200 + 200) :
    b = BitVec.ofNat 32 (g.val * 200 + (Fin.ofNat 200 b.toNat).val) := by
  have hg := g.isLt
  have hb := b.isLt
  rw [BitVec.toInt_eq_toNat_cond] at h1 h2
  have hn : 2 * b.toNat < 2 ^ 32 := by by_contra hc; rw [if_neg hc] at h1; omega
  rw [if_pos hn] at h1 h2
  have h1' : g.val * 200 ≤ b.toNat := by exact_mod_cast h1
  have h2' : b.toNat < g.val * 200 + 200 := by exact_mod_cast h2
  have h3 : (Fin.ofNat 200 b.toNat).val = b.toNat % 200 := rfl
  apply BitVec.eq_of_toNat_eq
  rw [h3, BitVec.toNat_ofNat]
  omega

theorem word_diff (g : Fin 50) (k n : Fin 200) : BitVec.ofNat 32 k.val = BitVec.ofNat 32 (g.val * 200 + n.val) - BitVec.ofNat 32 g.val * 200#32 ↔ k = n := by
  have hk := k.isLt
  have hg := g.isLt
  have hn := n.isLt
  have h1 : BitVec.ofNat 32 (g.val * 200 + n.val) - BitVec.ofNat 32 g.val * 200#32 = BitVec.ofNat 32 n.val := by
    apply BitVec.eq_of_toNat_eq
    simp only [BitVec.toNat_sub, BitVec.toNat_mul, BitVec.toNat_ofNat]
    omega
  rw [h1]
  constructor
  · intro h
    have h2 := congrArg BitVec.toNat h
    simp only [BitVec.toNat_ofNat] at h2
    apply Fin.ext
    omega
  · rintro rfl
    rfl

end Cert.Maths

end
-- ==== Proof.Tagger.lean ====
module

public import proofs.«01_k».proof.Proof.Question
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Tagger

open Cert.KernelIdeal Cert.KernelIdeal.Gen Cert.Maths

/-- The block one grid point leaves: the default word's weight on the token and the vocabulary's weights on its words. -/
theorem block_at (x0 : Vec Ideal S1x20x128 .f32) (x1 : Vec Ideal S1000x128 .f32) (x2 : Vec Ideal S128x128 .f32) (x3 : Vec Ideal S1x128 .f32) (l : Fin 20) (d : Fin 128)
    (a : Fin 1000 → EReal) (ha : ∀ v, a v = ∑ k : Fin 128, (∑ j : Fin 128, x0 (ix3 0 l j) * x2 (ix2 j k)) * x1 (ix2 v k))
    (b : EReal) (hb : b = ∑ k : Fin 128, (∑ j : Fin 128, x0 (ix3 0 l j) * x2 (ix2 j k)) * x3 (ix2 0 k)) :
    out0_4 x0 x1 x2 x3 (ix3 0 l d) = Ideal.div (Ideal.exp (b - max (top a) b)) ((∑ v, Ideal.exp (a v - max (top a) b)) + Ideal.exp (b - max (top a) b)) * x0 (ix3 0 l d)
      + ∑ v : Fin 1000, Ideal.div (Ideal.exp (a v - max (top a) b)) ((∑ v, Ideal.exp (a v - max (top a) b)) + Ideal.exp (b - max (top a) b)) * x1 (ix2 v d) := by
  have hbot : Ideal.ofBits .f32 0xFF800000#32 = ⊥ := by simp [Ideal.ofBits, Ideal.ieee]
  obtain rfl : a = _ := funext ha
  subst hb
  unfold top
  rw [← hbot]
  unfold out0_4
  frame_out
  pointwise! [k0_pay1]

theorem tag_at (Q : Question) (g : Fin 50) (x0 : Vec Ideal S1x20x128 .f32) (x1 : Vec Ideal S1000x128 .f32) (x2 : Vec Ideal S128x128 .f32) (x3 : Vec Ideal S1x128 .f32)
    (h0 : ∀ l d, x0 (ix3 0 l d) = Q.tok g l d) (h1 : ∀ v d, x1 (ix2 v d) = Q.voc v d) (h2 : ∀ j k, x2 (ix2 j k) = Q.tw j k) (h3 : ∀ d, x3 (ix2 0 d) = Q.td d)
    (l : Fin 20) (d : Fin 128) : out0_4 x0 x1 x2 x3 (ix3 0 l d) = Q.tag g l d := by
  have hc : ∀ v : Fin 1000, Q.near g l v.castSucc = ∑ k : Fin 128, (∑ j : Fin 128, x0 (ix3 0 l j) * x2 (ix2 j k)) * x1 (ix2 v k) := fun v => by
    simp only [Question.near, apart, Fin.snoc_castSucc, h0, h1, h2]
  have hl : Q.near g l (Fin.last 1000) = ∑ k : Fin 128, (∑ j : Fin 128, x0 (ix3 0 l j) * x2 (ix2 j k)) * x3 (ix2 0 k) := by
    simp only [Question.near, apart, Fin.snoc_last, h0, h2, h3]
  rw [block_at x0 x1 x2 x3 l d (fun v => Q.near g l v.castSucc) hc (Q.near g l (Fin.last 1000)) hl]
  unfold Question.tag softmax
  have hs : (∑ k : Fin 1001, Ideal.exp (Q.near g l k - top (Q.near g l))) = (∑ v : Fin 1000, Ideal.exp (Q.near g l v.castSucc - top (Q.near g l))) + Ideal.exp (Q.near g l (Fin.last 1000) - top (Q.near g l)) :=
    Fin.sum_univ_castSucc _
  rw [hs, top_apart (Q.near g l), h0]
  simp only [h1]

end Cert.KernelIdeal.Tagger

end
-- ==== Proof.Encoder.lean ====
module

public import proofs.«01_k».proof.Proof.Question
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Encoder

open Cert.KernelIdeal Cert.KernelIdeal.Gen Cert.Maths

/-! The encoder's twenty tokens and the decoder's eight steps, read off the body as one step repeated. -/

theorem token_slice : ∀ t : Fin 20, S50x20x128.Slices ![0, t.val, 0] S50x1x128 := by decide

/-- The rows of token `t`. -/
def tokenV (v : FVec Ideal S50x20x128 .f32) (t : Fin 20) : FVec Ideal S50x128 .f32 :=
  shapeCast S50x128 (extractStridedSlice S50x1x128 ![0, t.val, 0] v (token_slice t)) shapeCasts_S50x1x128_S50x128

/-- The arguments of the gates at the rows `x`. -/
def gatesV (w u : FVec Ideal S512x128 .f32) (b c : Vec Ideal S1x512 .f32) (x h : FVec Ideal S50x128 .f32) : FVec Ideal S50x512 .f32 :=
  addf (addf (addf (matmul dot_S50x128_S512x128_S50x512_1_1_0_0_n_n none x w (constant S50x512 .f32 0x00000000#32))
    (broadcastTo S50x512 (shapeCast S1x512 b shapeCasts_S1x512_S1x512) broadcasts_S1x512_S50x512))
    (matmul dot_S50x128_S512x128_S50x512_1_1_0_0_n_n none h u (constant S50x512 .f32 0x00000000#32)))
    (broadcastTo S50x512 (shapeCast S1x512 c shapeCasts_S1x512_S1x512) broadcasts_S1x512_S50x512)

/-- The next cell. -/
def nextV (a : FVec Ideal S50x512 .f32) (c : FVec Ideal S50x128 .f32) : FVec Ideal S50x128 .f32 :=
  addf (mulf (logistic (extractStridedSlice S50x128 ![0, 128] a slices_S50x512_o0_128_S50x128)) c)
    (mulf (logistic (extractStridedSlice S50x128 ![0, 0] a slices_S50x512_o0_0_S50x128)) (tanh (extractStridedSlice S50x128 ![0, 256] a slices_S50x512_o0_256_S50x128)))

/-- What a cell shows. -/
def showV (a : FVec Ideal S50x512 .f32) (c : FVec Ideal S50x128 .f32) : FVec Ideal S50x128 .f32 :=
  mulf (logistic (extractStridedSlice S50x128 ![0, 384] a slices_S50x512_o0_384_S50x128)) (tanh c)

/-- One token. -/
def cellV (w u : FVec Ideal S512x128 .f32) (b c : Vec Ideal S1x512 .f32) (x : FVec Ideal S50x128 .f32) (s : FVec Ideal S50x128 .f32 × FVec Ideal S50x128 .f32) : FVec Ideal S50x128 .f32 × FVec Ideal S50x128 .f32 :=
  (nextV (gatesV w u b c x s.2) s.1, showV (gatesV w u b c x s.2) (nextV (gatesV w u b c x s.2) s.1))

section lstm

variable (x0 : Vec Ideal S50x20x128 .f32) (x1 x2 : Vec Ideal S512x128 .f32) (x3 x4 : Vec Ideal S1x512 .f32)

/-- The cell after `t` tokens, and what it shows. -/
def stateV : ℕ → FVec Ideal S50x128 .f32 × FVec Ideal S50x128 .f32
  | 0 => (broadcast S50x128 (Scalar.ofBits .f32 0x00000000#32), broadcast S50x128 (Scalar.ofBits .f32 0x00000000#32))
  | t + 1 => cellV (View.ld x1 r1_1) (View.ld x2 r1_1) (View.ld x3 r1_2) (View.ld x4 r1_2) (tokenV (k1_pay2 (View.ld x0 r1_0)) (Fin.ofNat 20 t)) (stateV t)

variable (x5 x6 : Vec Ideal S128x128 .f32) (x7 x8 : Vec Ideal S1x128 .f32) (x9 : Vec Ideal S9x128 .f32)

theorem cell3 : (k1_pay105 x0 x1 x2 x3 x4 x5 x6 x7 x8 x9, k1_pay106 x0 x1 x2 x3 x4 x5 x6 x7 x8 x9) = stateV x0 x1 x2 x3 x4 3 := rfl

theorem cell5 : (k1_pay109 x0 x1 x2 x3 x4 x5 x6 x7 x8 x9, k1_pay110 x0 x1 x2 x3 x4 x5 x6 x7 x8 x9) = stateV x0 x1 x2 x3 x4 5 := by
  have h := Prod.ext_iff.mp (cell3 x0 x1 x2 x3 x4 x5 x6 x7 x8 x9)
  dsimp only at h
  unfold k1_pay109 k1_pay110
  rw [h.1, h.2]
  rfl

theorem cell7 : (k1_pay112 x0 x1 x2 x3 x4 x5 x6 x7 x8 x9, k1_pay113 x0 x1 x2 x3 x4 x5 x6 x7 x8 x9) = stateV x0 x1 x2 x3 x4 7 := by
  have h := Prod.ext_iff.mp (cell5 x0 x1 x2 x3 x4 x5 x6 x7 x8 x9)
  dsimp only at h
  unfold k1_pay112 k1_pay113
  rw [h.1, h.2]
  rfl

/-- The arguments of the gates at token `t`. -/
def gatesAt (t : ℕ) : FVec Ideal S50x512 .f32 :=
  gatesV (View.ld x1 r1_1) (View.ld x2 r1_1) (View.ld x3 r1_2) (View.ld x4 r1_2) (tokenV (k1_pay2 (View.ld x0 r1_0)) (Fin.ofNat 20 t)) (stateV x0 x1 x2 x3 x4 t).2

/-- The same before the last bias. -/
def partAt (t : ℕ) : FVec Ideal S50x512 .f32 :=
  addf (addf (matmul (φ₁ := .f32) (φ₂ := .f32) dot_S50x128_S512x128_S50x512_1_1_0_0_n_n none (tokenV (k1_pay2 (View.ld x0 r1_0)) (Fin.ofNat 20 t)) (View.ld x1 r1_1) (constant S50x512 .f32 0x00000000#32))
    (broadcastTo S50x512 (shapeCast S1x512 (View.ld x3 r1_2) shapeCasts_S1x512_S1x512) broadcasts_S1x512_S50x512))
    (matmul (φ₁ := .f32) (φ₂ := .f32) dot_S50x128_S512x128_S50x512_1_1_0_0_n_n none (stateV x0 x1 x2 x3 x4 t).2 (View.ld x2 r1_1) (constant S50x512 .f32 0x00000000#32))

theorem cell9 : k1_pay116 x0 x1 x2 x3 x4 x5 x6 x7 x8 x9 = (stateV x0 x1 x2 x3 x4 9).1
    ∧ k1_pay115 x0 x1 x2 x3 x4 x5 x6 x7 x8 x9 = extractStridedSlice S50x128 ![0, 384] (gatesAt x0 x1 x2 x3 x4 8) slices_S50x512_o0_384_S50x128 := by
  have h := Prod.ext_iff.mp (cell7 x0 x1 x2 x3 x4 x5 x6 x7 x8 x9)
  dsimp only at h
  unfold k1_pay115 k1_pay116
  rw [h.1, h.2]
  exact ⟨rfl, rfl⟩

theorem cell11 : k1_pay117 x0 x1 x2 x3 x4 x5 x6 x7 x8 x9 = extractStridedSlice S50x128 ![0, 0] (gatesAt x0 x1 x2 x3 x4 10) slices_S50x512_o0_0_S50x128
    ∧ k1_pay118 x0 x1 x2 x3 x4 x5 x6 x7 x8 x9 = extractStridedSlice S50x128 ![0, 256] (gatesAt x0 x1 x2 x3 x4 10) slices_S50x512_o0_256_S50x128
    ∧ k1_pay119 x0 x1 x2 x3 x4 x5 x6 x7 x8 x9 = extractStridedSlice S50x128 ![0, 384] (gatesAt x0 x1 x2 x3 x4 10) slices_S50x512_o0_384_S50x128
    ∧ k1_pay120 x0 x1 x2 x3 x4 x5 x6 x7 x8 x9 = mulf (logistic (extractStridedSlice S50x128 ![0, 128] (gatesAt x0 x1 x2 x3 x4 10) slices_S50x512_o0_128_S50x128)) (stateV x0 x1 x2 x3 x4 10).1 := by
  have h := cell9 x0 x1 x2 x3 x4 x5 x6 x7 x8 x9
  unfold k1_pay117 k1_pay118 k1_pay119 k1_pay120
  rw [h.1, h.2]
  exact ⟨rfl, rfl, rfl, rfl⟩

theorem cell12 : k1_pay121 x0 x1 x2 x3 x4 x5 x6 x7 x8 x9 = (stateV x0 x1 x2 x3 x4 12).1
    ∧ k1_pay122 x0 x1 x2 x3 x4 x5 x6 x7 x8 x9 = gatesAt x0 x1 x2 x3 x4 12
    ∧ k1_pay123 x0 x1 x2 x3 x4 x5 x6 x7 x8 x9 = extractStridedSlice S50x128 ![0, 0] (gatesAt x0 x1 x2 x3 x4 12) slices_S50x512_o0_0_S50x128
    ∧ k1_pay124 x0 x1 x2 x3 x4 x5 x6 x7 x8 x9 = extractStridedSlice S50x128 ![0, 128] (gatesAt x0 x1 x2 x3 x4 12) slices_S50x512_o0_128_S50x128 := by
  have h := cell11 x0 x1 x2 x3 x4 x5 x6 x7 x8 x9
  unfold k1_pay121 k1_pay122 k1_pay123 k1_pay124
  rw [h.1, h.2.1, h.2.2.1, h.2.2.2]
  exact ⟨rfl, rfl, rfl, rfl⟩

theorem cell14 : k1_pay125 x0 x1 x2 x3 x4 x5 x6 x7 x8 x9 = (stateV x0 x1 x2 x3 x4 14).1
    ∧ k1_pay126 x0 x1 x2 x3 x4 x5 x6 x7 x8 x9 = partAt x0 x1 x2 x3 x4 14 := by
  have h := cell12 x0 x1 x2 x3 x4 x5 x6 x7 x8 x9
  unfold k1_pay125 k1_pay126
  rw [h.1, h.2.1, h.2.2.1, h.2.2.2]
  exact ⟨rfl, rfl⟩

theorem cell16 : k1_pay128 x0 x1 x2 x3 x4 x5 x6 x7 x8 x9 = (stateV x0 x1 x2 x3 x4 16).1
    ∧ k1_pay129 x0 x1 x2 x3 x4 x5 x6 x7 x8 x9 = partAt x0 x1 x2 x3 x4 16 := by
  have h := cell14 x0 x1 x2 x3 x4 x5 x6 x7 x8 x9
  unfold k1_pay128 k1_pay129
  rw [h.1, h.2]
  exact ⟨rfl, rfl⟩

theorem cell18 : (k1_pay130 x0 x1 x2 x3 x4 x5 x6 x7 x8 x9, k1_pay131 x0 x1 x2 x3 x4 x5 x6 x7 x8 x9) = stateV x0 x1 x2 x3 x4 18 := by
  have h := cell16 x0 x1 x2 x3 x4 x5 x6 x7 x8 x9
  unfold k1_pay130 k1_pay131
  rw [h.1, h.2]
  rfl

theorem cell20 : k1_pay134 x0 x1 x2 x3 x4 x5 x6 x7 x8 x9 = (stateV x0 x1 x2 x3 x4 20).2 := by
  have h := Prod.ext_iff.mp (cell18 x0 x1 x2 x3 x4 x5 x6 x7 x8 x9)
  dsimp only at h
  unfold k1_pay134
  rw [h.1, h.2]
  rfl

/-! ## The same at an index -/

theorem gatesV_at (w u : FVec Ideal S512x128 .f32) (b c : Vec Ideal S1x512 .f32) (x h : FVec Ideal S50x128 .f32) (g : Fin 50) (k : Fin 512) :
    gatesV w u b c x h (ix2 g k) = gate (fun d => w (ix2 k d)) (fun d => u (ix2 k d)) (b (ix2 0 k)) (c (ix2 0 k)) (fun d => x (ix2 g d)) (fun d => h (ix2 g d)) := by
  unfold gate
  pointwise [gatesV]

theorem nextV_at (a : FVec Ideal S50x512 .f32) (c : FVec Ideal S50x128 .f32) (g : Fin 50) (d : Fin 128) :
    nextV a c (ix2 g d) = Ideal.logistic (a (ix2 g ⟨128 + d.val, by omega⟩)) * c (ix2 g d) + Ideal.logistic (a (ix2 g ⟨d.val, by omega⟩)) * Ideal.tanh (a (ix2 g ⟨256 + d.val, by omega⟩)) := by
  pointwise! [nextV]

theorem showV_at (a : FVec Ideal S50x512 .f32) (c : FVec Ideal S50x128 .f32) (g : Fin 50) (d : Fin 128) :
    showV a c (ix2 g d) = Ideal.logistic (a (ix2 g ⟨384 + d.val, by omega⟩)) * Ideal.tanh (c (ix2 g d)) := by
  pointwise! [showV]

theorem tokenV_at (v : FVec Ideal S50x20x128 .f32) (t : Fin 20) (g : Fin 50) (d : Fin 128) : tokenV v t (ix2 g d) = v (ix3 g t d) := by
  fin_cases t <;> pointwise [tokenV]

/-- The blocks hold what the question has. -/
structure Holds (Q : Question) : Prop where
  tag : ∀ g l d, x0 (ix3 g l d) = Q.tag g l d
  wih : ∀ k d, x1 (ix2 k d) = Q.wih k d
  whh : ∀ k d, x2 (ix2 k d) = Q.whh k d
  bih : ∀ k, x3 (ix2 0 k) = Q.bih k
  bhh : ∀ k, x4 (ix2 0 k) = Q.bhh k
  dih : ∀ k d, x5 (ix2 k d) = Q.dih k d
  dhh : ∀ k d, x6 (ix2 k d) = Q.dhh k d
  dbi : ∀ k, x7 (ix2 0 k) = Q.dbi k
  dbh : ∀ k, x8 (ix2 0 k) = Q.dbh k
  pe : ∀ p d, x9 (ix2 p d) = Q.pe p d

variable {x0 x1 x2 x3 x4 x5 x6 x7 x8 x9} {Q : Question} (H : Holds x0 x1 x2 x3 x4 x5 x6 x7 x8 x9 Q)
include H

theorem Holds.tagged (g : Fin 50) (l : Fin 20) (d : Fin 128) : k1_pay2 (F := Ideal) (View.ld x0 r1_0) (ix3 g l d) = Q.tag g l d := by
  rw [← H.tag]
  pointwise [k1_pay2]

theorem Holds.state (g : Fin 50) (t : ℕ) : (∀ d, (stateV x0 x1 x2 x3 x4 t).1 (ix2 g d) = (Q.cell g t).1 d) ∧ ∀ d, (stateV x0 x1 x2 x3 x4 t).2 (ix2 g d) = (Q.cell g t).2 d := by
  induction t with
  | zero =>
    refine ⟨fun d => ?_, fun d => ?_⟩ <;>
    · change (broadcast S50x128 (Scalar.ofBits .f32 0x00000000#32) : FVec Ideal S50x128 .f32) (ix2 g d) = 0
      pointwise
  | succ t ih =>
    have hg : ∀ k, gatesAt x0 x1 x2 x3 x4 t (ix2 g k) = Q.gates g (Fin.ofNat 20 t) (Q.cell g t).2 k := fun k => by
      unfold gatesAt
      rw [gatesV_at]
      unfold Question.gates
      congr 1
      · funext d; rw [← H.wih]; pointwise
      · funext d; rw [← H.whh]; pointwise
      · rw [← H.bih]; pointwise
      · rw [← H.bhh]; pointwise
      · funext d; rw [tokenV_at]; exact H.tagged g _ d
      · funext d; exact ih.2 d
    have h1 : ∀ d, (stateV x0 x1 x2 x3 x4 (t + 1)).1 (ix2 g d) = (Q.cell g (t + 1)).1 d := fun d => by
      change nextV (gatesAt x0 x1 x2 x3 x4 t) (stateV x0 x1 x2 x3 x4 t).1 (ix2 g d) = _
      rw [nextV_at, hg, hg, hg, ih.1]
      rfl
    refine ⟨h1, fun d => ?_⟩
    change showV (gatesAt x0 x1 x2 x3 x4 t) (stateV x0 x1 x2 x3 x4 (t + 1)).1 (ix2 g d) = _
    rw [showV_at, hg, h1]
    rfl

theorem Holds.enc_at (g : Fin 50) (d : Fin 128) : out1_10 x0 x1 x2 x3 x4 x5 x6 x7 x8 x9 (ix2 g d) = Q.enc g d := by
  have h : out1_10 x0 x1 x2 x3 x4 x5 x6 x7 x8 x9 = k1_pay134 x0 x1 x2 x3 x4 x5 x6 x7 x8 x9 := by
    have hc : ∀ p : Vec Ideal S50x128 .f32, View.canon [⟨r1_3, p⟩] = p := fun p => by frame_out
    exact hc _
  rw [h, cell20]
  exact (H.state g 20).2 d

end lstm

end Cert.KernelIdeal.Encoder

end
-- ==== Proof.Decoder.lean ====
module

public import proofs.«01_k».proof.Proof.Encoder

@[expose] public section

set_option maxRecDepth 16384

noncomputable section

open Idealize.ShloMosaic Idealize.ShloMosaic.TcCoe Idealize.SL.Sem
open Idealize.ShloMosaic.Pipeline (Dat)

namespace Cert.KernelIdeal.Encoder

open Cert.KernelIdeal Cert.KernelIdeal.Gen Cert.Maths

/-! The decoder's eight steps, their instructions and their similarities to the properties. -/

/-- A bias under every row. -/
def underV (b : Vec Ideal S1x128 .f32) : FVec Ideal S50x128 .f32 :=
  broadcastTo S50x128 (shapeCast S1x128 b shapeCasts_S1x128_S1x128) broadcasts_S1x128_S50x128

/-- A product with a square matrix. -/
def timesV (x : FVec Ideal S50x128 .f32) (w : FVec Ideal S128x128 .f32) : FVec Ideal S50x128 .f32 :=
  matmul dot_S50x128_S128x128_S50x128_1_1_0_0_n_n none x w (constant S50x128 .f32 0x00000000#32)

/-- The decoder's row before its negative entries are dropped. -/
def sumV (w u : FVec Ideal S128x128 .f32) (b c : Vec Ideal S1x128 .f32) (x h : FVec Ideal S50x128 .f32) : FVec Ideal S50x128 .f32 :=
  addf (addf (addf (timesV x w) (underV b)) (timesV h u)) (underV c)

/-- The negative entries dropped. -/
def dropV (x : FVec Ideal S50x128 .f32) : FVec Ideal S50x128 .f32 := maximumf x (broadcast S50x128 (Scalar.ofBits .f32 0x00000000#32))

/-- The products of the tagged tokens with a row. -/
def productsV (v : FVec Ideal S50x20x128 .f32) (x : FVec Ideal S50x128 .f32) : FVec Ideal S50x20 .f32 :=
  multiReduction .add [2] S50x20 (mulf (broadcastTo S50x20x128 (shapeCast S50x1x128 x shapeCasts_S50x128_S50x1x128) broadcasts_S50x1x128_S50x20x128) v) 0x00000000#32 reduces_S50x20x128_S50x20 (.inl rfl) rfl

/-- The exponentials of the distances from the row's largest. -/
def powersV (x : FVec Ideal S50x20 .f32) : FVec Ideal S50x20 .f32 :=
  exp (subf x (broadcastTo S50x20 (shapeCast S50x1 (multiReduction .maximumf [1] S50 x 0xFF800000#32 reduces_S50x20_S50 (.inl rfl) rfl) shapeCasts_S50_S50x1) broadcasts_S50x1_S50x20))

/-- Their sum. -/
def totalV (e : FVec Ideal S50x20 .f32) : FVec Ideal S50x1 .f32 :=
  shapeCast S50x1 (multiReduction .add [1] S50 e 0x00000000#32 reduces_S50x20_S50 (.inl rfl) rfl) shapeCasts_S50_S50x1

/-- The tagged tokens weighted. -/
def meanV (v : FVec Ideal S50x20x128 .f32) (e : FVec Ideal S50x20 .f32) (z : FVec Ideal S50x1 .f32) : FVec Ideal S50x128 .f32 :=
  multiReduction .add [1] S50x128 (mulf (broadcastTo S50x20x128 (shapeCast S50x20x1 (divf e (broadcastTo S50x20 z broadcasts_S50x1_S50x20)) shapeCasts_S50x20_S50x20x1) broadcasts_S50x20x1_S50x20x128) v) 0x00000000#32 reduces_S50x20x128_S50x128 (.inl rfl) rfl

/-- The instruction at a row of products. -/
def pickV (v : FVec Ideal S50x20x128 .f32) (x : FVec Ideal S50x20 .f32) : FVec Ideal S50x128 .f32 := meanV v (powersV x) (totalV (powersV x))

/-- The instruction's similarities to the properties. -/
def likeV (q : FVec Ideal S9x128 .f32) (x : FVec Ideal S50x128 .f32) : FVec Ideal S50x9 .f32 :=
  have s : FVec Ideal S50x9 .f32 := matmul dot_S50x128_S9x128_S50x9_1_1_0_0_n_n none x q (constant S50x9 .f32 0x00000000#32)
  have e : FVec Ideal S50x9 .f32 := exp (subf s (broadcastTo S50x9 (shapeCast S50x1 (multiReduction .maximumf [1] S50 s 0xFF800000#32 reduces_S50x9_S50 (.inl rfl) rfl) shapeCasts_S50_S50x1) broadcasts_S50x1_S50x9))
  divf e (broadcastTo S50x9 (shapeCast S50x1 (multiReduction .add [1] S50 e 0x00000000#32 reduces_S50x9_S50 (.inl rfl) rfl) shapeCasts_S50_S50x1) broadcasts_S50x1_S50x9)

section decoder

variable (x0 : Vec Ideal S50x20x128 .f32) (x1 x2 : Vec Ideal S512x128 .f32) (x3 x4 : Vec Ideal S1x512 .f32)
variable (x5 x6 : Vec Ideal S128x128 .f32) (x7 x8 : Vec Ideal S1x128 .f32) (x9 : Vec Ideal S9x128 .f32)

/-- The decoder's row after `j` steps. -/
def rowV : ℕ → FVec Ideal S50x128 .f32
  | 0 => broadcast S50x128 (Scalar.ofBits .f32 0x00000000#32)
  | j + 1 => dropV (sumV (View.ld x5 r1_4) (View.ld x6 r1_4) (View.ld x7 r1_6) (View.ld x8 r1_6) (k1_pay134 x0 x1 x2 x3 x4 x5 x6 x7 x8 x9) (rowV j))

/-- The products at step `j`. -/
def scoreV (j : ℕ) : FVec Ideal S50x20 .f32 := productsV (k1_pay2 (View.ld x0 r1_0)) (rowV x0 x1 x2 x3 x4 x5 x6 x7 x8 x9 j)

/-- The instruction of step `j`. -/
def insV (j : ℕ) : FVec Ideal S50x128 .f32 := pickV (k1_pay2 (View.ld x0 r1_0)) (scoreV x0 x1 x2 x3 x4 x5 x6 x7 x8 x9 j)

/-- The similarities of step `j`. -/
def fooV (j : ℕ) : FVec Ideal S50x9 .f32 := likeV (View.ld x9 r1_5) (insV x0 x1 x2 x3 x4 x5 x6 x7 x8 x9 j)

theorem row1 : k1_pay135 x0 x1 x2 x3 x4 x5 x6 x7 x8 x9 = rowV x0 x1 x2 x3 x4 x5 x6 x7 x8 x9 1 := rfl

theorem row2 : k1_pay136 x0 x1 x2 x3 x4 x5 x6 x7 x8 x9 = rowV x0 x1 x2 x3 x4 x5 x6 x7 x8 x9 2
    ∧ k1_pay137 x0 x1 x2 x3 x4 x5 x6 x7 x8 x9 = insV x0 x1 x2 x3 x4 x5 x6 x7 x8 x9 2 := by
  unfold k1_pay136 k1_pay137
  rw [row1]
  exact ⟨rfl, rfl⟩

theorem row3 : k1_pay138 x0 x1 x2 x3 x4 x5 x6 x7 x8 x9 = rowV x0 x1 x2 x3 x4 x5 x6 x7 x8 x9 3
    ∧ k1_pay139 x0 x1 x2 x3 x4 x5 x6 x7 x8 x9 = powersV (scoreV x0 x1 x2 x3 x4 x5 x6 x7 x8 x9 3)
    ∧ k1_pay140 x0 x1 x2 x3 x4 x5 x6 x7 x8 x9 = totalV (powersV (scoreV x0 x1 x2 x3 x4 x5 x6 x7 x8 x9 3)) := by
  unfold k1_pay138 k1_pay139 k1_pay140
  rw [(row2 x0 x1 x2 x3 x4 x5 x6 x7 x8 x9).1]
  exact ⟨rfl, rfl, rfl⟩

theorem row5 : k1_pay141 x0 x1 x2 x3 x4 x5 x6 x7 x8 x9 = scoreV x0 x1 x2 x3 x4 x5 x6 x7 x8 x9 4
    ∧ dropV (k1_pay142 x0 x1 x2 x3 x4 x5 x6 x7 x8 x9) = rowV x0 x1 x2 x3 x4 x5 x6 x7 x8 x9 5 := by
  unfold k1_pay141 k1_pay142
  rw [(row3 x0 x1 x2 x3 x4 x5 x6 x7 x8 x9).1]
  exact ⟨rfl, rfl⟩

theorem row6 : k1_pay144 x0 x1 x2 x3 x4 x5 x6 x7 x8 x9 = timesV (rowV x0 x1 x2 x3 x4 x5 x6 x7 x8 x9 5) (View.ld x6 r1_4)
    ∧ k1_pay145 x0 x1 x2 x3 x4 x5 x6 x7 x8 x9 = rowV x0 x1 x2 x3 x4 x5 x6 x7 x8 x9 6 := by
  have h : k1_pay144 x0 x1 x2 x3 x4 x5 x6 x7 x8 x9 = timesV (rowV x0 x1 x2 x3 x4 x5 x6 x7 x8 x9 5) (View.ld x6 r1_4) := by
    rw [← (row5 x0 x1 x2 x3 x4 x5 x6 x7 x8 x9).2]
    rfl
  refine ⟨h, ?_⟩
  unfold k1_pay145
  rw [h]
  rfl

theorem row7 : k1_pay147 x0 x1 x2 x3 x4 x5 x6 x7 x8 x9 = rowV x0 x1 x2 x3 x4 x5 x6 x7 x8 x9 7 := by
  unfold k1_pay147
  rw [(row6 x0 x1 x2 x3 x4 x5 x6 x7 x8 x9).2]
  rfl

/-- A step's page of the instructions. -/
def pageV (x : FVec Ideal S50x128 .f32) : FVec Ideal S1x50x128 .f32 := shapeCast S1x50x128 x shapeCasts_S50x128_S1x50x128

/-- A step's page of the similarities. -/
def leafV (x : FVec Ideal S50x9 .f32) : FVec Ideal S1x50x9 .f32 := shapeCast S1x50x9 x shapeCasts_S50x9_S1x50x9

theorem out1_11_pages : out1_11 x0 x1 x2 x3 x4 x5 x6 x7 x8 x9 = View.canon [⟨r1_21, pageV (insV x0 x1 x2 x3 x4 x5 x6 x7 x8 x9 8)⟩, ⟨r1_19, pageV (insV x0 x1 x2 x3 x4 x5 x6 x7 x8 x9 7)⟩,
    ⟨r1_17, pageV (insV x0 x1 x2 x3 x4 x5 x6 x7 x8 x9 6)⟩, ⟨r1_15, pageV (insV x0 x1 x2 x3 x4 x5 x6 x7 x8 x9 5)⟩, ⟨r1_13, pageV (insV x0 x1 x2 x3 x4 x5 x6 x7 x8 x9 4)⟩,
    ⟨r1_11, pageV (insV x0 x1 x2 x3 x4 x5 x6 x7 x8 x9 3)⟩, ⟨r1_9, pageV (insV x0 x1 x2 x3 x4 x5 x6 x7 x8 x9 2)⟩, ⟨r1_7, pageV (insV x0 x1 x2 x3 x4 x5 x6 x7 x8 x9 1)⟩] := by
  have h3 := row3 x0 x1 x2 x3 x4 x5 x6 x7 x8 x9
  have h5 := row5 x0 x1 x2 x3 x4 x5 x6 x7 x8 x9
  have h6 := row6 x0 x1 x2 x3 x4 x5 x6 x7 x8 x9
  have e5 : k1_pay84 (k1_pay102 x0 x1 x2 x3 x4 x5 x6 x7 x8 x9) (k1_pay142 x0 x1 x2 x3 x4 x5 x6 x7 x8 x9) (Scalar.ofBits .f32 0x00000000#32) = pageV (insV x0 x1 x2 x3 x4 x5 x6 x7 x8 x9 5) := by
    unfold insV scoreV
    rw [← h5.2]
    rfl
  unfold out1_11
  rw [e5, row7, h6.2, h6.1, h5.1, h3.2.1, h3.2.2, (row2 x0 x1 x2 x3 x4 x5 x6 x7 x8 x9).2]
  rfl

theorem out1_12_leaves : out1_12 x0 x1 x2 x3 x4 x5 x6 x7 x8 x9 = View.canon [⟨r1_22, leafV (fooV x0 x1 x2 x3 x4 x5 x6 x7 x8 x9 8)⟩, ⟨r1_20, leafV (fooV x0 x1 x2 x3 x4 x5 x6 x7 x8 x9 7)⟩,
    ⟨r1_18, leafV (fooV x0 x1 x2 x3 x4 x5 x6 x7 x8 x9 6)⟩, ⟨r1_16, leafV (fooV x0 x1 x2 x3 x4 x5 x6 x7 x8 x9 5)⟩, ⟨r1_14, leafV (fooV x0 x1 x2 x3 x4 x5 x6 x7 x8 x9 4)⟩,
    ⟨r1_12, leafV (fooV x0 x1 x2 x3 x4 x5 x6 x7 x8 x9 3)⟩, ⟨r1_10, leafV (fooV x0 x1 x2 x3 x4 x5 x6 x7 x8 x9 2)⟩, ⟨r1_8, leafV (fooV x0 x1 x2 x3 x4 x5 x6 x7 x8 x9 1)⟩] := by
  have h3 := row3 x0 x1 x2 x3 x4 x5 x6 x7 x8 x9
  have h5 := row5 x0 x1 x2 x3 x4 x5 x6 x7 x8 x9
  have h6 := row6 x0 x1 x2 x3 x4 x5 x6 x7 x8 x9
  have e5 : k1_pay85 (k1_pay102 x0 x1 x2 x3 x4 x5 x6 x7 x8 x9) (View.ld x9 r1_5) (k1_pay142 x0 x1 x2 x3 x4 x5 x6 x7 x8 x9) (Scalar.ofBits .f32 0x00000000#32) = leafV (fooV x0 x1 x2 x3 x4 x5 x6 x7 x8 x9 5) := by
    unfold fooV insV scoreV
    rw [← h5.2]
    rfl
  unfold out1_12
  rw [e5, row7, h6.2, h6.1, h5.1, h3.2.1, h3.2.2, (row2 x0 x1 x2 x3 x4 x5 x6 x7 x8 x9).2]
  rfl

/-! ## The same at an index -/

theorem sumV_at (w u : FVec Ideal S128x128 .f32) (b c : Vec Ideal S1x128 .f32) (x h : FVec Ideal S50x128 .f32) (g : Fin 50) (k : Fin 128) :
    dropV (sumV w u b c x h) (ix2 g k) = max (gate (fun d => w (ix2 k d)) (fun d => u (ix2 k d)) (b (ix2 0 k)) (c (ix2 0 k)) (fun d => x (ix2 g d)) (fun d => h (ix2 g d))) 0 := by
  unfold gate
  pointwise [dropV, sumV, timesV, underV]

theorem pickV_at (v : FVec Ideal S50x20x128 .f32) (x : FVec Ideal S50x128 .f32) (g : Fin 50) (d : Fin 128) :
    pickV v (productsV v x) (ix2 g d) = ∑ l : Fin 20, softmax (fun l => ∑ k : Fin 128, x (ix2 g k) * v (ix3 g l k)) l * v (ix3 g l d) := by
  have hb : Ideal.ofBits .f32 0xFF800000#32 = ⊥ := by simp [Ideal.ofBits, Ideal.ieee]
  unfold softmax top
  rw [← hb]
  pointwise [pickV, meanV, powersV, totalV, productsV]

theorem likeV_at (q : FVec Ideal S9x128 .f32) (x : FVec Ideal S50x128 .f32) (g : Fin 50) (p : Fin 9) :
    likeV q x (ix2 g p) = softmax (fun p => ∑ d : Fin 128, x (ix2 g d) * q (ix2 p d)) p := by
  have hb : Ideal.ofBits .f32 0xFF800000#32 = ⊥ := by simp [Ideal.ofBits, Ideal.ieee]
  unfold softmax top
  rw [← hb]
  pointwise [likeV]

/-- Page `k` of eight. -/
abbrev pageR (n : ℕ) (k : Fin 8) (inb : ∀ a, (![k.val, 0, 0] : Fin 3 → ℕ) a + (![1, 50, n] : Fin 3 → ℕ) a ≤ (![8, 50, n] : Fin 3 → ℕ) a) : Rect ⟨3, ![8, 50, n]⟩ :=
  Rect.unit (s := ⟨3, ![8, 50, n]⟩) ![k.val, 0, 0] ![1, 50, n] inb

theorem page_read (n : ℕ) (k : Fin 8) (inb) (w : (⟨3, ![1, 50, n]⟩ : Shape).Idx → Elt Ideal .f32) (L : List (View.Piece (Elt Ideal) ⟨3, ![8, 50, n]⟩ .f32)) (g : Fin 50) (d : Fin n) :
    View.canon (⟨pageR n k inb, w⟩ :: L) (ix3 k g d) = w (ix3 0 g d) := by
  have h : (ix3 k g d : (⟨3, ![8, 50, n]⟩ : Shape).Idx) = (pageR n k inb).emb (ix3 0 g d : (⟨3, ![1, 50, n]⟩ : Shape).Idx) := by
    funext a
    fin_cases a
    · exact Fin.ext (show k.val = k.val + 1 * 0 by omega)
    · exact Fin.ext (show g.val = 0 + 1 * g.val by omega)
    · exact Fin.ext (show d.val = 0 + 1 * d.val by omega)
  rw [h]
  exact View.canon_cons_emb (pageR n k inb) w L _

theorem page_skip (n : ℕ) (k t : Fin 8) (hk : ¬ t = k) (inb) (w : (⟨3, ![1, 50, n]⟩ : Shape).Idx → Elt Ideal .f32) (L : List (View.Piece (Elt Ideal) ⟨3, ![8, 50, n]⟩ .f32)) (g : Fin 50) (d : Fin n) :
    View.canon (⟨pageR n k inb, w⟩ :: L) (ix3 t g d) = View.canon L (ix3 t g d) := by
  refine View.canon_cons_of_not_mem _ _ fun hm => ?_
  have h := (Rect.mem_set_unit (s := ⟨3, ![8, 50, n]⟩) (inb := inb)).mp hm 0
  change k.val ≤ t.val ∧ t.val < k.val + 1 at h
  exact hk (Fin.ext (by omega))

theorem pages_at (n : ℕ) (inb : ∀ k : Fin 8, ∀ a, (![k.val, 0, 0] : Fin 3 → ℕ) a + (![1, 50, n] : Fin 3 → ℕ) a ≤ (![8, 50, n] : Fin 3 → ℕ) a)
    (p : Fin 8 → (⟨3, ![1, 50, n]⟩ : Shape).Idx → Elt Ideal .f32) (t : Fin 8) (g : Fin 50) (d : Fin n) :
    View.canon [⟨pageR n 7 (inb 7), p 7⟩, ⟨pageR n 6 (inb 6), p 6⟩, ⟨pageR n 5 (inb 5), p 5⟩, ⟨pageR n 4 (inb 4), p 4⟩, ⟨pageR n 3 (inb 3), p 3⟩, ⟨pageR n 2 (inb 2), p 2⟩, ⟨pageR n 1 (inb 1), p 1⟩, ⟨pageR n 0 (inb 0), p 0⟩] (ix3 t g d) = p t (ix3 0 g d) := by
  have step : ∀ (k : Fin 8) (L : List (View.Piece (Elt Ideal) ⟨3, ![8, 50, n]⟩ .f32)), (¬ t = k → View.canon L (ix3 t g d) = p t (ix3 0 g d)) →
      View.canon (⟨pageR n k (inb k), p k⟩ :: L) (ix3 t g d) = p t (ix3 0 g d) := fun k L hL => by
    by_cases hk : t = k
    · subst hk
      exact page_read n t _ _ _ g d
    · exact (page_skip n k t hk _ _ _ g d).trans (hL hk)
  refine step 7 _ fun h7 => step 6 _ fun h6 => step 5 _ fun h5 => step 4 _ fun h4 => step 3 _ fun h3 => step 2 _ fun h2 => step 1 _ fun h1 => step 0 _ fun h0 => ?_
  exfalso
  revert t
  intro t
  fin_cases t <;> simp

variable {x0 x1 x2 x3 x4 x5 x6 x7 x8 x9} {Q : Question} (H : Holds x0 x1 x2 x3 x4 x5 x6 x7 x8 x9 Q)
include H

theorem Holds.row (g : Fin 50) (j : ℕ) (d : Fin 128) : rowV x0 x1 x2 x3 x4 x5 x6 x7 x8 x9 j (ix2 g d) = Q.row g j d := by
  induction j generalizing d with
  | zero =>
    change (broadcast S50x128 (Scalar.ofBits .f32 0x00000000#32) : FVec Ideal S50x128 .f32) (ix2 g d) = 0
    pointwise
  | succ j ih =>
    unfold rowV
    rw [sumV_at]
    change _ = max (gate _ _ _ _ _ _) 0
    congr 2
    · funext k; rw [← H.dih]; pointwise
    · funext k; rw [← H.dhh]; pointwise
    · rw [← H.dbi]; pointwise
    · rw [← H.dbh]; pointwise
    · funext k; rw [cell20]; exact (H.state g 20).2 k
    · funext k; exact ih k

theorem Holds.insV_at (g : Fin 50) (t : Fin 8) (d : Fin 128) : insV x0 x1 x2 x3 x4 x5 x6 x7 x8 x9 (t.val + 1) (ix2 g d) = Q.ins g t d := by
  unfold insV scoreV
  rw [pickV_at]
  unfold Question.ins
  simp only [H.tagged, H.row]

theorem Holds.fooV_at (g : Fin 50) (t : Fin 8) (p : Fin 9) : fooV x0 x1 x2 x3 x4 x5 x6 x7 x8 x9 (t.val + 1) (ix2 g p) = Q.foo g t p := by
  have hp : ∀ p d, View.ld x9 r1_5 (ix2 p d) = Q.pe p d := fun p d => by rw [← H.pe]; pointwise
  unfold fooV
  rw [likeV_at]
  unfold Question.foo
  simp only [H.insV_at, hp]

omit H in
theorem pages_fit (k : Fin 8) (a : Fin 3) : (![k.val, 0, 0] : Fin 3 → ℕ) a + (![1, 50, 128] : Fin 3 → ℕ) a ≤ (![8, 50, 128] : Fin 3 → ℕ) a := by revert k a; decide

omit H in
theorem leaves_fit (k : Fin 8) (a : Fin 3) : (![k.val, 0, 0] : Fin 3 → ℕ) a + (![1, 50, 9] : Fin 3 → ℕ) a ≤ (![8, 50, 9] : Fin 3 → ℕ) a := by revert k a; decide

theorem Holds.ins_at (g : Fin 50) (t : Fin 8) (d : Fin 128) : out1_11 x0 x1 x2 x3 x4 x5 x6 x7 x8 x9 (ix3 t g d) = Q.ins g t d := by
  rw [out1_11_pages]
  refine (pages_at 128 pages_fit (fun t => pageV (insV x0 x1 x2 x3 x4 x5 x6 x7 x8 x9 (t.val + 1))) t g d).trans ?_
  rw [← H.insV_at]
  pointwise [pageV]

theorem Holds.foo_at (g : Fin 50) (t : Fin 8) (p : Fin 9) : out1_12 x0 x1 x2 x3 x4 x5 x6 x7 x8 x9 (ix3 t g p) = Q.foo g t p := by
  rw [out1_12_leaves]
  refine (pages_at 9 leaves_fit (fun t => leafV (fooV x0 x1 x2 x3 x4 x5 x6 x7 x8 x9 (t.val + 1))) t g p).trans ?_
  rw [← H.fooV_at]
  pointwise [leafV]

end decoder

end Cert.KernelIdeal.Encoder

end
-- ==== Proof.KernelQuestion.lean ====
module

public import proofs.«01_k».proof.Proof.Spec
public import proofs.«01_k».proof.Proof.Tagger
public import proofs.«01_k».proof.Proof.Decoder

@[expose] public section

set_option maxRecDepth 16384

noncomputable section

open Idealize.ShloMosaic Idealize.ShloMosaic.TcCoe Idealize.SL.Sem
open Idealize.ShloMosaic.Pipeline (Dat)

/-! The buffers the tagger's and the encoder's calls leave, as functions of the arguments. -/

namespace Cert.KernelIdeal.Value

open Cert.KernelIdeal Cert.KernelIdeal.Gen Cert.Maths

variable (m : (ℓ : Loc nD τ sig) → Buf (Elt Ideal) ℓ) (ρ : Dev nD → PrngReg)

/-- The arguments the question is read with, on a device. -/
def ques (c : Dev nD) : Question :=
  Question.of (m ((c : Thread nD τ).loc main_arg6)) (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))

/-- The arguments on a device. -/
def args (c : Dev nD) : Graphs :=
  Graphs.of (ques m c) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg19)) (m ((c : Thread nD τ).loc main_arg20)) (m ((c : Thread nD τ).loc main_arg21)) (m ((c : Thread nD τ).loc main_arg22))
    (m ((c : Thread nD τ).loc main_arg23)) (m ((c : Thread nD τ).loc main_arg24))

theorem idx0 : ∀ t : Fin cfg0.N, win0_0.index t = ![t.val, 0, 0] ∧ win0_1.index t = ![0, 0] ∧ win0_2.index t = ![0, 0] ∧ win0_3.index t = ![0, 0] ∧ win0_4.index t = ![t.val, 0, 0] :=
  (by decide +kernel : ∀ t : Fin grid0.N, _)

theorem V1_v0 (c : Dev nD) (d : Fin 128) : V1 m ρ c main_v0 (ix2 0 d) = (ques m c).td d := by
  have h : V1 m ρ c main_v0 = shapeCast S1x128 (m ((c : Thread nD τ).loc main_arg9) : FVec Ideal S128 .f32) shapeCasts_S128_S1x128 := by
    show StableHlo.after hostOps0 (W0 m ρ c) (Proc.devRef .tc main_v0) = _
    entry_read
    rfl
  rw [h]
  change _ = m ((c : Thread nD τ).loc main_arg9) (ix1 d)
  pointwise

section
variable (V : (c : Dev nD) → (b : Ref sig .tc) → Buf (Elt Ideal) ((c : Thread nD τ).loc b)) (c : Dev nD) (t : Fin cfg0.N)
theorem blk0_0 (l : Fin 20) (d : Fin 128) : iblk0 V c 0 t (ix3 0 l d) = V c main_arg6 (ix3 (⟨t.val, t.isLt⟩ : Fin 50) l d) := by
  blk_ext [iblk0, idx0 t]
theorem blk0_1 (v : Fin 1000) (d : Fin 128) : iblk0 V c 1 t (ix2 v d) = V c main_arg7 (ix2 v d) := by
  blk_ext [iblk0, idx0 t]
theorem blk0_2 (j k : Fin 128) : iblk0 V c 2 t (ix2 j k) = V c main_arg10 (ix2 j k) := by
  blk_ext [iblk0, idx0 t]
theorem blk0_3 (d : Fin 128) : iblk0 V c 3 t (ix2 0 d) = V c main_v0 (ix2 0 d) := by
  blk_ext [iblk0, idx0 t]
end

/-- The tagged tokens. -/
def tagA (c : Dev nD) : FVec Ideal S50x20x128 .f32 := fun j => (ques m c).tag (j 0) (j 1) (j 2)

theorem point0 (c : Dev nD) (t : Fin cfg0.N) (y : S1x20x128.Idx) :
    out0_4 (iblk0 (V1 m ρ) c 0 t) (iblk0 (V1 m ρ) c 1 t) (iblk0 (V1 m ρ) c 2 t) (iblk0 (V1 m ρ) c 3 t) y = tagA m c (((cfg0.win 4).blk t).view.emb y) := by
  obtain ⟨a, l, d, rfl⟩ : ∃ (a : Fin 1) (l : Fin 20) (d : Fin 128), y = ix3 a l d := ⟨y 0, y 1, y 2, by idx_ext⟩
  obtain rfl : a = 0 := Subsingleton.elim _ _
  have hy : ((cfg0.win 4).blk t).view.emb (ix3 (0 : Fin 1) l d) = (ix3 (⟨t.val, t.isLt⟩ : Fin 50) l d : S50x20x128.Idx) := by
    blk_ext [idx0 t]
  rw [hy]
  exact Tagger.tag_at (ques m c) ⟨t.val, t.isLt⟩ _ _ _ _
    (fun l d => (blk0_0 (V1 m ρ) c t l d).trans (congrFun (W1_args m ρ c main_arg6 (by decide)) _))
    (fun v d => (blk0_1 (V1 m ρ) c t v d).trans (congrFun (W1_args m ρ c main_arg7 (by decide)) _))
    (fun j k => (blk0_2 (V1 m ρ) c t j k).trans (congrFun (W1_args m ρ c main_arg10 (by decide)) _))
    (fun d => (blk0_3 (V1 m ρ) c t d).trans (V1_v0 m ρ c d)) l d

theorem final0 (c : Dev nD) : (dat0 (V1 m ρ) c).arrAt 4 cfg0.N = tagA m c := by
  refine (dat0 (V1 m ρ) c).arrAt_eq_of_covers 4 _ (by decide +kernel) fun t _ y => ?_
  blk_simp
  rw [after0_4]
  exact point0 m ρ c t y

theorem W2_v1 (c : Dev nD) : W2 m ρ c (Proc.devRef .tc main_v1) = tagA m c := (W2_arr m ρ c 4).trans (final0 m ρ c)

theorem V3_v1 (c : Dev nD) : V3 m ρ c main_v1 = tagA m c := (W3_of m ρ c main_v1 (by decide)).trans (W2_v1 m ρ c)

theorem V3_v2 (c : Dev nD) (k : Fin 512) : V3 m ρ c main_v2 (ix2 0 k) = (ques m c).bih k := by
  have h : V3 m ρ c main_v2 = shapeCast S1x512 (W2 m ρ c (Proc.devRef .tc main_arg13) : FVec Ideal S512 .f32) shapeCasts_S512_S1x512 := by
    show StableHlo.after hostOps1 (W2 m ρ c) (Proc.devRef .tc main_v2) = _
    entry_read
    try rfl
  rw [h, W2_args m ρ c main_arg13 (by decide)]
  change _ = m ((c : Thread nD τ).loc main_arg13) (ix1 k)
  pointwise

theorem V3_v3 (c : Dev nD) (k : Fin 512) : V3 m ρ c main_v3 (ix2 0 k) = (ques m c).bhh k := by
  have h : V3 m ρ c main_v3 = shapeCast S1x512 (W2 m ρ c (Proc.devRef .tc main_arg14) : FVec Ideal S512 .f32) shapeCasts_S512_S1x512 := by
    show StableHlo.after hostOps1 (W2 m ρ c) (Proc.devRef .tc main_v3) = _
    entry_read
    try rfl
  rw [h, W2_args m ρ c main_arg14 (by decide)]
  change _ = m ((c : Thread nD τ).loc main_arg14) (ix1 k)
  pointwise

theorem V3_v4 (c : Dev nD) (k : Fin 128) : V3 m ρ c main_v4 (ix2 0 k) = (ques m c).dbi k := by
  have h : V3 m ρ c main_v4 = shapeCast S1x128 (W2 m ρ c (Proc.devRef .tc main_arg17) : FVec Ideal S128 .f32) shapeCasts_S128_S1x128 := by
    show StableHlo.after hostOps1 (W2 m ρ c) (Proc.devRef .tc main_v4) = _
    entry_read
    try rfl
  rw [h, W2_args m ρ c main_arg17 (by decide)]
  change _ = m ((c : Thread nD τ).loc main_arg17) (ix1 k)
  pointwise

theorem V3_v5 (c : Dev nD) (k : Fin 128) : V3 m ρ c main_v5 (ix2 0 k) = (ques m c).dbh k := by
  have h : V3 m ρ c main_v5 = shapeCast S1x128 (W2 m ρ c (Proc.devRef .tc main_arg18) : FVec Ideal S128 .f32) shapeCasts_S128_S1x128 := by
    show StableHlo.after hostOps1 (W2 m ρ c) (Proc.devRef .tc main_v5) = _
    entry_read
    try rfl
  rw [h, W2_args m ρ c main_arg18 (by decide)]
  change _ = m ((c : Thread nD τ).loc main_arg18) (ix1 k)
  pointwise

theorem idx1 : ∀ t : Fin cfg1.N, win1_0.index t = ![0, 0, 0] ∧ win1_1.index t = ![0, 0] ∧ win1_2.index t = ![0, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0] ∧ win1_10.index t = ![0, 0] ∧ win1_11.index t = ![0, 0, 0] ∧ win1_12.index t = ![0, 0, 0] :=
  (by decide +kernel : ∀ t : Fin grid1.N, _)

section
variable (V : (c : Dev nD) → (b : Ref sig .tc) → Buf (Elt Ideal) ((c : Thread nD τ).loc b)) (c : Dev nD) (t : Fin cfg1.N)
theorem blk1_0 (g : Fin 50) (l : Fin 20) (d : Fin 128) : iblk1 V c 0 t (ix3 g l d) = V c main_v1 (ix3 g l d) := by
  blk_ext [iblk1, idx1 t]
theorem blk1_1 (k : Fin 512) (d : Fin 128) : iblk1 V c 1 t (ix2 k d) = V c main_arg11 (ix2 k d) := by
  blk_ext [iblk1, idx1 t]
theorem blk1_2 (k : Fin 512) (d : Fin 128) : iblk1 V c 2 t (ix2 k d) = V c main_arg12 (ix2 k d) := by
  blk_ext [iblk1, idx1 t]
theorem blk1_3 (k : Fin 512) : iblk1 V c 3 t (ix2 0 k) = V c main_v2 (ix2 0 k) := by
  blk_ext [iblk1, idx1 t]
theorem blk1_4 (k : Fin 512) : iblk1 V c 4 t (ix2 0 k) = V c main_v3 (ix2 0 k) := by
  blk_ext [iblk1, idx1 t]
theorem blk1_5 (k d : Fin 128) : iblk1 V c 5 t (ix2 k d) = V c main_arg15 (ix2 k d) := by
  blk_ext [iblk1, idx1 t]
theorem blk1_6 (k d : Fin 128) : iblk1 V c 6 t (ix2 k d) = V c main_arg16 (ix2 k d) := by
  blk_ext [iblk1, idx1 t]
theorem blk1_7 (k : Fin 128) : iblk1 V c 7 t (ix2 0 k) = V c main_v4 (ix2 0 k) := by
  blk_ext [iblk1, idx1 t]
theorem blk1_8 (k : Fin 128) : iblk1 V c 8 t (ix2 0 k) = V c main_v5 (ix2 0 k) := by
  blk_ext [iblk1, idx1 t]
theorem blk1_9 (p : Fin 9) (d : Fin 128) : iblk1 V c 9 t (ix2 p d) = V c main_arg8 (ix2 p d) := by
  blk_ext [iblk1, idx1 t]
end

theorem holds (c : Dev nD) (t : Fin cfg1.N) : Encoder.Holds (iblk1 (V3 m ρ) c 0 t) (iblk1 (V3 m ρ) c 1 t) (iblk1 (V3 m ρ) c 2 t) (iblk1 (V3 m ρ) c 3 t) (iblk1 (V3 m ρ) c 4 t)
    (iblk1 (V3 m ρ) c 5 t) (iblk1 (V3 m ρ) c 6 t) (iblk1 (V3 m ρ) c 7 t) (iblk1 (V3 m ρ) c 8 t) (iblk1 (V3 m ρ) c 9 t) (ques m c) where
  tag g l d := (blk1_0 (V3 m ρ) c t g l d).trans (congrFun (V3_v1 m ρ c) _)
  wih k d := (blk1_1 (V3 m ρ) c t k d).trans (congrFun (W3_args m ρ c main_arg11 (by decide)) _)
  whh k d := (blk1_2 (V3 m ρ) c t k d).trans (congrFun (W3_args m ρ c main_arg12 (by decide)) _)
  bih k := (blk1_3 (V3 m ρ) c t k).trans (V3_v2 m ρ c k)
  bhh k := (blk1_4 (V3 m ρ) c t k).trans (V3_v3 m ρ c k)
  dih k d := (blk1_5 (V3 m ρ) c t k d).trans (congrFun (W3_args m ρ c main_arg15 (by decide)) _)
  dhh k d := (blk1_6 (V3 m ρ) c t k d).trans (congrFun (W3_args m ρ c main_arg16 (by decide)) _)
  dbi k := (blk1_7 (V3 m ρ) c t k).trans (V3_v4 m ρ c k)
  dbh k := (blk1_8 (V3 m ρ) c t k).trans (V3_v5 m ρ c k)
  pe p d := (blk1_9 (V3 m ρ) c t p d).trans (congrFun (W3_args m ρ c main_arg8 (by decide)) _)

/-- The encoded question. -/
def encA (c : Dev nD) : FVec Ideal S50x128 .f32 := fun j => (ques m c).enc (j 0) (j 1)

/-- The instructions. -/
def insA (c : Dev nD) : FVec Ideal S8x50x128 .f32 := fun j => (ques m c).ins (j 1) (j 0) (j 2)

/-- The similarities to the properties. -/
def fooA (c : Dev nD) : FVec Ideal S8x50x9 .f32 := fun j => (ques m c).foo (j 1) (j 0) (j 2)

theorem final1_10 (c : Dev nD) : (dat1 (V3 m ρ) c).arrAt 10 cfg1.N = encA m c := by
  refine (dat1 (V3 m ρ) c).arrAt_eq_of_covers 10 _ (by decide +kernel) fun t _ y => ?_
  blk_simp
  rw [after1_10]
  obtain ⟨g, d, rfl⟩ : ∃ (g : Fin 50) (d : Fin 128), y = ix2 g d := ⟨y 0, y 1, by idx_ext⟩
  have hy : ((cfg1.win 10).blk t).view.emb (ix2 g d) = (ix2 g d : S50x128.Idx) := by
    blk_ext [idx1 t]
  exact ((holds m ρ c t).enc_at g d).trans (congrArg (encA m c) hy).symm

theorem final1_11 (c : Dev nD) : (dat1 (V3 m ρ) c).arrAt 11 cfg1.N = insA m c := by
  refine (dat1 (V3 m ρ) c).arrAt_eq_of_covers 11 _ (by decide +kernel) fun t _ y => ?_
  blk_simp
  rw [after1_11]
  obtain ⟨b, g, d, rfl⟩ : ∃ (b : Fin 8) (g : Fin 50) (d : Fin 128), y = ix3 b g d := ⟨y 0, y 1, y 2, by idx_ext⟩
  have hy : ((cfg1.win 11).blk t).view.emb (ix3 b g d) = (ix3 b g d : S8x50x128.Idx) := by
    blk_ext [idx1 t]
  exact ((holds m ρ c t).ins_at g b d).trans (congrArg (insA m c) hy).symm

theorem final1_12 (c : Dev nD) : (dat1 (V3 m ρ) c).arrAt 12 cfg1.N = fooA m c := by
  refine (dat1 (V3 m ρ) c).arrAt_eq_of_covers 12 _ (by decide +kernel) fun t _ y => ?_
  blk_simp
  rw [after1_12]
  obtain ⟨b, g, p, rfl⟩ : ∃ (b : Fin 8) (g : Fin 50) (p : Fin 9), y = ix3 b g p := ⟨y 0, y 1, y 2, by idx_ext⟩
  have hy : ((cfg1.win 12).blk t).view.emb (ix3 b g p) = (ix3 b g p : S8x50x9.Idx) := by
    blk_ext [idx1 t]
  exact ((holds m ρ c t).foo_at g b p).trans (congrArg (fooA m c) hy).symm

theorem W4_v6_0 (c : Dev nD) : W4 m ρ c (Proc.devRef .tc main_v6_0) = encA m c := (W4_arr m ρ c 10).trans (final1_10 m ρ c)
theorem W4_v6_1 (c : Dev nD) : W4 m ρ c (Proc.devRef .tc main_v6_1) = insA m c := (W4_arr m ρ c 11).trans (final1_11 m ρ c)
theorem W4_v6_2 (c : Dev nD) : W4 m ρ c (Proc.devRef .tc main_v6_2) = fooA m c := (W4_arr m ρ c 12).trans (final1_12 m ρ c)

theorem V5_v7 (c : Dev nD) (g : Fin 50) (t : Fin 8) (d : Fin 128) : V5 m ρ c main_v7 (ix3 g t d) = (args m c).ins g t d := by
  have h : V5 m ρ c main_v7 = transpose S50x8x128 [1, 0, 2] (W4 m ρ c (Proc.devRef .tc main_v6_1) : FVec Ideal S8x50x128 .f32) transposes_S8x50x128_S50x8x128_1_0_2 := by
    show StableHlo.after hostOps2 (W4 m ρ c) (Proc.devRef .tc main_v7) = _
    entry_read
    try rfl
  rw [h, W4_v6_1]
  change _ = insA m c (ix3 t g d)
  pointwise

theorem V5_v8 (c : Dev nD) (g : Fin 50) (t : Fin 8) (p : Fin 9) : V5 m ρ c main_v8 (ix3 g t p) = (args m c).foo g t p := by
  have h : V5 m ρ c main_v8 = transpose S50x8x9 [1, 0, 2] (W4 m ρ c (Proc.devRef .tc main_v6_2) : FVec Ideal S8x50x9 .f32) transposes_S8x50x9_S50x8x9_1_0_2 := by
    show StableHlo.after hostOps2 (W4 m ρ c) (Proc.devRef .tc main_v8) = _
    entry_read
    try rfl
  rw [h, W4_v6_2]
  change _ = fooA m c (ix3 t g p)
  pointwise

theorem W6_v7 (c : Dev nD) : W6 m ρ c (Proc.devRef .tc main_v7) = V5 m ρ c main_v7 := W6_of m ρ c main_v7 (by decide)

theorem W8_v8 (c : Dev nD) : W8 m ρ c (Proc.devRef .tc main_v8) = V5 m ρ c main_v8 :=
  (W8_of m ρ c main_v8 (by decide)).trans ((W7_of m ρ c main_v8 (by decide)).trans (W6_of m ρ c main_v8 (by decide)))

theorem V7_v7 (c : Dev nD) (g : Fin 50) (t : Fin 8) (d : Fin 128) : V7 m ρ c main_v7 (ix3 g t d) = (args m c).ins g t d :=
  (congrFun ((W7_of m ρ c main_v7 (by decide)).trans (W6_v7 m ρ c)) _).trans (V5_v7 m ρ c g t d)

theorem V7_v8 (c : Dev nD) (g : Fin 50) (t : Fin 8) (p : Fin 9) : V7 m ρ c main_v8 (ix3 g t p) = (args m c).foo g t p :=
  (congrFun ((W7_of m ρ c main_v8 (by decide)).trans (W6_of m ρ c main_v8 (by decide))) _).trans (V5_v8 m ρ c g t p)

theorem V11_v6_0 (c : Dev nD) (g : Fin 50) (d : Fin 128) : V11 m ρ c main_v6_0 (ix2 g d) = (args m c).enc g d :=
  congrFun ((W11_of m ρ c main_v6_0 (by decide)).trans ((W10_of m ρ c main_v6_0 (by decide)).trans ((W9_of m ρ c main_v6_0 (by decide)).trans ((W8_of m ρ c main_v6_0 (by decide)).trans
    ((W7_of m ρ c main_v6_0 (by decide)).trans ((W6_of m ρ c main_v6_0 (by decide)).trans ((W5_of m ρ c main_v6_0 (by decide)).trans (W4_v6_0 m ρ c)))))))) _

end Cert.KernelIdeal.Value

end
-- ==== Proof.Edges.lean ====
module

public import proofs.«01_k».proof.Proof.Maths
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Edges

open Cert.KernelIdeal Cert.KernelIdeal.Gen Cert.Maths

theorem block_at (x0 : Vec Ideal S1x6400x128 .f32) (x1 : Vec Ideal S128x128 .f32) (x2 : Vec Ideal S1x8x128 .f32) (x3 : Vec Ideal S1x128 .f32) (t : Fin 8) (e : Fin 6400) :
    out2_4 x0 x1 x2 x3 (ix3 0 t e) = ∑ d : Fin 128, x3 (ix2 0 d) * elu ((∑ k : Fin 128, x0 (ix3 0 e k) * x1 (ix2 d k)) * x2 (ix3 0 t d)) := by
  unfold_out out2_4
  frame_out
  unfold elu
  fin_cases t <;>
  pointwise! [k2_pay1, k2_pay2, k2_pay3, k2_pay4, k2_pay5, k2_pay6, k2_pay7, k2_pay8, k2_pay9, k2_pay10, k2_pay11, k2_pay12, k2_pay13]

end Cert.KernelIdeal.Edges

end
-- ==== Proof.Nodes.lean ====
module

public import proofs.«01_k».proof.Proof.Maths
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Nodes

open Cert.KernelIdeal Cert.KernelIdeal.Gen Cert.Maths

theorem scores_at (x0 : Vec Ideal S1x200x8x128 .f32) (x1 : Vec Ideal S8x128x128 .f32) (x2 : Vec Ideal S1x8x128 .f32) (x3 : Vec Ideal S1x8x9 .f32) (x4 : Vec Ideal S1x128 .f32) (t : Fin 8) (n : Fin 200) :
    out3_5 x0 x1 x2 x3 x4 (ix3 0 t n) = ∑ d : Fin 128, x4 (ix2 0 d) * elu (x2 (ix3 0 t d)
      * ∑ p : Fin 8, (∑ j : Fin 128, x0 (ix4 0 n p j) * x1 (ix3 p d j)) * x3 (ix3 0 t p.castSucc)) := by
  simp only [Fin.sum_univ_eight]
  unfold_out out3_5
  frame_out
  unfold elu
  fin_cases t <;>
  pointwise! [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39]

theorem means_at (x0 : Vec Ideal S1x200x8x128 .f32) (x1 : Vec Ideal S8x128x128 .f32) (x2 : Vec Ideal S1x8x128 .f32) (x3 : Vec Ideal S1x8x9 .f32) (x4 : Vec Ideal S1x128 .f32) (n : Fin 200) (d : Fin 128) :
    out3_6 x0 x1 x2 x3 x4 (ix3 0 n d) = ∑ p : Fin 8, x0 (ix4 0 n p d) * x3 (ix3 0 7 p.castSucc) := by
  simp only [Fin.sum_univ_eight]
  unfold_out out3_6
  frame_out
  pointwise! [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39]

end Cert.KernelIdeal.Nodes

end
-- ==== Proof.Loop.lean ====
module

public import proofs.«01_k».proof.Proof.Maths
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Loop

open Cert.KernelIdeal Cert.KernelIdeal.Gen Cert.Maths

/-! The eight reasoning steps of one graph, read off the body as one step repeated. -/

/-- The body's softmax of a row. -/
def smaxV (x : FVec Ideal S1x200 .f32) : FVec Ideal S1x200 .f32 :=
  have e : FVec Ideal S1x200 .f32 := exp (subf x (broadcastTo S1x200 (shapeCast S1x1 (multiReduction .maximumf [1] S1 x 0xFF800000#32 reduces_S1x200_S1 (.inl rfl) rfl) shapeCasts_S1_S1x1) broadcasts_S1x1_S1x200))
  divf e (broadcastTo S1x200 (shapeCast S1x1 (multiReduction .add [1] S1 e 0x00000000#32 reduces_S1x200_S1 (.inl rfl) rfl) shapeCasts_S1_S1x1) broadcasts_S1x1_S1x200)

/-- What the edges carry to the nodes: `x` read at the sources, times `w`, summed at the targets. -/
def aggV (s d : FVec Ideal S200x6400 .f32) (w : FVec Ideal S1x6400 .f32) (x : FVec Ideal S1x200 .f32) : FVec Ideal S1x200 .f32 :=
  matmul dot_S1x6400_S200x6400_S1x200_1_1_0_0_n_n none
    (mulf w (matmul dot_S1x200_S200x6400_S1x6400_1_0_0_1_n_n none x s (constant S1x6400 .f32 0x00000000#32))) d (constant S1x200 .f32 0x00000000#32)

/-- The mean of `p` and `q` at the weight `r`. -/
def mixV (r : Ideal .f32) (p q : FVec Ideal S1x200 .f32) : FVec Ideal S1x200 .f32 :=
  addf (mulf (broadcast S1x200 r) p) (mulf (broadcast S1x200 (Scalar.subf (Scalar.ofBits .f32 0x3F800000#32) r)) q)

/-- One step of the body. -/
def tripV (s d : FVec Ideal S200x6400 .f32) (w : FVec Ideal S1x6400 .f32) (q : FVec Ideal S1x200 .f32) (r : Vec Ideal S1x1x1 .f32) (x : FVec Ideal S1x200 .f32) : FVec Ideal S1x200 .f32 :=
  mixV (extractAt ![0, 0, 0] r inpos_S1x1x1_p0_0_0) (smaxV (aggV s d w x)) (smaxV q)

/-- The eight steps. -/
def tripsV (s d : FVec Ideal S200x6400 .f32) (ev : FVec Ideal S8x6400 .f32) (nv : FVec Ideal S8x200 .f32) (r : Vec Ideal S1x1x8 .f32) (x : FVec Ideal S1x200 .f32) : FVec Ideal S1x200 .f32 :=
  have x := tripV s d (extractStridedSlice S1x6400 ![0, 0] ev slices_S8x6400_o0_0_S1x6400) (extractStridedSlice S1x200 ![0, 0] nv slices_S8x200_o0_0_S1x200) (View.ld r r4_4) x
  have x := tripV s d (extractStridedSlice S1x6400 ![1, 0] ev slices_S8x6400_o1_0_S1x6400) (extractStridedSlice S1x200 ![1, 0] nv slices_S8x200_o1_0_S1x200) (View.ld r r4_5) x
  have x := tripV s d (extractStridedSlice S1x6400 ![2, 0] ev slices_S8x6400_o2_0_S1x6400) (extractStridedSlice S1x200 ![2, 0] nv slices_S8x200_o2_0_S1x200) (View.ld r r4_6) x
  have x := tripV s d (extractStridedSlice S1x6400 ![3, 0] ev slices_S8x6400_o3_0_S1x6400) (extractStridedSlice S1x200 ![3, 0] nv slices_S8x200_o3_0_S1x200) (View.ld r r4_7) x
  have x := tripV s d (extractStridedSlice S1x6400 ![4, 0] ev slices_S8x6400_o4_0_S1x6400) (extractStridedSlice S1x200 ![4, 0] nv slices_S8x200_o4_0_S1x200) (View.ld r r4_8) x
  have x := tripV s d (extractStridedSlice S1x6400 ![5, 0] ev slices_S8x6400_o5_0_S1x6400) (extractStridedSlice S1x200 ![5, 0] nv slices_S8x200_o5_0_S1x200) (View.ld r r4_9) x
  have x := tripV s d (extractStridedSlice S1x6400 ![6, 0] ev slices_S8x6400_o6_0_S1x6400) (extractStridedSlice S1x200 ![6, 0] nv slices_S8x200_o6_0_S1x200) (View.ld r r4_10) x
  tripV s d (extractStridedSlice S1x6400 ![7, 0] ev slices_S8x6400_o7_0_S1x6400) (extractStridedSlice S1x200 ![7, 0] nv slices_S8x200_o7_0_S1x200) (View.ld r r4_11) x

/-- The nodes' sum at the last distribution. -/
def lastV (x : FVec Ideal S1x200 .f32) (a : Vec Ideal S1x200x128 .f32) : FVec Ideal S1x1x128 .f32 :=
  shapeCast S1x1x128 (matmul dot_S1x200_S200x128_S1x128_1_0_0_1_n_n none x (shapeCast S200x128 a shapeCasts_S1x200x128_S200x128 : FVec Ideal S200x128 .f32) (constant S1x128 .f32 0x00000000#32)) shapeCasts_S1x128_S1x1x128

theorem out4_7_steps (i : grid4.Coords) (x0 x1 : Vec Ideal S1x1x6400 .i32) (x2 : Vec Ideal S1x8x6400 .f32) (x3 : Vec Ideal S1x8x200 .f32) (x4 : Vec Ideal S1x1x8 .f32) (x5 : Vec Ideal S1x1x1 .f32) (x6 : Vec Ideal S1x200x128 .f32) :
    out4_7 i x0 x1 x2 x3 x4 x5 x6 = lastV (tripsV (k4_pay2 i x0) (k4_pay3 i x1) (k4_pay4 x2) (k4_pay5 x3) x4 (k4_pay6 x5)) x6 := by
  unfold_out out4_7
  frame_out
  unfold tripsV tripV mixV lastV
  dsimp only

  rfl

theorem smaxV_at (x : FVec Ideal S1x200 .f32) (n : Fin 200) : smaxV x (ix2 0 n) = softmax (fun k => x (ix2 0 k)) n := by
  have hb : Ideal.ofBits .f32 0xFF800000#32 = ⊥ := by simp [Ideal.ofBits, Ideal.ieee]
  unfold softmax top
  rw [← hb]
  pointwise [smaxV]

theorem aggV_at (s d : FVec Ideal S200x6400 .f32) (w : FVec Ideal S1x6400 .f32) (x : FVec Ideal S1x200 .f32) (n : Fin 200) :
    aggV s d w x (ix2 0 n) = ∑ e : Fin 6400, w (ix2 0 e) * (∑ k : Fin 200, x (ix2 0 k) * s (ix2 k e)) * d (ix2 n e) := by
  pointwise [aggV]

theorem sitofp_one : (FloatOps.sitofp FTy.f32 (BitVec.setWidth 32 (BitVec.ofBool true)) : Ideal .f32) = (1 : EReal) := by
  change ((((BitVec.setWidth 32 (BitVec.ofBool true)).toInt : ℝ)) : EReal) = 1
  rw [show (BitVec.setWidth 32 (BitVec.ofBool true)).toInt = 1 by decide]
  norm_num

theorem sitofp_zero : (FloatOps.sitofp FTy.f32 (BitVec.setWidth 32 (BitVec.ofBool false)) : Ideal .f32) = (0 : EReal) := by
  change ((((BitVec.setWidth 32 (BitVec.ofBool false)).toInt : ℝ)) : EReal) = 0
  rw [show (BitVec.setWidth 32 (BitVec.ofBool false)).toInt = 0 by decide]
  norm_num

theorem pay2_at (i : grid4.Coords) (x : Vec Ideal S1x1x6400 .i32) (n : Fin 200) (e : Fin 6400) :
    k4_pay2 (F := Ideal) i x (ix2 n e) = if BitVec.ofNat 32 n.val = x (ix3 0 0 e) - BitVec.ofNat 32 (i 0).val * 200#32 then 1 else 0 := by
  pointwise [k4_pay2]
  change FloatOps.sitofp FTy.f32 (BitVec.setWidth 32 (IntOp.cmpi .eq (BitVec.ofNat 32 n.val) (x (ix3 0 0 e) - BitVec.ofNat 32 (i 0).val * 200#32))) = _
  rw [WordCmp.cmpi_eq_eq]
  by_cases h : BitVec.ofNat 32 n.val = x (ix3 0 0 e) - BitVec.ofNat 32 (i 0).val * 200#32
  · rw [if_pos h, decide_eq_true h]
    exact sitofp_one
  · rw [if_neg h, decide_eq_false h]
    exact sitofp_zero

theorem pay3_at (i : grid4.Coords) (x : Vec Ideal S1x1x6400 .i32) (n : Fin 200) (e : Fin 6400) :
    k4_pay3 (F := Ideal) i x (ix2 n e) = if BitVec.ofNat 32 n.val = x (ix3 0 0 e) - BitVec.ofNat 32 (i 0).val * 200#32 then 1 else 0 := pay2_at i x n e

theorem pay6_at (x : Vec Ideal S1x1x1 .f32) (n : Fin 200) : k4_pay6 (F := Ideal) x (ix2 0 n) = Ideal.div 1 (x (ix3 0 0 0)) := by
  pointwise [k4_pay6]

theorem lastV_at (x : FVec Ideal S1x200 .f32) (a : Vec Ideal S1x200x128 .f32) (f : Fin 128) :
    lastV x a (ix3 0 0 f) = ∑ n : Fin 200, x (ix2 0 n) * a (ix3 0 n f) := by
  pointwise [lastV]

theorem tripV_at (s d : FVec Ideal S200x6400 .f32) (w : FVec Ideal S1x6400 .f32) (q : FVec Ideal S1x200 .f32) (r : Vec Ideal S1x1x1 .f32) (x : FVec Ideal S1x200 .f32)
    (src dst : Fin 6400 → Fin 200) (hs : ∀ k e, s (ix2 k e) = if k = src e then 1 else 0) (hd : ∀ k e, d (ix2 k e) = if k = dst e then 1 else 0)
    (w' : Fin 6400 → EReal) (hw : ∀ e, w (ix2 0 e) = w' e) (q' : Fin 200 → EReal) (hq : ∀ n, q (ix2 0 n) = q' n) (r' : EReal) (hr : r (ix3 0 0 0) = r')
    (x' : Fin 200 → EReal) (hx : ∀ n, x (ix2 0 n) = x' n) (n : Fin 200) :
    tripV s d w q r x (ix2 0 n) = trip src dst w' q' r' x' n := by
  have h1 : tripV s d w q r x (ix2 0 n) = r (ix3 0 0 0) * smaxV (aggV s d w x) (ix2 0 n) + (1 - r (ix3 0 0 0)) * smaxV q (ix2 0 n) := by
    pointwise [tripV, mixV]
  rw [h1, smaxV_at, smaxV_at, hr]
  have h2 : (fun k => aggV s d w x (ix2 0 k)) = carry src dst w' x' := by
    funext k
    rw [aggV_at]
    unfold carry
    refine Finset.sum_congr rfl fun e _ => ?_
    have h3 : (∑ k : Fin 200, x (ix2 0 k) * s (ix2 k e)) = x' (src e) := by
      simp only [hs, hx]
      exact sum_pick x' (src e) _ (if_pos rfl) fun i hi => if_neg hi
    rw [h3, hw, hd]
    by_cases h : k = dst e
    · rw [if_pos h, if_pos h.symm, mul_one]
    · rw [if_neg h, if_neg (Ne.symm h), mul_zero]
  have h4 : (fun k => q (ix2 0 k)) = q' := funext hq
  rw [h2, h4]
  rfl

/-- The block that one grid point leaves, when the two index rows name the nodes `src` and `dst` of the graph. -/
theorem block_at (i : grid4.Coords) (x0 x1 : Vec Ideal S1x1x6400 .i32) (x2 : Vec Ideal S1x8x6400 .f32) (x3 : Vec Ideal S1x8x200 .f32) (x4 : Vec Ideal S1x1x8 .f32) (x5 : Vec Ideal S1x1x1 .f32) (x6 : Vec Ideal S1x200x128 .f32)
    (src dst : Fin 6400 → Fin 200)
    (hs : ∀ (k : Fin 200) e, BitVec.ofNat 32 k.val = x0 (ix3 0 0 e) - BitVec.ofNat 32 (i 0).val * 200#32 ↔ k = src e)
    (hd : ∀ (k : Fin 200) e, BitVec.ofNat 32 k.val = x1 (ix3 0 0 e) - BitVec.ofNat 32 (i 0).val * 200#32 ↔ k = dst e) (f : Fin 128) :
    out4_7 i x0 x1 x2 x3 x4 x5 x6 (ix3 0 0 f)
      = ∑ n : Fin 200, walk src dst (fun t e => x2 (ix3 0 t e)) (fun t n => x3 (ix3 0 t n)) (fun t => x4 (ix3 0 0 t)) (fun _ => Ideal.div 1 (x5 (ix3 0 0 0))) 8 n * x6 (ix3 0 n f) := by
  rw [out4_7_steps, lastV_at]
  refine Finset.sum_congr rfl fun n _ => congrArg (· * _) ?_
  unfold tripsV
  have h2 : ∀ k e, k4_pay2 (F := Ideal) i x0 (ix2 k e) = if k = src e then 1 else 0 := fun k e => by
    rw [pay2_at]; exact if_congr (hs k e) rfl rfl
  have h3 : ∀ k e, k4_pay3 (F := Ideal) i x1 (ix2 k e) = if k = dst e then 1 else 0 := fun k e => by
    rw [pay3_at]; exact if_congr (hd k e) rfl rfl
  refine tripV_at _ _ _ _ _ _ src dst h2 h3 (fun e => x2 (ix3 0 7 e)) (fun e => ?_) (fun n => x3 (ix3 0 7 n)) (fun n => ?_) (x4 (ix3 0 0 7)) ?_ _ (fun n => ?_) n
  · pointwise [k4_pay4]
  · pointwise [k4_pay5]
  · pointwise
  refine tripV_at _ _ _ _ _ _ src dst h2 h3 (fun e => x2 (ix3 0 6 e)) (fun e => ?_) (fun n => x3 (ix3 0 6 n)) (fun n => ?_) (x4 (ix3 0 0 6)) ?_ _ (fun n => ?_) n
  · pointwise [k4_pay4]
  · pointwise [k4_pay5]
  · pointwise
  refine tripV_at _ _ _ _ _ _ src dst h2 h3 (fun e => x2 (ix3 0 5 e)) (fun e => ?_) (fun n => x3 (ix3 0 5 n)) (fun n => ?_) (x4 (ix3 0 0 5)) ?_ _ (fun n => ?_) n
  · pointwise [k4_pay4]
  · pointwise [k4_pay5]
  · pointwise
  refine tripV_at _ _ _ _ _ _ src dst h2 h3 (fun e => x2 (ix3 0 4 e)) (fun e => ?_) (fun n => x3 (ix3 0 4 n)) (fun n => ?_) (x4 (ix3 0 0 4)) ?_ _ (fun n => ?_) n
  · pointwise [k4_pay4]
  · pointwise [k4_pay5]
  · pointwise
  refine tripV_at _ _ _ _ _ _ src dst h2 h3 (fun e => x2 (ix3 0 3 e)) (fun e => ?_) (fun n => x3 (ix3 0 3 n)) (fun n => ?_) (x4 (ix3 0 0 3)) ?_ _ (fun n => ?_) n
  · pointwise [k4_pay4]
  · pointwise [k4_pay5]
  · pointwise
  refine tripV_at _ _ _ _ _ _ src dst h2 h3 (fun e => x2 (ix3 0 2 e)) (fun e => ?_) (fun n => x3 (ix3 0 2 n)) (fun n => ?_) (x4 (ix3 0 0 2)) ?_ _ (fun n => ?_) n
  · pointwise [k4_pay4]
  · pointwise [k4_pay5]
  · pointwise
  refine tripV_at _ _ _ _ _ _ src dst h2 h3 (fun e => x2 (ix3 0 1 e)) (fun e => ?_) (fun n => x3 (ix3 0 1 n)) (fun n => ?_) (x4 (ix3 0 0 1)) ?_ _ (fun n => ?_) n
  · pointwise [k4_pay4]
  · pointwise [k4_pay5]
  · pointwise
  refine tripV_at _ _ _ _ _ _ src dst h2 h3 (fun e => x2 (ix3 0 0 e)) (fun e => ?_) (fun n => x3 (ix3 0 0 n)) (fun n => ?_) (x4 (ix3 0 0 0)) ?_ _ (fun n => ?_) n
  · pointwise [k4_pay4]
  · pointwise [k4_pay5]
  · pointwise
  exact pay6_at x5 n

end Cert.KernelIdeal.Loop

end
-- ==== Proof.Final.lean ====
module

public import proofs.«01_k».proof.Proof.Maths
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.Maths

theorem block_at (x0 x1 : Vec Ideal S50x128 .f32) (x2 : Vec Ideal S2000x256 .f32) (x3 : Vec Ideal S1x2000 .f32) (g : Fin 50) (o : Fin 2000) :
    out5_4 x0 x1 x2 x3 (ix2 g o) = (∑ d : Fin 128, x0 (ix2 g d) * x2 (ix2 o (d.castAdd 128))) + (∑ d : Fin 128, x1 (ix2 g d) * x2 (ix2 o (d.natAdd 128))) + x3 (ix2 0 o) := by
  unfold out5_4
  frame_out
  pointwise! [k5_pay1]

end Cert.KernelIdeal.Final

end
-- ==== Proof.KernelValue.lean ====
module

public import proofs.«01_k».proof.Proof.KernelQuestion
public import proofs.«01_k».proof.Proof.Edges
public import proofs.«01_k».proof.Proof.Nodes
public import proofs.«01_k».proof.Proof.Loop
public import proofs.«01_k».proof.Proof.Final

@[expose] public section

set_option maxRecDepth 16384

noncomputable section

open Idealize.ShloMosaic Idealize.ShloMosaic.TcCoe Idealize.SL.Sem
open Idealize.ShloMosaic.Pipeline (Dat)

/-! The buffers the other four calls leave, as functions of the arguments. -/

namespace Cert.KernelIdeal.Value

open Cert.KernelIdeal Cert.KernelIdeal.Gen Cert.Maths

variable (m : (ℓ : Loc nD τ sig) → Buf (Elt Ideal) ℓ) (ρ : Dev nD → PrngReg)

theorem idx2 : ∀ t : Fin cfg2.N, win2_0.index t = ![t.val, 0, 0] ∧ win2_1.index t = ![0, 0] ∧ win2_2.index t = ![t.val, 0, 0] ∧ win2_3.index t = ![0, 0] ∧ win2_4.index t = ![t.val, 0, 0] :=
  (by decide +kernel : ∀ t : Fin grid2.N, _)

theorem cast_edges (a : FVec Ideal S320000x128 .f32) (g : Fin 50) (e : Fin 6400) (k : Fin 128) :
    shapeCast S50x6400x128 a shapeCasts_S320000x128_S50x6400x128 (ix3 g e k) = a (ix2 (edge g e) k) := by
  unfold edge
  pointwise

theorem V5_v9 (c : Dev nD) (g : Fin 50) (e : Fin 6400) (k : Fin 128) : V5 m ρ c main_v9 (ix3 g e k) = (args m c).ea (edge g e) k := by
  have h : V5 m ρ c main_v9 = shapeCast S50x6400x128 (W4 m ρ c (Proc.devRef .tc main_arg1) : FVec Ideal S320000x128 .f32) shapeCasts_S320000x128_S50x6400x128 := by
    show StableHlo.after hostOps2 (W4 m ρ c) (Proc.devRef .tc main_v9) = _
    entry_read
    rfl
  rw [h, cast_edges, W4_args m ρ c main_arg1 (by decide)]
  rfl

theorem V5_v10 (c : Dev nD) (d : Fin 128) : V5 m ρ c main_v10 (ix2 0 d) = (args m c).wrel d := by
  have h : V5 m ρ c main_v10 = shapeCast S1x128 (W4 m ρ c (Proc.devRef .tc main_arg22) : FVec Ideal S128 .f32) shapeCasts_S128_S1x128 := by
    show StableHlo.after hostOps2 (W4 m ρ c) (Proc.devRef .tc main_v10) = _
    entry_read
    rfl
  rw [h, W4_args m ρ c main_arg22 (by decide)]
  change _ = m ((c : Thread nD τ).loc main_arg22) (ix1 d)
  pointwise

section
variable (V : (c : Dev nD) → (b : Ref sig .tc) → Buf (Elt Ideal) ((c : Thread nD τ).loc b))
theorem blk2_0 (c : Dev nD) (t : Fin cfg2.N) (e : Fin 6400) (k : Fin 128) : iblk2 V c 0 t (ix3 0 e k) = V c main_v9 (ix3 (⟨t.val, t.isLt⟩ : Fin 50) e k) := by
  blk_ext [iblk2, idx2 t]
theorem blk2_1 (c : Dev nD) (t : Fin cfg2.N) (d k : Fin 128) : iblk2 V c 1 t (ix2 d k) = V c main_arg20 (ix2 d k) := by
  blk_ext [iblk2, idx2 t]
theorem blk2_2 (c : Dev nD) (t : Fin cfg2.N) (b : Fin 8) (d : Fin 128) : iblk2 V c 2 t (ix3 0 b d) = V c main_v7 (ix3 (⟨t.val, t.isLt⟩ : Fin 50) b d) := by
  blk_ext [iblk2, idx2 t]
theorem blk2_3 (c : Dev nD) (t : Fin cfg2.N) (d : Fin 128) : iblk2 V c 3 t (ix2 0 d) = V c main_v10 (ix2 0 d) := by
  blk_ext [iblk2, idx2 t]
end

/-- The scores of the edges. -/
def evA (c : Dev nD) : FVec Ideal S50x8x6400 .f32 := fun j => (args m c).ev (j 0) (j 1) (j 2)

theorem point2 (c : Dev nD) (t : Fin cfg2.N) (y : S1x8x6400.Idx) :
    out2_4 (iblk2 (V5 m ρ) c 0 t) (iblk2 (V5 m ρ) c 1 t) (iblk2 (V5 m ρ) c 2 t) (iblk2 (V5 m ρ) c 3 t) y = evA m c (((cfg2.win 4).blk t).view.emb y) := by
  obtain ⟨a, b, e, rfl⟩ : ∃ (a : Fin 1) (b : Fin 8) (e : Fin 6400), y = ix3 a b e := ⟨y 0, y 1, y 2, by idx_ext⟩
  obtain rfl : a = 0 := Subsingleton.elim _ _
  have hy : ((cfg2.win 4).blk t).view.emb (ix3 (0 : Fin 1) b e) = (ix3 (⟨t.val, t.isLt⟩ : Fin 50) b e : S50x8x6400.Idx) := by
    blk_ext [idx2 t]
  rw [hy]
  refine (Edges.block_at _ _ _ _ b e).trans ?_
  change _ = ∑ d : Fin 128, (args m c).wrel d * (args m c).es ⟨t.val, t.isLt⟩ b e d
  refine Finset.sum_congr rfl fun d _ => ?_
  have h3 := (blk2_3 (V5 m ρ) c t d).trans (V5_v10 m ρ c d)
  have h2 : iblk2 (V5 m ρ) c 2 t (ix3 0 b d) = (args m c).ins ⟨t.val, t.isLt⟩ b d := (blk2_2 (V5 m ρ) c t b d).trans (V5_v7 m ρ c _ b d)
  have h1 : ∀ k, iblk2 (V5 m ρ) c 1 t (ix2 d k) = (args m c).we d k := fun k => (blk2_1 (V5 m ρ) c t d k).trans (congrFun (W5_args m ρ c main_arg20 (by decide)) _)
  have h0 : ∀ k : Fin 128, iblk2 (V5 m ρ) c 0 t (ix3 0 e k) = (args m c).ea (edge ⟨t.val, t.isLt⟩ e) k := fun k => (blk2_0 (V5 m ρ) c t e k).trans (V5_v9 m ρ c _ e k)
  exact Ideal.mul_congr h3 (congrArg elu (Ideal.mul_congr (Finset.sum_congr rfl fun k _ => Ideal.mul_congr (h0 k) (h1 k)) h2))

theorem final2 (c : Dev nD) : (dat2 (V5 m ρ) c).arrAt 4 cfg2.N = evA m c := by
  refine (dat2 (V5 m ρ) c).arrAt_eq_of_covers 4 _ (by decide +kernel) fun t _ y => ?_
  blk_simp
  rw [after2_4]
  exact point2 m ρ c t y

theorem W6_v11 (c : Dev nD) : W6 m ρ c (Proc.devRef .tc main_v11) = evA m c := (W6_arr m ρ c 4).trans (final2 m ρ c)

theorem idx3 : ∀ t : Fin cfg3.N, win3_0.index t = ![t.val, 0, 0, 0] ∧ win3_1.index t = ![0, 0, 0] ∧ win3_2.index t = ![t.val, 0, 0] ∧ win3_3.index t = ![t.val, 0, 0] ∧ win3_4.index t = ![0, 0] ∧ win3_5.index t = ![t.val, 0, 0] ∧ win3_6.index t = ![t.val, 0, 0] :=
  (by decide +kernel : ∀ t : Fin grid3.N, _)

/-- The scores of the nodes. -/
def nsvA (c : Dev nD) : FVec Ideal S50x8x200 .f32 := fun j => (args m c).nsv (j 0) (j 1) (j 2)

/-- The weighted attributes of the nodes. -/
def anpA (c : Dev nD) : FVec Ideal S50x200x128 .f32 := fun j => (args m c).anp (j 0) (j 1) (j 2)

theorem V7_v12 (c : Dev nD) (g : Fin 50) (n : Fin 200) (p : Fin 8) (j : Fin 128) : V7 m ρ c main_v12 (ix4 g n p j) = (args m c).na (node g n) p j := by
  have h : V7 m ρ c main_v12 = shapeCast S50x200x8x128 (W6 m ρ c (Proc.devRef .tc main_arg0) : FVec Ideal S10000x8x128 .f32) shapeCasts_S10000x8x128_S50x200x8x128 := by
    show StableHlo.after hostOps3 (W6 m ρ c) (Proc.devRef .tc main_v12) = _
    entry_read
    try rfl
  rw [h, W6_args m ρ c main_arg0 (by decide)]
  change _ = m ((c : Thread nD τ).loc main_arg0) (ix3 (node g n) p j)
  unfold node
  pointwise

theorem V7_v13 (c : Dev nD) (d : Fin 128) : V7 m ρ c main_v13 (ix2 0 d) = (args m c).wnode d := by
  have h : V7 m ρ c main_v13 = shapeCast S1x128 (W6 m ρ c (Proc.devRef .tc main_arg21) : FVec Ideal S128 .f32) shapeCasts_S128_S1x128 := by
    show StableHlo.after hostOps3 (W6 m ρ c) (Proc.devRef .tc main_v13) = _
    entry_read
    try rfl
  rw [h, W6_args m ρ c main_arg21 (by decide)]
  change _ = m ((c : Thread nD τ).loc main_arg21) (ix1 d)
  pointwise

section
variable (V : (c : Dev nD) → (b : Ref sig .tc) → Buf (Elt Ideal) ((c : Thread nD τ).loc b)) (c : Dev nD) (t : Fin cfg3.N)
theorem blk3_0 (n : Fin 200) (p : Fin 8) (j : Fin 128) : iblk3 V c 0 t (ix4 0 n p j) = V c main_v12 (ix4 (⟨t.val, t.isLt⟩ : Fin 50) n p j) := by
  blk_ext [iblk3, idx3 t]
theorem blk3_1 (p : Fin 8) (d j : Fin 128) : iblk3 V c 1 t (ix3 p d j) = V c main_arg19 (ix3 p d j) := by
  blk_ext [iblk3, idx3 t]
theorem blk3_2 (b : Fin 8) (d : Fin 128) : iblk3 V c 2 t (ix3 0 b d) = V c main_v7 (ix3 (⟨t.val, t.isLt⟩ : Fin 50) b d) := by
  blk_ext [iblk3, idx3 t]
theorem blk3_3 (b : Fin 8) (p : Fin 9) : iblk3 V c 3 t (ix3 0 b p) = V c main_v8 (ix3 (⟨t.val, t.isLt⟩ : Fin 50) b p) := by
  blk_ext [iblk3, idx3 t]
theorem blk3_4 (d : Fin 128) : iblk3 V c 4 t (ix2 0 d) = V c main_v13 (ix2 0 d) := by
  blk_ext [iblk3, idx3 t]
end

theorem in3_0 (c : Dev nD) (t : Fin cfg3.N) (n : Fin 200) (p : Fin 8) (j : Fin 128) : iblk3 (V7 m ρ) c 0 t (ix4 0 n p j) = (args m c).na (node ⟨t.val, t.isLt⟩ n) p j :=
  (blk3_0 (V7 m ρ) c t n p j).trans (V7_v12 m ρ c _ n p j)
theorem in3_1 (c : Dev nD) (t : Fin cfg3.N) (p : Fin 8) (d j : Fin 128) : iblk3 (V7 m ρ) c 1 t (ix3 p d j) = (args m c).wnp p d j :=
  (blk3_1 (V7 m ρ) c t p d j).trans (congrFun (W7_args m ρ c main_arg19 (by decide)) _)
theorem in3_2 (c : Dev nD) (t : Fin cfg3.N) (b : Fin 8) (d : Fin 128) : iblk3 (V7 m ρ) c 2 t (ix3 0 b d) = (args m c).ins ⟨t.val, t.isLt⟩ b d :=
  (blk3_2 (V7 m ρ) c t b d).trans (V7_v7 m ρ c _ b d)
theorem in3_3 (c : Dev nD) (t : Fin cfg3.N) (b : Fin 8) (p : Fin 9) : iblk3 (V7 m ρ) c 3 t (ix3 0 b p) = (args m c).foo ⟨t.val, t.isLt⟩ b p :=
  (blk3_3 (V7 m ρ) c t b p).trans (V7_v8 m ρ c _ b p)
theorem in3_4 (c : Dev nD) (t : Fin cfg3.N) (d : Fin 128) : iblk3 (V7 m ρ) c 4 t (ix2 0 d) = (args m c).wnode d :=
  (blk3_4 (V7 m ρ) c t d).trans (V7_v13 m ρ c d)

theorem point3_5 (c : Dev nD) (t : Fin cfg3.N) (y : S1x8x200.Idx) :
    out3_5 (iblk3 (V7 m ρ) c 0 t) (iblk3 (V7 m ρ) c 1 t) (iblk3 (V7 m ρ) c 2 t) (iblk3 (V7 m ρ) c 3 t) (iblk3 (V7 m ρ) c 4 t) y = nsvA m c (((cfg3.win 5).blk t).view.emb y) := by
  obtain ⟨a, b, n, rfl⟩ : ∃ (a : Fin 1) (b : Fin 8) (n : Fin 200), y = ix3 a b n := ⟨y 0, y 1, y 2, by idx_ext⟩
  obtain rfl : a = 0 := Subsingleton.elim _ _
  have hy : ((cfg3.win 5).blk t).view.emb (ix3 (0 : Fin 1) b n) = (ix3 (⟨t.val, t.isLt⟩ : Fin 50) b n : S50x8x200.Idx) := by
    blk_ext [idx3 t]
  rw [hy]
  refine (Nodes.scores_at _ _ _ _ _ b n).trans ?_
  change _ = (args m c).nsv ⟨t.val, t.isLt⟩ b n
  unfold Graphs.nsv
  exact Finset.sum_congr rfl fun d _ => Ideal.mul_congr (in3_4 m ρ c t d) (congrArg elu (Ideal.mul_congr (in3_2 m ρ c t b d)
    (Finset.sum_congr rfl fun p _ => Ideal.mul_congr (Finset.sum_congr rfl fun j _ => Ideal.mul_congr (in3_0 m ρ c t n p j) (in3_1 m ρ c t p d j)) (in3_3 m ρ c t b _))))

theorem point3_6 (c : Dev nD) (t : Fin cfg3.N) (y : S1x200x128.Idx) :
    out3_6 (iblk3 (V7 m ρ) c 0 t) (iblk3 (V7 m ρ) c 1 t) (iblk3 (V7 m ρ) c 2 t) (iblk3 (V7 m ρ) c 3 t) (iblk3 (V7 m ρ) c 4 t) y = anpA m c (((cfg3.win 6).blk t).view.emb y) := by
  obtain ⟨a, n, d, rfl⟩ : ∃ (a : Fin 1) (n : Fin 200) (d : Fin 128), y = ix3 a n d := ⟨y 0, y 1, y 2, by idx_ext⟩
  obtain rfl : a = 0 := Subsingleton.elim _ _
  have hy : ((cfg3.win 6).blk t).view.emb (ix3 (0 : Fin 1) n d) = (ix3 (⟨t.val, t.isLt⟩ : Fin 50) n d : S50x200x128.Idx) := by
    blk_ext [idx3 t]
  rw [hy]
  refine (Nodes.means_at _ _ _ _ _ n d).trans ?_
  change _ = (args m c).anp ⟨t.val, t.isLt⟩ n d
  unfold Graphs.anp
  exact Finset.sum_congr rfl fun p _ => Ideal.mul_congr (in3_0 m ρ c t n p d) (in3_3 m ρ c t 7 _)

theorem final3_5 (c : Dev nD) : (dat3 (V7 m ρ) c).arrAt 5 cfg3.N = nsvA m c := by
  refine (dat3 (V7 m ρ) c).arrAt_eq_of_covers 5 _ (by decide +kernel) fun t _ y => ?_
  blk_simp
  rw [after3_5]
  exact point3_5 m ρ c t y

theorem final3_6 (c : Dev nD) : (dat3 (V7 m ρ) c).arrAt 6 cfg3.N = anpA m c := by
  refine (dat3 (V7 m ρ) c).arrAt_eq_of_covers 6 _ (by decide +kernel) fun t _ y => ?_
  blk_simp
  rw [after3_6]
  exact point3_6 m ρ c t y

theorem W8_v14_0 (c : Dev nD) : W8 m ρ c (Proc.devRef .tc main_v14_0) = nsvA m c := (W8_arr m ρ c 5).trans (final3_5 m ρ c)
theorem W8_v14_1 (c : Dev nD) : W8 m ρ c (Proc.devRef .tc main_v14_1) = anpA m c := (W8_arr m ρ c 6).trans (final3_6 m ρ c)
theorem W8_v11 (c : Dev nD) : W8 m ρ c (Proc.devRef .tc main_v11) = evA m c :=
  (W8_of m ρ c main_v11 (by decide)).trans ((W7_of m ρ c main_v11 (by decide)).trans (W6_v11 m ρ c))

theorem idx4 : ∀ t : Fin cfg4.N, win4_0.index t = ![t.val, 0, 0] ∧ win4_1.index t = ![t.val, 0, 0] ∧ win4_2.index t = ![t.val, 0, 0] ∧ win4_3.index t = ![t.val, 0, 0] ∧ win4_4.index t = ![t.val, 0, 0] ∧ win4_5.index t = ![t.val, 0, 0] ∧ win4_6.index t = ![t.val, 0, 0] ∧ win4_7.index t = ![t.val, 0, 0] :=
  (by decide +kernel : ∀ t : Fin grid4.N, _)

theorem coord4 : ∀ t : Fin cfg4.N, (cfg4.grid.coords t 0).val = t.val := (by decide +kernel : ∀ t : Fin grid4.N, _)

/-- The nodes' sum at the last distribution. -/
def aggA (c : Dev nD) : FVec Ideal S50x1x128 .f32 := fun j => (args m c).agg (j 0) (j 2)

theorem V9_v17 (c : Dev nD) (g : Fin 50) (t : Fin 8) : V9 m ρ c main_v17 (ix3 g 0 t) = (args m c).foo g t (Fin.last 8) := by
  have h : V9 m ρ c main_v17 = shapeCast S50x1x8 (shapeCast S50x8 (extractStridedSlice S50x8x1 ![0, 0, 8] (W8 m ρ c (Proc.devRef .tc main_v8) : FVec Ideal S50x8x9 .f32) slices_S50x8x9_S50x8x1_0_0_8) shapeCasts_S50x8x1_S50x8 : FVec Ideal S50x8 .f32) shapeCasts_S50x8_S50x1x8 := by
    show StableHlo.after hostOps4 (W8 m ρ c) (Proc.devRef .tc main_v17) = _
    entry_read
    try rfl
  rw [h, W8_v8, ← V5_v8 m ρ c g t (Fin.last 8)]
  pointwise
  rfl

theorem V9_v20 (c : Dev nD) (g : Fin 50) (e : Fin 6400) : V9 m ρ c main_v20 (ix3 g 0 e) = (args m c).ei 0 (edge g e) := by
  have h : V9 m ρ c main_v20 = shapeCast S50x1x6400 (shapeCast S320000 (extractStridedSlice S1x320000 ![0, 0] (W8 m ρ c (Proc.devRef .tc main_arg2) : IVec S2x320000 32) slices_S2x320000_S1x320000_0_0) shapeCasts_S1x320000_S320000 : IVec S320000 32) shapeCasts_S320000_S50x1x6400 := by
    show StableHlo.after hostOps4 (W8 m ρ c) (Proc.devRef .tc main_v20) = _
    entry_read
    try rfl
  rw [h, W8_args m ρ c main_arg2 (by decide)]
  change _ = m ((c : Thread nD τ).loc main_arg2) (ix2 0 (edge g e))
  unfold edge
  pointwise

theorem V9_v23 (c : Dev nD) (g : Fin 50) (e : Fin 6400) : V9 m ρ c main_v23 (ix3 g 0 e) = (args m c).ei 1 (edge g e) := by
  have h : V9 m ρ c main_v23 = shapeCast S50x1x6400 (shapeCast S320000 (extractStridedSlice S1x320000 ![1, 0] (W8 m ρ c (Proc.devRef .tc main_arg2) : IVec S2x320000 32) slices_S2x320000_S1x320000_1_0) shapeCasts_S1x320000_S320000 : IVec S320000 32) shapeCasts_S320000_S50x1x6400 := by
    show StableHlo.after hostOps4 (W8 m ρ c) (Proc.devRef .tc main_v23) = _
    entry_read
    try rfl
  rw [h, W8_args m ρ c main_arg2 (by decide)]
  change _ = m ((c : Thread nD τ).loc main_arg2) (ix2 1 (edge g e))
  unfold edge
  pointwise

theorem V9_v24 (c : Dev nD) (g : Fin 50) : V9 m ρ c main_v24 (ix3 g 0 0) = (args m c).npg g := by
  have h : V9 m ρ c main_v24 = shapeCast S50x1x1 (W8 m ρ c (Proc.devRef .tc main_arg5) : FVec Ideal S50 .f32) shapeCasts_S50_S50x1x1 := by
    show StableHlo.after hostOps4 (W8 m ρ c) (Proc.devRef .tc main_v24) = _
    entry_read
    try rfl
  rw [h, W8_args m ρ c main_arg5 (by decide)]
  change _ = m ((c : Thread nD τ).loc main_arg5) (ix1 g)
  pointwise

section
variable (V : (c : Dev nD) → (b : Ref sig .tc) → Buf (Elt Ideal) ((c : Thread nD τ).loc b)) (c : Dev nD) (t : Fin cfg4.N)
theorem blk4_0 (e : Fin 6400) : iblk4 V c 0 t (ix3 0 0 e) = V c main_v20 (ix3 (⟨t.val, t.isLt⟩ : Fin 50) 0 e) := by
  blk_ext [iblk4, idx4 t]
theorem blk4_1 (e : Fin 6400) : iblk4 V c 1 t (ix3 0 0 e) = V c main_v23 (ix3 (⟨t.val, t.isLt⟩ : Fin 50) 0 e) := by
  blk_ext [iblk4, idx4 t]
theorem blk4_2 (b : Fin 8) (e : Fin 6400) : iblk4 V c 2 t (ix3 0 b e) = V c main_v11 (ix3 (⟨t.val, t.isLt⟩ : Fin 50) b e) := by
  blk_ext [iblk4, idx4 t]
theorem blk4_3 (b : Fin 8) (n : Fin 200) : iblk4 V c 3 t (ix3 0 b n) = V c main_v14_0 (ix3 (⟨t.val, t.isLt⟩ : Fin 50) b n) := by
  blk_ext [iblk4, idx4 t]
theorem blk4_4 (b : Fin 8) : iblk4 V c 4 t (ix3 0 0 b) = V c main_v17 (ix3 (⟨t.val, t.isLt⟩ : Fin 50) 0 b) := by
  blk_ext [iblk4, idx4 t]
theorem blk4_5 : iblk4 V c 5 t (ix3 0 0 0) = V c main_v24 (ix3 (⟨t.val, t.isLt⟩ : Fin 50) 0 0) := by
  blk_ext [iblk4, idx4 t]
theorem blk4_6 (n : Fin 200) (d : Fin 128) : iblk4 V c 6 t (ix3 0 n d) = V c main_v14_1 (ix3 (⟨t.val, t.isLt⟩ : Fin 50) n d) := by
  blk_ext [iblk4, idx4 t]
end

theorem point4 (c : Dev nD) (hG : (args m c).Good) (t : Fin cfg4.N) (y : S1x1x128.Idx) :
    out4_7 (cfg4.grid.coords t) (iblk4 (V9 m ρ) c 0 t) (iblk4 (V9 m ρ) c 1 t) (iblk4 (V9 m ρ) c 2 t) (iblk4 (V9 m ρ) c 3 t) (iblk4 (V9 m ρ) c 4 t) (iblk4 (V9 m ρ) c 5 t) (iblk4 (V9 m ρ) c 6 t) y = aggA m c (((cfg4.win 7).blk t).view.emb y) := by
  obtain ⟨a, b, d, rfl⟩ : ∃ (a : Fin 1) (b : Fin 1) (d : Fin 128), y = ix3 a b d := ⟨y 0, y 1, y 2, by idx_ext⟩
  obtain rfl : a = 0 := Subsingleton.elim _ _
  obtain rfl : b = 0 := Subsingleton.elim _ _
  have hy : ((cfg4.win 7).blk t).view.emb (ix3 (0 : Fin 1) (0 : Fin 1) d) = (ix3 (⟨t.val, t.isLt⟩ : Fin 50) (0 : Fin 1) d : S50x1x128.Idx) := by
    blk_ext [idx4 t]
  rw [hy]
  let g : Fin 50 := ⟨t.val, t.isLt⟩
  have hw : ∀ (i : Fin 2) (k : Fin 200) (e : Fin 6400), BitVec.ofNat 32 k.val = (args m c).ei i (edge g e) - BitVec.ofNat 32 (cfg4.grid.coords t 0).val * 200#32 ↔ k = (args m c).ends i g e := fun i k e => by
    rw [hG.inside i g e, coord4 t]
    exact word_diff g k _
  refine (Loop.block_at _ _ _ _ _ _ _ _ ((args m c).ends 0 g) ((args m c).ends 1 g) (fun k e => ?_) (fun k e => ?_) d).trans ?_
  · rw [blk4_0 (V9 m ρ) c t e, V9_v20]
    exact hw 0 k e
  · rw [blk4_1 (V9 m ρ) c t e, V9_v23]
    exact hw 1 k e
  change _ = ∑ n : Fin 200, (args m c).dist g 8 n * (args m c).anp g n d
  have h2 : (fun (b : Fin 8) (e : Fin 6400) => iblk4 (V9 m ρ) c 2 t (ix3 0 b e)) = (args m c).ev g := by
    funext b e
    exact (blk4_2 (V9 m ρ) c t b e).trans (congrFun ((W9_of m ρ c main_v11 (by decide)).trans (W8_v11 m ρ c)) _)
  have h3 : (fun (b : Fin 8) (n : Fin 200) => iblk4 (V9 m ρ) c 3 t (ix3 0 b n)) = (args m c).nsv g := by
    funext b n
    exact (blk4_3 (V9 m ρ) c t b n).trans (congrFun ((W9_of m ρ c main_v14_0 (by decide)).trans (W8_v14_0 m ρ c)) _)
  have h4 : (fun (b : Fin 8) => iblk4 (V9 m ρ) c 4 t (ix3 0 0 b)) = fun b => (args m c).foo g b (Fin.last 8) := by
    funext b
    exact (blk4_4 (V9 m ρ) c t b).trans (V9_v17 m ρ c g b)
  have h5 : iblk4 (V9 m ρ) c 5 t (ix3 0 0 0) = (args m c).npg g := (blk4_5 (V9 m ρ) c t).trans (V9_v24 m ρ c g)
  have h6 : ∀ n : Fin 200, iblk4 (V9 m ρ) c 6 t (ix3 0 n d) = (args m c).anp g n d := fun n =>
    (blk4_6 (V9 m ρ) c t n d).trans (congrFun ((W9_of m ρ c main_v14_1 (by decide)).trans (W8_v14_1 m ρ c)) _)
  refine Finset.sum_congr rfl fun n _ => Ideal.mul_congr ?_ (h6 n)
  rw [h2, h3, h4, h5]
  rfl

theorem final4 (c : Dev nD) (hG : (args m c).Good) : (dat4 (V9 m ρ) c).arrAt 7 cfg4.N = aggA m c := by
  refine (dat4 (V9 m ρ) c).arrAt_eq_of_covers 7 _ (by decide +kernel) fun t _ y => ?_
  blk_simp
  rw [after4_7]
  exact point4 m ρ c hG t y

theorem W10_v25 (c : Dev nD) (hG : (args m c).Good) : W10 m ρ c (Proc.devRef .tc main_v25) = aggA m c := (W10_arr m ρ c 7).trans (final4 m ρ c hG)

/-- The result. -/
def outA (c : Dev nD) : FVec Ideal S50x2000 .f32 := fun j => (args m c).out (j 0) (j 1)

theorem V11_v26 (c : Dev nD) (hG : (args m c).Good) (g : Fin 50) (d : Fin 128) : V11 m ρ c main_v26 (ix2 g d) = (args m c).agg g d := by
  have h : V11 m ρ c main_v26 = shapeCast S50x128 (W10 m ρ c (Proc.devRef .tc main_v25) : FVec Ideal S50x1x128 .f32) shapeCasts_S50x1x128_S50x128 := by
    show StableHlo.after hostOps5 (W10 m ρ c) (Proc.devRef .tc main_v26) = _
    entry_read
    try rfl
  rw [h, W10_v25 m ρ c hG]
  change _ = aggA m c (ix3 g 0 d)
  pointwise

theorem V11_v27 (c : Dev nD) (o : Fin 2000) : V11 m ρ c main_v27 (ix2 0 o) = (args m c).lb o := by
  have h : V11 m ρ c main_v27 = shapeCast S1x2000 (W10 m ρ c (Proc.devRef .tc main_arg24) : FVec Ideal S2000 .f32) shapeCasts_S2000_S1x2000 := by
    show StableHlo.after hostOps5 (W10 m ρ c) (Proc.devRef .tc main_v27) = _
    entry_read
    try rfl
  rw [h, W10_args m ρ c main_arg24 (by decide)]
  change _ = m ((c : Thread nD τ).loc main_arg24) (ix1 o)
  pointwise

theorem idx5 : ∀ t : Fin cfg5.N, win5_0.index t = ![0, 0] ∧ win5_1.index t = ![0, 0] ∧ win5_2.index t = ![0, 0] ∧ win5_3.index t = ![0, 0] ∧ win5_4.index t = ![0, 0] :=
  (by decide +kernel : ∀ t : Fin cfg5.N, _)

section
variable (V : (c : Dev nD) → (b : Ref sig .tc) → Buf (Elt Ideal) ((c : Thread nD τ).loc b)) (c : Dev nD) (t : Fin cfg5.N)
theorem blk5_0 (g : Fin 50) (d : Fin 128) : iblk5 V c 0 t (ix2 g d) = V c main_v6_0 (ix2 g d) := by
  blk_ext [iblk5, idx5 t]
theorem blk5_1 (g : Fin 50) (d : Fin 128) : iblk5 V c 1 t (ix2 g d) = V c main_v26 (ix2 g d) := by
  blk_ext [iblk5, idx5 t]
theorem blk5_2 (o : Fin 2000) (d : Fin 256) : iblk5 V c 2 t (ix2 o d) = V c main_arg23 (ix2 o d) := by
  blk_ext [iblk5, idx5 t]
theorem blk5_3 (o : Fin 2000) : iblk5 V c 3 t (ix2 0 o) = V c main_v27 (ix2 0 o) := by
  blk_ext [iblk5, idx5 t]
end

theorem point5 (c : Dev nD) (hG : (args m c).Good) (t : Fin cfg5.N) (y : S50x2000.Idx) :
    out5_4 (iblk5 (V11 m ρ) c 0 t) (iblk5 (V11 m ρ) c 1 t) (iblk5 (V11 m ρ) c 2 t) (iblk5 (V11 m ρ) c 3 t) y = outA m c (((cfg5.win 4).blk t).view.emb y) := by
  obtain ⟨g, o, rfl⟩ : ∃ (g : Fin 50) (o : Fin 2000), y = ix2 g o := ⟨y 0, y 1, by idx_ext⟩
  have hy : ((cfg5.win 4).blk t).view.emb (ix2 g o) = (ix2 g o : S50x2000.Idx) := by
    blk_ext [idx5 t]
  rw [hy]
  refine (Final.block_at _ _ _ _ g o).trans ?_
  change _ = (∑ d : Fin 128, (args m c).enc g d * (args m c).lw o (d.castAdd 128)) + (∑ d : Fin 128, (args m c).agg g d * (args m c).lw o (d.natAdd 128)) + (args m c).lb o
  have h0 : ∀ d, iblk5 (V11 m ρ) c 0 t (ix2 g d) = (args m c).enc g d := fun d => (blk5_0 (V11 m ρ) c t g d).trans (V11_v6_0 m ρ c g d)
  have h1 : ∀ d, iblk5 (V11 m ρ) c 1 t (ix2 g d) = (args m c).agg g d := fun d => (blk5_1 (V11 m ρ) c t g d).trans (V11_v26 m ρ c hG g d)
  have h2 : ∀ d, iblk5 (V11 m ρ) c 2 t (ix2 o d) = (args m c).lw o d := fun d => (blk5_2 (V11 m ρ) c t o d).trans (congrFun (W11_args m ρ c main_arg23 (by decide)) _)
  have h3 : iblk5 (V11 m ρ) c 3 t (ix2 0 o) = (args m c).lb o := (blk5_3 (V11 m ρ) c t o).trans (V11_v27 m ρ c o)
  exact congrArg₂ (· + ·) (congrArg₂ (· + ·) (Finset.sum_congr rfl fun d _ => Ideal.mul_congr (h0 d) (h2 _)) (Finset.sum_congr rfl fun d _ => Ideal.mul_congr (h1 d) (h2 _))) h3

theorem final5 (c : Dev nD) (hG : (args m c).Good) : (dat5 (V11 m ρ) c).arrAt 4 cfg5.N = outA m c := by
  refine (dat5 (V11 m ρ) c).arrAt_eq_of_covers 4 _ (by decide +kernel) fun t _ y => ?_
  blk_simp
  rw [after5_4]
  exact point5 m ρ c hG t y

theorem W12_v28 (c : Dev nD) (hG : (args m c).Good) : W12 m ρ c (Proc.devRef .tc main_v28) = outA m c := (W12_arr m ρ c 4).trans (final5 m ρ c hG)

end Cert.KernelIdeal.Value

end
-- ==== Proof.KernelRun.lean ====
module

public import proofs.«01_k».proof.Proof.KernelValue

@[expose] public section

set_option maxRecDepth 16384

noncomputable section

open Idealize.ShloMosaic Idealize.ShloMosaic.TcCoe Idealize.SL.Sem
open Idealize.ShloMosaic.Pipeline (Dat)

/-! The kernel's run. -/

namespace Cert.KernelIdeal.Value

open Cert.KernelIdeal Cert.KernelIdeal.Gen Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable {F : FTy → Type} [FloatOps F]
variable (m : (ℓ : Loc nD τ sig) → Buf (Elt F) ℓ) (ρ : Dev nD → PrngReg)

/-- Every execution ends with the result at its composed value and the arguments unchanged. -/
theorem run : θ_run defs (onTc (τ := τ) (main (F := F))) ⟨m, fun _ => 0, ρ⟩ (fun r => ∀ c : Dev nD,
      r.2.mem ((c.tc : Thread nD τ).loc main_v28) = W12 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨h c _ (mem_uc main_v28 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c)⟩)

end Cert.KernelIdeal.Value
-- ==== Proof.Pre.lean ====
module

public import proofs.«01_k».proof.Proof.Spec
public import proofs.«01_k».proof.Pre_batched_graphs
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-! The precondition, read at its indices. -/

namespace Cert.Pre_batched_graphs

/-- What the precondition's operations need of their shapes. -/
theorem facts : Facts where
  bcast_S50_S1x50x1_1 := by decide
  bcast_S_S1x50x1 := by decide
  shapeCasts_S2x320000_S2x50x6400 := by decide
  bcast_S_S128 := by decide
  bcast_S_S128x128 := by decide
  bcast_S128_S1x128_1 := by decide
  bcast_S1x128_S128x128_0_1 := by decide
  shapeCasts_S10000_S50x200 := by decide
  bcast_S50_S50x1_0 := by decide
  bcast_S50x1_S50x200_0_1 := by decide
  shapeCasts_S320000_S50x6400 := by decide
  bcast_S50x1_S50x6400_0_1 := by decide
  bcast_S1x50x1_S2x50x6400_0_1_2 := by decide
  bcast_S_S50 := by decide
  bcast_S_S10000x8x128 := by decide
  bcast_S_S320000x128 := by decide
  bcast_S_S50x20x128 := by decide
  bcast_S_S1000x128 := by decide
  bcast_S_S9x128 := by decide
  bcast_S_S8x128x128 := by decide
  bcast_S128x128_S1x128x128_1_2 := by decide
  bcast_S1x128x128_S8x128x128_0_1_2 := by decide

end Cert.Pre_batched_graphs

namespace Cert.Maths

open Cert.Pre_batched_graphs (fn fn_part1 fn_part2 fn_part3 fn_part4)

variable [Cert.Pre_batched_graphs.Facts]

theorem one_of_bool {p : Prop} [Decidable p] (h : BitVec.ofBool (decide p) = 1#1) : p := by
  by_contra hp
  rw [decide_eq_false hp] at h
  exact absurd h (by decide)

theorem eq_of_cmpi {x y : BitVec 32} (h : IntOp.cmpi .eq x y = 1#1) : x = y := one_of_bool (WordCmp.cmpi_eq_eq x y ▸ h)

theorem both_of_andi : ∀ {x y : BitVec 1}, IntOp.andi x y = 1#1 → x = 1#1 ∧ y = 1#1 := by decide

/-- Whether a number is real, as a word. -/
def realWord (x : EReal) : BitVec 1 := FloatOps.cmpf (F := Ideal) (φ := .f32) .olt (FloatOps.absf (F := Ideal) (φ := .f32) x) (Ideal.ofBits .f32 0x7F800000#32)

theorem real_of_word {x : EReal} (h : realWord x = 1#1) : IsReal x := by
  have ht : Ideal.ofBits .f32 0x7F800000#32 = ⊤ := by simp [Ideal.ofBits, Ideal.ieee]
  change BitVec.ofBool (decide (max x (-x) < Ideal.ofBits .f32 0x7F800000#32)) = 1#1 at h
  rw [ht] at h
  exact isReal_of_lt (one_of_bool h)

theorem real_at {s : Shape} (b : Cert.Pre_batched_graphs.S_.BroadcastsInDim s (![] : Fin 0 → Fin s.rank)) (v : FVec Ideal s .f32) (i : s.Idx)
    (h : cmpf .olt (Host.absf v) (broadcastInDim s ![] b (constant Cert.Pre_batched_graphs.S_ .f32 0x7F800000#32)) i = 1#1) : IsReal (v i) := real_of_word h

variable (a0 : FVec Ideal (⟨3, ![10000, 8, 128]⟩ : Shape) .f32) (a1 : FVec Ideal (⟨2, ![320000, 128]⟩ : Shape) .f32) (a2 : IVec (⟨2, ![2, 320000]⟩ : Shape) 32)
    (a3 : IVec (⟨1, ![10000]⟩ : Shape) 32) (a4 : IVec (⟨1, ![320000]⟩ : Shape) 32) (a5 : FVec Ideal (⟨1, ![50]⟩ : Shape) .f32)
    (a6 : FVec Ideal (⟨3, ![50, 20, 128]⟩ : Shape) .f32) (a7 : FVec Ideal (⟨2, ![1000, 128]⟩ : Shape) .f32) (a8 : FVec Ideal (⟨2, ![9, 128]⟩ : Shape) .f32)
    (a9 : FVec Ideal (⟨1, ![128]⟩ : Shape) .f32) (a10 : FVec Ideal (⟨2, ![128, 128]⟩ : Shape) .f32) (a11 a12 : FVec Ideal (⟨2, ![512, 128]⟩ : Shape) .f32)
    (a13 a14 : FVec Ideal (⟨1, ![512]⟩ : Shape) .f32) (a15 a16 : FVec Ideal (⟨2, ![128, 128]⟩ : Shape) .f32) (a17 a18 : FVec Ideal (⟨1, ![128]⟩ : Shape) .f32)
    (a19 : FVec Ideal (⟨3, ![8, 128, 128]⟩ : Shape) .f32) (a20 : FVec Ideal (⟨2, ![128, 128]⟩ : Shape) .f32) (a21 a22 : FVec Ideal (⟨1, ![128]⟩ : Shape) .f32)
    (a23 : FVec Ideal (⟨2, ![2000, 256]⟩ : Shape) .f32) (a24 : FVec Ideal (⟨1, ![2000]⟩ : Shape) .f32)

/-- What the last output says of the weights. -/
theorem weights (h : (fn (F := Ideal) a0 a1 a2 a3 a4 a5 a6 a7 a8 a9 a10 a11 a12 a13 a14 a15 a16 a17 a18 a19 a20 a21 a22 a23 a24).2.2.2.2.2.2.2.2.2 = (fun _ => 1#1)) (p : Fin 8) (d k : Fin 128) :
    IsReal (a19 (ix3 p d k)) ∧ (IsReal (a10 (ix2 d k)) ∧ IsReal (a15 (ix2 d k)) ∧ IsReal (a16 (ix2 d k)) ∧ IsReal (a20 (ix2 d k)))
      ∧ IsReal (a9 (ix1 k)) ∧ IsReal (a17 (ix1 k)) ∧ IsReal (a18 (ix1 k)) ∧ IsReal (a21 (ix1 k)) ∧ IsReal (a22 (ix1 k)) := by
  have w : IntOp.andi (realWord (a19 (ix3 p d k)))
      (IntOp.andi (IntOp.andi (IntOp.andi (IntOp.andi (realWord (a10 (ix2 d k))) (realWord (a15 (ix2 d k)))) (realWord (a16 (ix2 d k)))) (realWord (a20 (ix2 d k))))
        (IntOp.andi (IntOp.andi (IntOp.andi (IntOp.andi (realWord (a9 (ix1 k))) (realWord (a17 (ix1 k)))) (realWord (a18 (ix1 k)))) (realWord (a21 (ix1 k)))) (realWord (a22 (ix1 k))))) = 1#1 := by
    refine Eq.trans ?_ (congrFun h (ix3 p d k))
    unfold realWord
    pointwise [fn, fn_part1, fn_part2, fn_part3, fn_part4]
  have ⟨w19, w⟩ := both_of_andi w
  have ⟨ws, wr⟩ := both_of_andi w
  have ⟨ws, w20⟩ := both_of_andi ws
  have ⟨ws, w16⟩ := both_of_andi ws
  have ⟨w10, w15⟩ := both_of_andi ws
  have ⟨wr, w22⟩ := both_of_andi wr
  have ⟨wr, w21⟩ := both_of_andi wr
  have ⟨wr, w18⟩ := both_of_andi wr
  have ⟨w9, w17⟩ := both_of_andi wr
  exact ⟨real_of_word w19, ⟨real_of_word w10, real_of_word w15, real_of_word w16, real_of_word w20⟩,
    real_of_word w9, real_of_word w17, real_of_word w18, real_of_word w21, real_of_word w22⟩

theorem good (h : (fn (F := Ideal) a0 a1 a2 a3 a4 a5 a6 a7 a8 a9 a10 a11 a12 a13 a14 a15 a16 a17 a18 a19 a20 a21 a22 a23 a24).1 = (fun _ => 1#1)
    ∧ (fn (F := Ideal) a0 a1 a2 a3 a4 a5 a6 a7 a8 a9 a10 a11 a12 a13 a14 a15 a16 a17 a18 a19 a20 a21 a22 a23 a24).2.1 = (fun _ => 1#1)
    ∧ (fn (F := Ideal) a0 a1 a2 a3 a4 a5 a6 a7 a8 a9 a10 a11 a12 a13 a14 a15 a16 a17 a18 a19 a20 a21 a22 a23 a24).2.2.1 = (fun _ => 1#1)
    ∧ (fn (F := Ideal) a0 a1 a2 a3 a4 a5 a6 a7 a8 a9 a10 a11 a12 a13 a14 a15 a16 a17 a18 a19 a20 a21 a22 a23 a24).2.2.2.1 = (fun _ => 1#1)
    ∧ (fn (F := Ideal) a0 a1 a2 a3 a4 a5 a6 a7 a8 a9 a10 a11 a12 a13 a14 a15 a16 a17 a18 a19 a20 a21 a22 a23 a24).2.2.2.2.1 = (fun _ => 1#1)
    ∧ (fn (F := Ideal) a0 a1 a2 a3 a4 a5 a6 a7 a8 a9 a10 a11 a12 a13 a14 a15 a16 a17 a18 a19 a20 a21 a22 a23 a24).2.2.2.2.2.1 = (fun _ => 1#1)
    ∧ (fn (F := Ideal) a0 a1 a2 a3 a4 a5 a6 a7 a8 a9 a10 a11 a12 a13 a14 a15 a16 a17 a18 a19 a20 a21 a22 a23 a24).2.2.2.2.2.2.1 = (fun _ => 1#1)
    ∧ (fn (F := Ideal) a0 a1 a2 a3 a4 a5 a6 a7 a8 a9 a10 a11 a12 a13 a14 a15 a16 a17 a18 a19 a20 a21 a22 a23 a24).2.2.2.2.2.2.2.1 = (fun _ => 1#1)
    ∧ (fn (F := Ideal) a0 a1 a2 a3 a4 a5 a6 a7 a8 a9 a10 a11 a12 a13 a14 a15 a16 a17 a18 a19 a20 a21 a22 a23 a24).2.2.2.2.2.2.2.2.1 = (fun _ => 1#1)
    ∧ (fn (F := Ideal) a0 a1 a2 a3 a4 a5 a6 a7 a8 a9 a10 a11 a12 a13 a14 a15 a16 a17 a18 a19 a20 a21 a22 a23 a24).2.2.2.2.2.2.2.2.2 = (fun _ => 1#1)) : (Graphs.of (Question.of a6 a7 a8 a9 a10 a11 a12 a13 a14 a15 a16 a17 a18) a0 a1 a2 a3 a4 a5 a19 a20 a21 a22 a23 a24).Good := by
  obtain ⟨h1, h2, h3, h4, h5, h6, h7, h8, h9, h10⟩ := h
  have w := weights a0 a1 a2 a3 a4 a5 a6 a7 a8 a9 a10 a11 a12 a13 a14 a15 a16 a17 a18 a19 a20 a21 a22 a23 a24 h10
  have q : (Question.of a6 a7 a8 a9 a10 a11 a12 a13 a14 a15 a16 a17 a18).Good :=
  { tok := fun g l d => real_at _ a6 (ix3 g l d) (congrFun h7 _)
    voc := fun v d => real_at _ a7 (ix2 v d) (congrFun h8 _)
    pe := fun p d => real_at _ a8 (ix2 p d) (congrFun h9 _)
    td := fun k => (w 0 0 k).2.2.1
    tw := fun d k => (w 0 d k).2.1.1
    dih := fun d k => (w 0 d k).2.1.2.1
    dhh := fun d k => (w 0 d k).2.1.2.2.1
    dbi := fun k => (w 0 0 k).2.2.2.1
    dbh := fun k => (w 0 0 k).2.2.2.2.1 }
  exact
  { node := fun g n => by
      refine eq_of_cmpi (Eq.trans ?_ (congrFun h1 (ix2 g n)))
      unfold node Graphs.of
      pointwise [fn, fn_part1, fn_part2, fn_part3, fn_part4]
    edge := fun g n => by
      refine eq_of_cmpi (Eq.trans ?_ (congrFun h2 (ix2 g n)))
      unfold edge Graphs.of
      pointwise [fn, fn_part1, fn_part2, fn_part3, fn_part4]
    inside := fun i g n => by
      have k : IntOp.andi (IntOp.cmpi .sge (a2 (ix2 i (edge g n))) (IntOp.muli 200#32 (BitVec.ofNat 32 g.val)))
          (IntOp.cmpi .slt (a2 (ix2 i (edge g n))) (IntOp.addi (IntOp.muli 200#32 (BitVec.ofNat 32 g.val)) 200#32)) = 1#1 := by
        refine Eq.trans ?_ (congrFun h3 (ix3 i g n))
        unfold edge
        pointwise [fn, fn_part1, fn_part2, fn_part3, fn_part4]
      have l1 := one_of_bool (both_of_andi k).1
      have l2 := one_of_bool (both_of_andi k).2
      have e1 : (IntOp.muli 200#32 (BitVec.ofNat 32 g.val)).toInt = g.val * 200 := (by decide +kernel : ∀ g : Fin 50, (IntOp.muli 200#32 (BitVec.ofNat 32 g.val)).toInt = g.val * 200) g
      have e2 : (IntOp.addi (IntOp.muli 200#32 (BitVec.ofNat 32 g.val)) 200#32).toInt = g.val * 200 + 200 :=
        (by decide +kernel : ∀ g : Fin 50, (IntOp.addi (IntOp.muli 200#32 (BitVec.ofNat 32 g.val)) 200#32).toInt = g.val * 200 + 200) g
      exact word_inside g _ (e1 ▸ l1) (e2 ▸ l2)
    npg := fun g => by
      have k : FloatOps.cmpf (F := Ideal) (φ := .f32) .une (a5 (ix1 g)) (Ideal.ofBits .f32 0x00000000#32) = 1#1 := congrFun h4 (ix1 g)
      rw [Ideal.ofBits_zero_f32] at k
      exact one_of_bool k
    na := fun n p d => real_at _ a0 (ix3 n p d) (congrFun h5 _)
    ea := fun e d => real_at _ a1 (ix2 e d) (congrFun h6 _)
    ins := q.ins
    foo := q.foo
    wnp := fun p d k => (w p d k).1
    we := fun d k => (w 0 d k).2.1.2.2.2
    wnode := fun k => (w 0 0 k).2.2.2.2.2.1
    wrel := fun k => (w 0 0 k).2.2.2.2.2.2 }

end Cert.Maths

end
-- ==== Proof.RefOps.lean ====
module

public import proofs.«01_k».proof.Proof.Spec
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

/-! Gathers and scatter-adds whose index words are known, and sums over all nodes or all edges cut into graphs. -/

namespace Cert.Maths

variable {N R C : ℕ}

theorem toInt_word {k n : ℕ} (hk : k < n) (hn : n ≤ 2 ^ 31) : (BitVec.ofNat 32 k).toInt = k :=
  StableHlo.Predicate.toInt_ofNat_small k (by omega)

/-! ## Gathers -/

/-- Single elements of a vector, one for each index word. -/
abbrev pickDims (N R : ℕ) (wf : GatherDims.WF ⟨1, ![N]⟩ ⟨2, ![R, 1]⟩ ⟨1, ![R]⟩ [] [0] [] [0] [] 1 ![1]) : GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Whole rows of a matrix, one for each index word. -/
abbrev pickRowsDims (N R C : ℕ) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_pick (hN : N ≤ 2 ^ 31) (wf) (x : (⟨1, ![N]⟩ : Shape).Idx → EReal) (idx : IVec ⟨2, ![R, 1]⟩ 32) (r : Fin R) (k : Fin N)
    (hk : idx (ix2 r 0) = BitVec.ofNat 32 k.val) : Host.gather (pickDims N R wf) x idx (ix1 r) = x (ix1 k) := by
  unfold Host.gather
  congr 1
  funext a
  obtain rfl : a = 0 := Subsingleton.elim _ _
  refine Fin.ext ?_
  show (pickDims N R wf).start (ix1 r) idx 0 + (pickDims N R wf).batchCoord (ix1 r) 0 + (pickDims N R wf).offCoord (ix1 r) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx (ix1 r) ⟨List.idxOf (0 : Fin 1) (pickDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi, hk, toInt_word k.isLt hN]
  have := k.isLt
  show min (k.val : ℤ).toNat (N - 1) = k.val
  omega

theorem gather_pickRows (hN : N ≤ 2 ^ 31) (wf) (x : (⟨2, ![N, C]⟩ : Shape).Idx → EReal) (idx : IVec ⟨2, ![R, 1]⟩ 32) (r : Fin R) (j : Fin C) (k : Fin N)
    (hk : idx (ix2 r 0) = BitVec.ofNat 32 k.val) : Host.gather (pickRowsDims N R C wf) x idx (ix2 r j) = x (ix2 k j) := by
  unfold Host.gather
  congr 1
  funext a
  refine Fin.ext ?_
  show (pickRowsDims N R C wf).start (ix2 r j) idx a + (pickRowsDims N R C wf).batchCoord (ix2 r j) a + (pickRowsDims N R C wf).offCoord (ix2 r j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRowsDims N R C wf).startIndexMap from List.mem_singleton.mpr rfl)]
    have hsi : (pickRowsDims N R C wf).siIdx (ix2 r j) ⟨List.idxOf (0 : Fin 2) (pickRowsDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, hk, toInt_word k.isLt hN]
    have := k.isLt
    show min (k.val : ℤ).toNat (N - 1) = k.val
    omega
  · unfold GatherDims.start
    rw [dif_neg (show (1 : Fin 2) ∉ (pickRowsDims N R C wf).startIndexMap from fun h => absurd (List.mem_singleton.mp h) (by decide : (1 : Fin 2) ≠ 0))]
    unfold GatherDims.offCoord
    rw [dif_pos ((GatherDims.mem_sKept _ _).mpr ⟨fun h => absurd (List.mem_singleton.mp h) (by decide : (1 : Fin 2) ≠ 0), List.not_mem_nil⟩)]
    simp only [Nat.zero_add]
    rfl

/-! ## Scatter-adds -/

/-- One element added to a vector for each index word. -/
abbrev putDims (N R : ℕ) (wf : ScatterDims.WF ⟨1, ![N]⟩ ⟨2, ![R, 1]⟩ ⟨1, ![R]⟩ [] [0] [0] 1) : ScatterDims ⟨1, ![N]⟩ ⟨2, ![R, 1]⟩ ⟨1, ![R]⟩ where
  updateWindowDims := []
  insertedWindowDims := [0]
  scatterDimsToOperandDims := [0]
  indexVectorDim := 1
  wf := wf

/-- One row added to a matrix for each index word. -/
abbrev putRowsDims (N R C : ℕ) (wf : ScatterDims.WF ⟨2, ![N, C]⟩ ⟨2, ![R, 1]⟩ ⟨2, ![R, C]⟩ [1] [0] [0] 1) : ScatterDims ⟨2, ![N, C]⟩ ⟨2, ![R, 1]⟩ ⟨2, ![R, C]⟩ where
  updateWindowDims := [1]
  insertedWindowDims := [0]
  scatterDimsToOperandDims := [0]
  indexVectorDim := 1
  wf := wf

theorem put_lands (hN : N ≤ 2 ^ 31) (wf) (idx : IVec ⟨2, ![R, 1]⟩ 32) (r : Fin R) (k : Fin N) (hk : idx (ix2 r 0) = BitVec.ofNat 32 k.val) (e : Fin N) :
    (putDims N R wf).resultIdx? (ix1 r) idx = some (ix1 e) ↔ k = e := by
  refine (Routing.resultIdx?_eq_some _ _ _ _).trans ((Fin.forall_fin_one (p := fun a => (putDims N R wf).start (ix1 r) idx a + ((putDims N R wf).window (ix1 r) a : ℤ) = ((ix1 e a).val : ℤ))).trans ?_)
  have hw : (putDims N R wf).window (ix1 r) 0 = 0 := by
    unfold ScatterDims.window
    rw [dif_neg fun h => (of_decide_eq_true (List.mem_filter.1 h).2) (List.mem_singleton.2 rfl)]
  have hs : (putDims N R wf).start (ix1 r) idx 0 = k.val := by
    unfold ScatterDims.start
    rw [dif_pos (show (0 : Fin 1) ∈ (putDims N R wf).scatterDimsToOperandDims from List.mem_singleton.mpr rfl)]
    have hsi : (putDims N R wf).siIdx (ix1 r) ⟨List.idxOf (0 : Fin 1) (putDims N R wf).scatterDimsToOperandDims,
        List.idxOf_lt_length_iff.2 (List.mem_singleton.mpr rfl)⟩ = ix2 r 0 := by
      funext b; refine Fin.ext ?_
      match b with
      | ⟨0, _⟩ => rfl
      | ⟨1, _⟩ => rfl
    rw [hsi, hk, toInt_word k.isLt hN]
  rw [hw, hs, Fin.ext_iff]
  show (k.val : ℤ) + ((0 : ℕ) : ℤ) = (e.val : ℤ) ↔ k.val = e.val
  omega

theorem putRows_lands (hN : N ≤ 2 ^ 31) (wf) (idx : IVec ⟨2, ![R, 1]⟩ 32) (r : Fin R) (j : Fin C) (k : Fin N) (hk : idx (ix2 r 0) = BitVec.ofNat 32 k.val) (e : Fin N) (c : Fin C) :
    (putRowsDims N R C wf).resultIdx? (ix2 r j) idx = some (ix2 e c) ↔ k = e ∧ j = c := by
  refine (Routing.resultIdx?_eq_some _ _ _ _).trans
    ((Fin.forall_fin_two (p := fun a => (putRowsDims N R C wf).start (ix2 r j) idx a + ((putRowsDims N R C wf).window (ix2 r j) a : ℤ) = ((ix2 e c a).val : ℤ))).trans ?_)
  have hw0 : (putRowsDims N R C wf).window (ix2 r j) 0 = 0 := by
    unfold ScatterDims.window
    rw [dif_neg fun h => (of_decide_eq_true (List.mem_filter.1 h).2) (List.mem_singleton.2 rfl)]
  have hw1 : (putRowsDims N R C wf).window (ix2 r j) 1 = j.val := by
    unfold ScatterDims.window
    rw [dif_pos (show (1 : Fin 2) ∈ (putRowsDims N R C wf).sKept from List.mem_filter.2 ⟨List.mem_finRange _, rfl⟩)]
    rfl
  have hs0 : (putRowsDims N R C wf).start (ix2 r j) idx 0 = k.val := by
    unfold ScatterDims.start
    rw [dif_pos (show (0 : Fin 2) ∈ (putRowsDims N R C wf).scatterDimsToOperandDims from List.mem_singleton.mpr rfl)]
    have hsi : (putRowsDims N R C wf).siIdx (ix2 r j) ⟨List.idxOf (0 : Fin 2) (putRowsDims N R C wf).scatterDimsToOperandDims,
        List.idxOf_lt_length_iff.2 (List.mem_singleton.mpr rfl)⟩ = ix2 r 0 := by
      funext b; refine Fin.ext ?_
      match b with
      | ⟨0, _⟩ => rfl
      | ⟨1, _⟩ => rfl
    rw [hsi, hk, toInt_word k.isLt hN]
  have hs1 : (putRowsDims N R C wf).start (ix2 r j) idx 1 = 0 := by
    unfold ScatterDims.start
    rw [dif_neg fun h => absurd (List.mem_singleton.1 h) (by decide : (1 : Fin 2) ≠ 0)]
  rw [hw0, hw1, hs0, hs1, Fin.ext_iff, Fin.ext_iff]
  show (k.val : ℤ) + ((0 : ℕ) : ℤ) = (e.val : ℤ) ∧ (0 : ℤ) + (j.val : ℤ) = (c.val : ℤ) ↔ k.val = e.val ∧ j.val = c.val
  omega

theorem scatterAdd_put (hN : N ≤ 2 ^ 31) (wf) (x : FVec Ideal ⟨1, ![N]⟩ .f32) (idx : IVec ⟨2, ![R, 1]⟩ 32) (upd : FVec Ideal ⟨1, ![R]⟩ .f32) (k : Fin R → Fin N)
    (hk : ∀ r, idx (ix2 r 0) = BitVec.ofNat 32 (k r).val) (e : Fin N) :
    Host.scatterAdd (putDims N R wf) x idx upd (ix1 e) = x (ix1 e) + ∑ r : Fin R, if k r = e then upd (ix1 r) else 0 := by
  classical
  show x (ix1 e) + ∑ j ∈ Finset.univ.filter (fun j => (putDims N R wf).resultIdx? j idx = some (ix1 e)), upd j = _
  rw [Finset.sum_filter, sum_idx1]
  refine congrArg (x (ix1 e) + ·) (Finset.sum_congr rfl fun r _ => ?_)
  exact if_congr (put_lands hN wf idx r (k r) (hk r) e) rfl rfl

theorem scatterAdd_putRows (hN : N ≤ 2 ^ 31) (wf) (x : FVec Ideal ⟨2, ![N, C]⟩ .f32) (idx : IVec ⟨2, ![R, 1]⟩ 32) (upd : FVec Ideal ⟨2, ![R, C]⟩ .f32) (k : Fin R → Fin N)
    (hk : ∀ r, idx (ix2 r 0) = BitVec.ofNat 32 (k r).val) (e : Fin N) (c : Fin C) :
    Host.scatterAdd (putRowsDims N R C wf) x idx upd (ix2 e c) = x (ix2 e c) + ∑ r : Fin R, if k r = e then upd (ix2 r c) else 0 := by
  classical
  show x (ix2 e c) + ∑ j ∈ Finset.univ.filter (fun j => (putRowsDims N R C wf).resultIdx? j idx = some (ix2 e c)), upd j = _
  rw [Finset.sum_filter, sum_idx2]
  refine congrArg (x (ix2 e c) + ·) (Finset.sum_congr rfl fun r _ => ?_)
  rw [Finset.sum_eq_single c]
  · exact if_congr ((putRows_lands hN wf idx r c (k r) (hk r) e c).trans (and_iff_left rfl)) rfl rfl
  · intro j _ hj
    exact if_neg fun h => hj ((putRows_lands hN wf idx r j (k r) (hk r) e c).1 h).2
  · exact fun h => absurd (Finset.mem_univ c) h

/-! ## Graphs cut out of all nodes and all edges -/

/-- The graph of a node. -/
def graphOf (n : Fin 10000) : Fin 50 := ⟨n.val / 200, by omega⟩
/-- The place of a node in its graph. -/
def placeOf (n : Fin 10000) : Fin 200 := ⟨n.val % 200, by omega⟩
/-- The graph of an edge. -/
def graphOfE (e : Fin 320000) : Fin 50 := ⟨e.val / 6400, by omega⟩
/-- The place of an edge in its graph. -/
def placeOfE (e : Fin 320000) : Fin 6400 := ⟨e.val % 6400, by omega⟩

theorem node_graphOf (n : Fin 10000) : node (graphOf n) (placeOf n) = n := Fin.ext (by show n.val / 200 * 200 + n.val % 200 = n.val; omega)
theorem graphOf_node (g : Fin 50) (i : Fin 200) : graphOf (node g i) = g := Fin.ext (by show (g.val * 200 + i.val) / 200 = g.val; omega)
theorem placeOf_node (g : Fin 50) (i : Fin 200) : placeOf (node g i) = i := Fin.ext (by show (g.val * 200 + i.val) % 200 = i.val; omega)
theorem edge_graphOfE (e : Fin 320000) : edge (graphOfE e) (placeOfE e) = e := Fin.ext (by show e.val / 6400 * 6400 + e.val % 6400 = e.val; omega)
theorem graphOfE_edge (g : Fin 50) (i : Fin 6400) : graphOfE (edge g i) = g := Fin.ext (by show (g.val * 6400 + i.val) / 6400 = g.val; omega)
theorem placeOfE_edge (g : Fin 50) (i : Fin 6400) : placeOfE (edge g i) = i := Fin.ext (by show (g.val * 6400 + i.val) % 6400 = i.val; omega)

/-- A sum over one graph's nodes, picked out of all. -/
theorem sum_graph (g : Fin 50) (f : Fin 10000 → EReal) : (∑ n : Fin 10000, if graphOf n = g then f n else 0) = ∑ i : Fin 200, f (node g i) := by
  rw [← Finset.sum_filter]
  refine Finset.sum_nbij' placeOf (node g) (fun _ _ => Finset.mem_univ _) (fun i _ => Finset.mem_filter.2 ⟨Finset.mem_univ _, graphOf_node g i⟩) ?_ (fun i _ => placeOf_node g i) ?_
  · intro n hn; have h := (Finset.mem_filter.1 hn).2; rw [← h]; exact node_graphOf n
  · intro n hn; have h := (Finset.mem_filter.1 hn).2; rw [← h, node_graphOf]

/-- A sum over the edges that end at one node of one graph, picked out of all. -/
theorem sum_edges (k : Fin 320000 → Fin 200) (g : Fin 50) (n : Fin 200) (f : Fin 320000 → EReal) :
    (∑ e : Fin 320000, if node (graphOfE e) (k e) = node g n then f e else 0) = ∑ i : Fin 6400, if k (edge g i) = n then f (edge g i) else 0 := by
  rw [← Finset.sum_filter, ← Finset.sum_filter]
  have hs : ∀ e, node (graphOfE e) (k e) = node g n → graphOfE e = g ∧ k e = n := fun e h => by
    have h1 := congrArg graphOf h
    have h2 := congrArg placeOf h
    rw [graphOf_node, graphOf_node] at h1
    rw [placeOf_node, placeOf_node] at h2
    exact ⟨h1, h2⟩
  refine Finset.sum_nbij' placeOfE (edge g) ?_ ?_ ?_ (fun i _ => placeOfE_edge g i) ?_
  · intro e he
    obtain ⟨h1, h2⟩ := hs e (Finset.mem_filter.1 he).2
    refine Finset.mem_filter.2 ⟨Finset.mem_univ _, ?_⟩
    rw [← h1, edge_graphOfE, h2]
  · intro i hi
    refine Finset.mem_filter.2 ⟨Finset.mem_univ _, ?_⟩
    rw [graphOfE_edge, (Finset.mem_filter.1 hi).2]
  · intro e he
    rw [← (hs e (Finset.mem_filter.1 he).2).1, edge_graphOfE]
  · intro e he
    rw [← (hs e (Finset.mem_filter.1 he).2).1, edge_graphOfE]

/-- The maximum over one graph's nodes, picked out of all. -/
theorem top_graph (g : Fin 50) (f : Fin 10000 → EReal) : (Finset.univ.fold max ⊥ fun n : Fin 10000 => if graphOf n = g then f n else ⊥) = top fun i : Fin 200 => f (node g i) := by
  apply le_antisymm
  · refine (Finset.fold_max_le _).2 ⟨bot_le, fun n _ => ?_⟩
    split_ifs with h
    · have h2 := le_top_of (fun i : Fin 200 => f (node g i)) (placeOf n)
      rw [← h] at h2 ⊢
      simpa only [node_graphOf] using h2
    · exact bot_le
  · refine (Finset.fold_max_le _).2 ⟨bot_le, fun i _ => ?_⟩
    refine (Finset.le_fold_max _).2 (Or.inr ⟨node g i, Finset.mem_univ _, ?_⟩)
    rw [if_pos (graphOf_node g i)]

end Cert.Maths
-- ==== Proof.RefStep.lean ====
module

public import proofs.«01_k».proof.Proof.RefOps
public import proofs.«01_k».proof.Proof.Gen.ReferenceIdeal.Step
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-! One trip of the reference's scan, read at an index. -/

namespace Cert.ReferenceIdeal.Value

open Cert.Maths Cert.ReferenceIdeal Cert.ReferenceIdeal.Gen Cert.ReferenceIdeal.Step

theorem bot_word : Ideal.ofBits .f32 0xFF800000#32 = ⊥ := by simp [Ideal.ofBits, Ideal.ieee]

theorem column (x : IVec S10000 32) (n : Fin 10000) : broadcastInDim S10000x1 ![0] bcast_S10000_S10000x1_0 x (ix2 n 0) = x (ix1 n) := by
  pointwise
theorem columnE (x : IVec S320000 32) (n : Fin 320000) : broadcastInDim S320000x1 ![0] bcast_S320000_S320000x1_0 x (ix2 n 0) = x (ix1 n) := by
  pointwise

/-! ## The softmax inside each graph -/

variable (k : IVec S10000 32) (mem : IVec S50x10000 1) (q : FVec Ideal S10000 .f32)

/-- Each graph's maximum. -/
def segMax : FVec Ideal S50 .f32 :=
  Host.reduce FloatOps.maximumf (select mem (broadcastInDim S50x10000 ![0, 1] bcast_S1x10000_S50x10000_0_1 (broadcastInDim S1x10000 ![1] bcast_S10000_S1x10000_1 q))
    (broadcastInDim S50x10000 ![] bcast_S_S50x10000 (constant S_ .f32 0xFF800000#32))) (constant S_ .f32 0xFF800000#32) reducesTo_S50x10000_S50_d1 h_S_

theorem segMax_at (hm : ∀ g n, mem (ix2 g n) = if graphOf n = g then 1#1 else 0#1) (g : Fin 50) : segMax mem q (ix1 g) = top fun i => q (ix1 (node g i)) := by
  rw [← top_graph g fun n => q (ix1 n), ← bot_word]
  pointwise [segMax, hm]
  refine congrArg (fun f => Finset.fold max (Ideal.ofBits .f32 4286578688#32) f Finset.univ) (funext fun n => ?_)
  by_cases h : graphOf n = g
  · rw [if_pos h, if_pos h]; rfl
  · rw [if_neg h, if_neg h]; rfl

/-- The exponentials of the distances from each graph's maximum. -/
def segExp : FVec Ideal S10000 .f32 :=
  Host.exp (subf q (Host.gather gather_S50_S10000x1_S10000_n_0_n_n_0_1_1 (segMax mem q) (broadcastInDim S10000x1 ![0] bcast_S10000_S10000x1_0 k)))

theorem segExp_at (hk : ∀ n, k (ix1 n) = BitVec.ofNat 32 (graphOf n).val) (hm : ∀ g n, mem (ix2 g n) = if graphOf n = g then 1#1 else 0#1) (n : Fin 10000) :
    segExp k mem q (ix1 n) = Ideal.exp (q (ix1 n) - top fun i => q (ix1 (node (graphOf n) i))) := by
  rw [← segMax_at mem q hm]
  have h := gather_pick (N := 50) (R := 10000) (by norm_num) gather_S50_S10000x1_S10000_n_0_n_n_0_1_1_wf (segMax mem q) (broadcastInDim S10000x1 ![0] bcast_S10000_S10000x1_0 k) n (graphOf n)
    ((column k n).trans (hk n))
  rw [← h]
  rfl

/-- The softmax inside each graph. -/
def seg : FVec Ideal S10000 .f32 :=
  Host.divf (segExp k mem q) (Host.gather gather_S50_S10000x1_S10000_n_0_n_n_0_1_1
    (Host.scatterAdd scatter_S50_S10000x1_S10000_n_0_0_1 (broadcastInDim S50 ![] bcast_S_S50 (constant S_ .f32 0x00000000#32)) (broadcastInDim S10000x1 ![0] bcast_S10000_S10000x1_0 k) (segExp k mem q))
    (broadcastInDim S10000x1 ![0] bcast_S10000_S10000x1_0 k))

theorem seg_at (hk : ∀ n, k (ix1 n) = BitVec.ofNat 32 (graphOf n).val) (hm : ∀ g n, mem (ix2 g n) = if graphOf n = g then 1#1 else 0#1) (g : Fin 50) (i : Fin 200) :
    seg k mem q (ix1 (node g i)) = softmax (fun i => q (ix1 (node g i))) i := by
  have hc : ∀ n, broadcastInDim S10000x1 ![0] bcast_S10000_S10000x1_0 k (ix2 n 0) = BitVec.ofNat 32 (graphOf n).val := fun n => (column k n).trans (hk n)
  have h1 := gather_pick (N := 50) (R := 10000) (by norm_num) gather_S50_S10000x1_S10000_n_0_n_n_0_1_1_wf
    (Host.scatterAdd scatter_S50_S10000x1_S10000_n_0_0_1 (broadcastInDim S50 ![] bcast_S_S50 (constant S_ .f32 0x00000000#32)) (broadcastInDim S10000x1 ![0] bcast_S10000_S10000x1_0 k) (segExp k mem q))
    (broadcastInDim S10000x1 ![0] bcast_S10000_S10000x1_0 k) (node g i) (graphOf (node g i)) (hc _)
  have h2 := scatterAdd_put (N := 50) (R := 10000) (by norm_num) scatter_S50_S10000x1_S10000_n_0_0_1_wf (broadcastInDim S50 ![] bcast_S_S50 (constant (F := Ideal) S_ .f32 0x00000000#32))
    (broadcastInDim S10000x1 ![0] bcast_S10000_S10000x1_0 k) (segExp k mem q) graphOf hc g
  have h0 : broadcastInDim S50 ![] bcast_S_S50 (constant (F := Ideal) S_ .f32 0x00000000#32) (ix1 g) = 0 := by pointwise
  rw [h0, zero_add, sum_graph g fun n => segExp k mem q (ix1 n)] at h2
  rw [graphOf_node] at h1
  have h3 : seg k mem q (ix1 (node g i)) = Ideal.div (segExp k mem q (ix1 (node g i))) (∑ i : Fin 200, segExp k mem q (ix1 (node g i))) :=
    congrArg (Ideal.div (segExp k mem q (ix1 (node g i)))) (h1.trans h2)
  rw [h3]
  unfold softmax
  simp only [segExp_at k mem q hk hm, graphOf_node]

/-! ## One trip -/

/-- What a state holds before trip `j`. -/
structure At (Q : Question) (G : Graphs) (j : ℕ) (s : State Ideal) : Prop where
  genc : G.enc = Q.enc
  gins : G.ins = Q.ins
  gfoo : G.foo = Q.foo
  row : ∀ g d, s.main_v714_20 (ix2 g d) = Q.row g j d
  dist : ∀ g i, s.main_v714_21 (ix1 (node g i)) = G.dist g j i
  dih : ∀ k d, s.main_v714_0 (ix2 k d) = Q.dih k d
  enc : ∀ g d, s.main_v714_1 (ix2 g d) = Q.enc g d
  dbi : ∀ k, s.main_v714_2 (ix1 k) = Q.dbi k
  dhh : ∀ k d, s.main_v714_3 (ix2 k d) = Q.dhh k d
  dbh : ∀ k, s.main_v714_4 (ix1 k) = Q.dbh k
  tag : ∀ g l d, s.main_v714_5 (ix3 g l d) = Q.tag g l d
  pe : ∀ p d, s.main_v714_6 (ix2 p d) = Q.pe p d
  ni : ∀ n, s.main_v714_7 (ix1 n) = BitVec.ofNat 32 (graphOf n).val
  wx : ∀ n p d, s.main_v714_8 (ix3 n p d) = ∑ j : Fin 128, G.na n p j * G.wnp p d j
  bi : ∀ e, s.main_v714_9 (ix1 e) = BitVec.ofNat 32 (graphOfE e).val
  ex : ∀ e d, s.main_v714_10 (ix2 e d) = ∑ k : Fin 128, G.ea e k * G.we d k
  wnode : ∀ d, s.main_v714_11 (ix1 d) = G.wnode d
  mem : ∀ g n, s.main_v714_12 (ix2 g n) = if graphOf n = g then 1#1 else 0#1
  src : ∀ e, s.main_v714_13 (ix1 e) = BitVec.ofNat 32 (node (graphOfE e) (G.ends 0 (graphOfE e) (placeOfE e))).val
  dst : ∀ e, s.main_v714_14 (ix1 e) = BitVec.ofNat 32 (node (graphOfE e) (G.ends 1 (graphOfE e) (placeOfE e))).val
  wrel : ∀ d, s.main_v714_15 (ix1 d) = G.wrel d
  na : ∀ n p d, s.main_v714_16 (ix3 n p d) = G.na n p d
  lw : ∀ o d, s.main_v714_17 (ix2 o d) = G.lw o d
  lb : ∀ o, s.main_v714_18 (ix1 o) = G.lb o

variable {Q : Question} {G : Graphs} {s : State Ideal} (t : Fin 8) (h : At Q G t.val s)
include h

theorem row_at (g : Fin 50) (d : Fin 128) : b13 t.val s (ix2 g d) = Q.row g (t.val + 1) d := by
  change _ = max (gate (Q.dih d) (Q.dhh d) (Q.dbi d) (Q.dbh d) (Q.enc g) (Q.row g t.val)) 0
  unfold gate
  pointwise [b13, b12, b11, b10, b9, b8, b7, b6, b5, b4, b3, b2, b1, b0, h.row, h.dih, h.dhh, h.dbi, h.dbh, h.enc]

theorem b14_at (g : Fin 50) (l : Fin 20) : b14 t.val s (ix2 g l) = ∑ k : Fin 128, Q.row g (t.val + 1) k * Q.tag g l k := by
  pointwise [b14, row_at t h, h.tag]

theorem b19_at (g : Fin 50) : b19 t.val s (ix1 g) = top fun l => b14 t.val s (ix2 g l) := by
  unfold top
  pointwise [b19, b18, b17, b16, b15, bot_word]
  exact max_eq_right bot_le

theorem b29_at (g : Fin 50) (d : Fin 128) : b29 t.val s (ix2 g d) = Q.ins g t d := by
  unfold Question.ins softmax
  pointwise [b29, b28, b27, b26, b25, b24, b23, b22, b21, b20, b19_at t h, b14_at t h, h.tag]

theorem b31_at (g : Fin 50) (p : Fin 9) : b31 t.val s (ix2 g p) = ∑ d : Fin 128, Q.ins g t d * Q.pe p d := by
  pointwise [b31, b30, b29_at t h, h.pe]

theorem b36_at (g : Fin 50) : b36 t.val s (ix1 g) = top fun p => b31 t.val s (ix2 g p) := by
  unfold top
  pointwise [b36, b35, b34, b33, b32, bot_word]
  exact max_eq_right bot_le

theorem b45_at (g : Fin 50) (p : Fin 9) : b45 t.val s (ix2 g p) = Q.foo g t p := by
  unfold Question.foo softmax
  pointwise [b45, b44, b43, b42, b41, b40, b39, b38, b37, b36_at t h, b31_at t h]

theorem ins_at (g : Fin 50) (d : Fin 128) : b29 t.val s (ix2 g d) = G.ins g t d := by
  rw [h.gins, b29_at t h]

theorem nps_at (g : Fin 50) (p : Fin 8) : b46 t.val s (ix2 g p) = G.foo g t p.castSucc := by
  rw [h.gfoo, ← b45_at t h]
  pointwise [b46]
  rfl

theorem rel_at (g : Fin 50) : b48 t.val s (ix1 g) = G.foo g t (Fin.last 8) := by
  rw [h.gfoo, ← b45_at t h]
  pointwise [b48, b47]
  rfl

theorem b50_at (n : Fin 10000) (p : Fin 8) : b50 t.val s (ix2 n p) = G.foo (graphOf n) t p.castSucc :=
  (gather_pickRows (N := 50) (R := 10000) (by norm_num) gather_S50x8_S10000x1_S10000x8_1_0_n_n_0_1_18_wf (b46 t.val s) (b49 t.val s) n p (graphOf n)
    ((column _ n).trans (h.ni n))).trans (nps_at t h _ p)

theorem b53_at (n : Fin 10000) (d : Fin 128) : b53 t.val s (ix2 n d) = G.ins (graphOf n) t d :=
  (gather_pickRows (N := 50) (R := 10000) (by norm_num) gather_S50x128_S10000x1_S10000x128_1_0_n_n_0_1_1128_wf (b29 t.val s) (b52 t.val s) n d (graphOf n)
    ((column _ n).trans (h.ni n))).trans (ins_at t h _ d)

theorem b67_at (e : Fin 320000) (d : Fin 128) : b67 t.val s (ix2 e d) = G.ins (graphOfE e) t d :=
  (gather_pickRows (N := 50) (R := 320000) (by norm_num) gather_S50x128_S320000x1_S320000x128_1_0_n_n_0_1_1128_wf (b29 t.val s) (b66 t.val s) e d (graphOfE e)
    ((columnE _ e).trans (h.bi e))).trans (ins_at t h _ d)

theorem b124_at (n : Fin 10000) : b124 t.val s (ix1 n) = G.foo (graphOf n) t (Fin.last 8) :=
  (gather_pick (N := 50) (R := 10000) (by norm_num) gather_S50_S10000x1_S10000_n_0_n_n_0_1_1_wf (b48 t.val s) (b123 t.val s) n (graphOf n)
    ((column _ n).trans (h.ni n))).trans (rel_at t h _)

theorem b97_at (e : Fin 320000) : b97 t.val s (ix1 e) = G.dist (graphOfE e) t.val (G.ends 0 (graphOfE e) (placeOfE e)) :=
  (gather_pick (N := 10000) (R := 320000) (by norm_num) gather_S10000_S320000x1_S320000_n_0_n_n_0_1_1_wf s.main_v714_21 (b96 t.val s) e _
    ((columnE _ e).trans (h.src e))).trans (h.dist _ _)

theorem b60_at (n : Fin 10000) (d : Fin 128) :
    b60 t.val s (ix2 n d) = ∑ p : Fin 8, G.foo (graphOf n) t p.castSucc * G.ins (graphOf n) t d * ∑ j : Fin 128, G.na n p j * G.wnp p d j := by
  pointwise [b60, b59, b58, b57, b56, b55, b54, b51, b50_at t h, b53_at t h, h.wx]

theorem b73_at (e : Fin 320000) (d : Fin 128) : b73 t.val s (ix2 e d) = elu (G.ins (graphOfE e) t d * ∑ k : Fin 128, G.ea e k * G.we d k) := by
  rw [elu_expm1]
  pointwise [b73, b72, b71, b70, b69, b68, b67_at t h, h.ex]

theorem b65_at (n : Fin 10000) (d : Fin 128) : b65 t.val s (ix2 n d) = elu (b60 t.val s (ix2 n d)) := by
  rw [elu_expm1]
  pointwise [b65, b64, b63, b62, b61]

theorem b74_at (n : Fin 10000) : b74 t.val s (ix1 n) = ∑ d : Fin 128, b65 t.val s (ix2 n d) * G.wnode d := by
  pointwise [b74, h.wnode]

theorem b93_at (g : Fin 50) (i : Fin 200) : b93 t.val s (ix1 (node g i)) = softmax (fun i => b74 t.val s (ix1 (node g i))) i :=
  seg_at s.main_v714_7 s.main_v714_12 (b74 t.val s) h.ni h.mem g i

theorem b100_at (e : Fin 320000) (d : Fin 128) : b100 t.val s (ix2 e d) = b97 t.val s (ix1 e) * b73 t.val s (ix2 e d) := by
  pointwise [b100, b99, b98]

theorem b102_at (g : Fin 50) (i : Fin 200) (d : Fin 128) :
    b102 t.val s (ix2 (node g i) d) = ∑ e : Fin 6400, if G.ends 1 g e = i then b100 t.val s (ix2 (edge g e) d) else 0 := by
  have h1 := scatterAdd_putRows (N := 10000) (R := 320000) (by norm_num) scatter_S10000x128_S320000x1_S320000x128_1_0_0_1_wf (b95 t.val s) (b101 t.val s) (b100 t.val s)
    (fun e => node (graphOfE e) (G.ends 1 (graphOfE e) (placeOfE e))) (fun e => (columnE _ e).trans (h.dst e)) (node g i) d
  have h0 : b95 t.val s (ix2 (node g i) d) = 0 := by pointwise [b95, b94]
  rw [h0, zero_add, sum_edges (fun e => G.ends 1 (graphOfE e) (placeOfE e)) g i fun e => b100 t.val s (ix2 e d)] at h1
  simp only [graphOfE_edge, placeOfE_edge] at h1
  exact h1

theorem b103_at (n : Fin 10000) : b103 t.val s (ix1 n) = ∑ d : Fin 128, b102 t.val s (ix2 n d) * G.wrel d := by
  pointwise [b103, h.wrel]

theorem b122_at (g : Fin 50) (i : Fin 200) : b122 t.val s (ix1 (node g i)) = softmax (fun i => b103 t.val s (ix1 (node g i))) i :=
  seg_at s.main_v714_7 s.main_v714_12 (b103 t.val s) h.ni h.mem g i

theorem b130_at (n : Fin 10000) :
    b130 t.val s (ix1 n) = G.foo (graphOf n) t (Fin.last 8) * b122 t.val s (ix1 n) + (1 - G.foo (graphOf n) t (Fin.last 8)) * b93 t.val s (ix1 n) := by
  pointwise [b130, b129, b128, b127, b126, b125, b124_at t h]

variable (hG : G.Good)
include hG

theorem node_score (g : Fin 50) (i : Fin 200) : b74 t.val s (ix1 (node g i)) = G.nsv g t i := by
  rw [b74_at t h]
  refine Finset.sum_congr rfl fun d _ => ?_
  rw [mul_comm, b65_at t h, b60_at t h, graphOf_node, mul_sum_real _ (hG.ins g t d) _ fun p _ => (hG.isReal_wx _ p d).mul (hG.foo g t _)]
  refine congrArg (fun x => G.wnode d * elu x) (Finset.sum_congr rfl fun p _ => ?_)
  rw [mul_comm (G.foo g t p.castSucc), mul_assoc, mul_comm (G.foo g t p.castSucc)]

theorem edge_score (g : Fin 50) (i : Fin 200) : b103 t.val s (ix1 (node g i)) = carry (G.ends 0 g) (G.ends 1 g) (G.ev g t) (G.dist g t.val) i := by
  have hes : ∀ e d, b100 t.val s (ix2 (edge g e) d) = G.dist g t.val (G.ends 0 g e) * G.es g t e d := fun e d => by
    rw [b100_at t h, b97_at t h, b73_at t h, graphOfE_edge, placeOfE_edge, mul_comm (G.ins g t d)]
    rfl
  have hr : ∀ e d, IsReal (G.dist g t.val (G.ends 0 g e) * G.es g t e d) := fun e d => (hG.isReal_dist g _ _).mul (hG.isReal_es g t e d)
  have h1 : ∀ d, b102 t.val s (ix2 (node g i) d) * G.wrel d
      = ∑ e : Fin 6400, if G.ends 1 g e = i then G.wrel d * G.es g t e d * G.dist g t.val (G.ends 0 g e) else 0 := fun d => by
    rw [b102_at t h, sum_mul_real _ (hG.wrel d)]
    · refine Finset.sum_congr rfl fun e _ => ?_
      split_ifs
      · rw [hes, mul_comm, mul_comm (G.dist g t.val (G.ends 0 g e)), mul_assoc]
      · exact zero_mul _
    · intro e _
      rw [hes]
      split_ifs
      · exact hr e d
      · exact isReal_zero
  rw [b103_at t h, Finset.sum_congr rfl fun d _ => h1 d, Finset.sum_comm]
  refine Finset.sum_congr rfl fun e _ => ?_
  split_ifs
  · exact (sum_mul_real _ (hG.isReal_dist g _ _) _ fun d _ => (hG.wrel d).mul (hG.isReal_es g t e d)).symm
  · exact Finset.sum_const_zero

theorem dist_step (g : Fin 50) (i : Fin 200) : b130 t.val s (ix1 (node g i)) = G.dist g (t.val + 1) i := by
  have ht : Fin.ofNat 8 t.val = t := Fin.ext (Nat.mod_eq_of_lt t.isLt)
  rw [b130_at t h, b122_at t h, b93_at t h, graphOf_node]
  simp only [node_score t h hG, edge_score t h hG]
  show _ = trip (G.ends 0 g) (G.ends 1 g) (G.ev g (Fin.ofNat 8 t.val)) (G.nsv g (Fin.ofNat 8 t.val)) (G.foo g (Fin.ofNat 8 t.val) (Fin.last 8)) (G.dist g t.val) i
  rw [ht]
  rfl

omit hG in
theorem b135_at (n : Fin 10000) (p : Fin 8) : b135 t.val s (ix2 n p) = G.foo (graphOf n) t p.castSucc :=
  (gather_pickRows (N := 50) (R := 10000) (by norm_num) gather_S50x8_S10000x1_S10000x8_1_0_n_n_0_1_18_wf (b46 t.val s) (b134 t.val s) n p (graphOf n)
    ((column _ n).trans (h.ni n))).trans (nps_at t h _ p)

omit hG in
theorem b140_at (n : Fin 10000) (d : Fin 128) : b140 t.val s (ix2 n d) = ∑ p : Fin 8, G.na n p d * G.foo (graphOf n) t p.castSucc := by
  pointwise [b140, b139, b138, b137, b136, b135_at t h, h.na]
  exact Finset.sum_congr rfl fun p _ => mul_comm _ _

omit h hG in
theorem b142_at (n : Fin 10000) (d : Fin 128) : b142 t.val s (ix2 n d) = b130 t.val s (ix1 n) * b140 t.val s (ix2 n d) := by
  pointwise [b142, b141, b133]

theorem b144_at (g : Fin 50) (d : Fin 128) :
    b144 t.val s (ix2 g d) = ∑ i : Fin 200, G.dist g (t.val + 1) i * ∑ p : Fin 8, G.na (node g i) p d * G.foo g t p.castSucc := by
  have h1 := scatterAdd_putRows (N := 50) (R := 10000) (by norm_num) scatter_S50x128_S10000x1_S10000x128_1_0_0_1_wf (b132 t.val s) (b143 t.val s) (b142 t.val s) graphOf
    (fun n => (column _ n).trans (h.ni n)) g d
  have h0 : b132 t.val s (ix2 g d) = 0 := by pointwise [b132, b131]
  rw [h0, zero_add, sum_graph g fun n => b142 t.val s (ix2 n d)] at h1
  refine h1.trans (Finset.sum_congr rfl fun i _ => ?_)
  rw [b142_at, dist_step t h hG, b140_at t h, graphOf_node]

omit hG in
theorem b150_at (g : Fin 50) (o : Fin 2000) : b150 t.val s (ix2 g o)
    = (∑ d : Fin 128, G.enc g d * G.lw o (d.castAdd 128)) + (∑ d : Fin 128, b144 t.val s (ix2 g d) * G.lw o (d.natAdd 128)) + G.lb o := by
  rw [h.genc]
  simp only [← h.lw, ← h.lb, ← h.enc]
  pointwise [b150, b149, b148, b147, b146, b145]
  rfl

theorem at_step : At Q G (t.val + 1) (step t.val s) where
  row g d := (congrFun (step_main_v714_20 t.val s) _).trans (row_at t h g d)
  dist g i := (congrFun (step_main_v714_21 t.val s) _).trans (dist_step t h hG g i)
  genc := h.genc
  gins := h.gins
  gfoo := h.gfoo
  dih := h.dih
  enc := h.enc
  dbi := h.dbi
  dhh := h.dhh
  dbh := h.dbh
  tag := h.tag
  pe := h.pe
  ni := h.ni
  wx := h.wx
  bi := h.bi
  ex := h.ex
  wnode := h.wnode
  mem := h.mem
  src := h.src
  dst := h.dst
  wrel := h.wrel
  na := h.na
  lw := h.lw
  lb := h.lb

omit t h in
theorem scores (h : At Q G 7 s) (g : Fin 50) (o : Fin 2000) : (step 7 s).main_v714_22 (ix2 g o) = G.out g o := by
  refine (congrFun (step_main_v714_22 7 s) _).trans ((b150_at (7 : Fin 8) h g o).trans ?_)
  simp only [b144_at (7 : Fin 8) h hG]
  rfl

end Cert.ReferenceIdeal.Value

end
-- ==== Proof.RefQuestion.lean ====
module

public import proofs.«01_k».proof.Proof.RefStep

@[expose] public section

set_option maxRecDepth 16384

noncomputable section

open Idealize.ShloMosaic Idealize.ShloMosaic.TcCoe Idealize.SL.Sem
open Idealize.ShloMosaic.Pipeline (Dat)

/-! The tagged tokens and the encoded question as the reference computes them. -/

namespace Cert.ReferenceIdeal.Asked

open Cert.Maths Cert.ReferenceIdeal Cert.ReferenceIdeal.Gen Cert.ReferenceIdeal.Step

variable (a0 : FVec Ideal S10000x8x128 .f32) (a1 : FVec Ideal S320000x128 .f32) (a2 : IVec S2x320000 32) (a3 : IVec S10000 32) (a5 : FVec Ideal S50 .f32)
  (a6 : FVec Ideal S50x20x128 .f32) (a7 : FVec Ideal S1000x128 .f32) (a8 : FVec Ideal S9x128 .f32) (a9 : FVec Ideal S128 .f32) (a10 : FVec Ideal S128x128 .f32)
  (a11 a12 : FVec Ideal S512x128 .f32) (a13 a14 : FVec Ideal S512 .f32) (a15 a16 : FVec Ideal S128x128 .f32) (a17 a18 : FVec Ideal S128 .f32)
  (a19 : FVec Ideal S8x128x128 .f32) (a20 : FVec Ideal S128x128 .f32)

/-! ## The tagger -/

/-- The row of token `l` of graph `g`. -/
def place (g : Fin 50) (l : Fin 20) : Fin 1000 := ⟨g.val * 20 + l.val, by omega⟩

theorem words_at (v : Fin 1001) (d : Fin 128) : A_main_v4 (F := Ideal) a0 a1 a2 a3 a5 a6 a7 a9 a10 a11 a12 a13 a14 a19 a20 (ix2 v d) = apart (fun v => a7 (ix2 v d)) (a9 (ix1 d)) v := by
  have h : A_main_v4 (F := Ideal) a0 a1 a2 a3 a5 a6 a7 a9 a10 a11 a12 a13 a14 a19 a20 (ix2 v d) = if h : v.val < 1000 then a7 (ix2 ⟨v.val, h⟩ d) else a9 (ix1 d) := by
    pointwise [A_main_v4, A_main_v1]
  rw [h]
  unfold apart
  induction v using Fin.lastCases with
  | last => rw [Fin.snoc_last, dif_neg (by exact Nat.lt_irrefl 1000)]
  | cast v => rw [Fin.snoc_castSucc, dif_pos (by exact v.isLt)]; rfl

theorem token_at (g : Fin 50) (l : Fin 20) (d : Fin 128) : A_main_v0 (F := Ideal) a0 a1 a2 a3 a5 a6 a7 a9 a10 a11 a12 a13 a14 a19 a20 (ix2 (place g l) d) = a6 (ix3 g l d) := by
  pointwise [A_main_v0]
  refine congrArg₂ (fun x y => a6 (ix3 x y d)) (Fin.ext ?_) (Fin.ext ?_)
  · show (g.val * 20 + l.val) / 20 = g.val
    omega
  · show (g.val * 20 + l.val) % 20 = l.val
    omega

theorem near_at (g : Fin 50) (l : Fin 20) (v : Fin 1001) : A_main_v7 (F := Ideal) a0 a1 a2 a3 a5 a6 a7 a9 a10 a11 a12 a13 a14 a19 a20 (ix2 (place g l) v) = (Question.of a6 a7 a8 a9 a10 a11 a12 a13 a14 a15 a16 a17 a18).near g l v := by
  change _ = ∑ k : Fin 128, (∑ j : Fin 128, a6 (ix3 g l j) * a10 (ix2 j k)) * apart (fun v => a7 (ix2 v k)) (a9 (ix1 k)) v
  simp only [← words_at a0 a1 a2 a3 a5 a6 a7 a9 a10 a11 a12 a13 a14 a19 a20, ← token_at a0 a1 a2 a3 a5 a6 a7 a9 a10 a11 a12 a13 a14 a19 a20]
  pointwise [A_main_v7, A_main_v6, A_main_v5]

theorem reduce_at (x : FVec Ideal S1000x1001 .f32) (c : FVec Ideal S_ .f32) (hc : c (Shape.Idx.first h_S_) = (⊥ : EReal)) (n : Fin 1000) :
    Host.reduce FloatOps.maximumf x c reducesTo_S1000x1001_S1000_d1 h_S_ (ix1 n) = top fun v => x (ix2 n v) := by
  unfold top
  rw [← hc]
  pointwise

theorem largest_at (n : Fin 1000) : A_main_v10 (F := Ideal) a0 a1 a2 a3 a5 a6 a7 a9 a10 a11 a12 a13 a14 a19 a20 (ix1 n) = top fun v => A_main_v7 (F := Ideal) a0 a1 a2 a3 a5 a6 a7 a9 a10 a11 a12 a13 a14 a19 a20 (ix2 n v) := by
  have h8 : A_main_v8 (F := Ideal) a0 a1 a2 a3 a5 a6 a7 a9 a10 a11 a12 a13 a14 a19 a20 (ix1 n) = top fun v => A_main_v7 (F := Ideal) a0 a1 a2 a3 a5 a6 a7 a9 a10 a11 a12 a13 a14 a19 a20 (ix2 n v) := reduce_at _ _ (by pointwise [K_main_cst, Cert.ReferenceIdeal.Value.bot_word]) n
  have h9 : K_main_v9 (F := Ideal) (ix1 n) = (⊥ : EReal) := by
    pointwise [K_main_v9, K_main_cst_0, Cert.ReferenceIdeal.Value.bot_word]
  rw [← h8]
  generalize hy : A_main_v8 (F := Ideal) a0 a1 a2 a3 a5 a6 a7 a9 a10 a11 a12 a13 a14 a19 a20 = y
  unfold A_main_v10
  rw [hy]
  pointwise [h9]
  exact max_eq_right bot_le

theorem top_at (g : Fin 50) (l : Fin 20) : A_main_v10 (F := Ideal) a0 a1 a2 a3 a5 a6 a7 a9 a10 a11 a12 a13 a14 a19 a20 (ix1 (place g l)) = top ((Question.of a6 a7 a8 a9 a10 a11 a12 a13 a14 a15 a16 a17 a18).near g l) := by
  have hf : (fun v => A_main_v7 (F := Ideal) a0 a1 a2 a3 a5 a6 a7 a9 a10 a11 a12 a13 a14 a19 a20 (ix2 (place g l) v)) = (Question.of a6 a7 a8 a9 a10 a11 a12 a13 a14 a15 a16 a17 a18).near g l :=
    funext fun v => near_at a0 a1 a2 a3 a5 a6 a7 a8 a9 a10 a11 a12 a13 a14 a15 a16 a17 a18 a19 a20 g l v
  rw [← hf, largest_at]

theorem weight_at (g : Fin 50) (l : Fin 20) (v : Fin 1001) : A_main_v14 (F := Ideal) a0 a1 a2 a3 a5 a6 a7 a9 a10 a11 a12 a13 a14 a19 a20 (ix2 (place g l) v)
    = Ideal.exp ((Question.of a6 a7 a8 a9 a10 a11 a12 a13 a14 a15 a16 a17 a18).near g l v - top ((Question.of a6 a7 a8 a9 a10 a11 a12 a13 a14 a15 a16 a17 a18).near g l)) := by
  pointwise [A_main_v14, A_main_v13, A_main_v12, A_main_v11]
  rw [near_at a0 a1 a2 a3 a5 a6 a7 a8 a9 a10 a11 a12 a13 a14 a15 a16 a17 a18 a19 a20, top_at a0 a1 a2 a3 a5 a6 a7 a8 a9 a10 a11 a12 a13 a14 a15 a16 a17 a18 a19 a20]

theorem share_at (g : Fin 50) (l : Fin 20) (v : Fin 1001) : A_main_v18 (F := Ideal) a0 a1 a2 a3 a5 a6 a7 a9 a10 a11 a12 a13 a14 a19 a20 (ix2 (place g l) v)
    = softmax ((Question.of a6 a7 a8 a9 a10 a11 a12 a13 a14 a15 a16 a17 a18).near g l) v := by
  unfold softmax
  simp only [← weight_at a0 a1 a2 a3 a5 a6 a7 a8 a9 a10 a11 a12 a13 a14 a15 a16 a17 a18 a19 a20]
  pointwise [A_main_v18, A_main_v17, A_main_v16, A_main_v15, K_main_cst_1]

theorem tag_at (g : Fin 50) (l : Fin 20) (d : Fin 128) : A_main_v25 (F := Ideal) a0 a1 a2 a3 a5 a6 a7 a9 a10 a11 a12 a13 a14 a19 a20 (ix3 g l d) = (Question.of a6 a7 a8 a9 a10 a11 a12 a13 a14 a15 a16 a17 a18).tag g l d := by
  have h1 : A_main_v25 (F := Ideal) a0 a1 a2 a3 a5 a6 a7 a9 a10 a11 a12 a13 a14 a19 a20 (ix3 g l d) = A_main_v24 (F := Ideal) a0 a1 a2 a3 a5 a6 a7 a9 a10 a11 a12 a13 a14 a19 a20 (ix2 (place g l) d) := by
    pointwise [A_main_v25]
    rfl
  rw [h1]
  unfold Question.tag
  simp only [← share_at a0 a1 a2 a3 a5 a6 a7 a8 a9 a10 a11 a12 a13 a14 a15 a16 a17 a18 a19 a20]
  change _ = _ * a6 (ix3 g l d) + ∑ v : Fin 1000, _ * a7 (ix2 v d)
  rw [← token_at a0 a1 a2 a3 a5 a6 a7 a9 a10 a11 a12 a13 a14 a19 a20]
  pointwise [A_main_v24, A_main_v23, A_main_v22, A_main_v21, A_main_v20, A_main_v19]
  rfl

/-! ## The encoder -/

theorem token_slice : ∀ t : Fin 20, S50x20x512.Slices ![0, t.val, 0] S50x1x512 := by decide

/-- The input's part of the gates at token `t`. -/
def tokenV (v : FVec Ideal S50x20x512 .f32) (t : Fin 20) : FVec Ideal S50x512 .f32 :=
  shapeCast S50x512 (extractStridedSlice S50x1x512 ![0, t.val, 0] v (token_slice t)) shapeCasts_S50x1x512_S50x512

/-- The arguments of the gates. -/
def gatesV (x : FVec Ideal S50x512 .f32) (u : FVec Ideal S128x512 .f32) (c : FVec Ideal S50x512 .f32) (h : FVec Ideal S50x128 .f32) : FVec Ideal S50x512 .f32 :=
  addf (addf x (Host.dotGeneral dot_S50x128_S128x512_S50x512_1_0_0_1_n_n none h u)) c

/-- The logistic of an array. -/
def sigmoidV (x : FVec Ideal S50x128 .f32) : FVec Ideal S50x128 .f32 := Host.divf (K_main_v45 (F := Ideal)) (addf (K_main_v45 (F := Ideal)) (Host.exp (Host.negf x)))

/-- The next cell. -/
def nextV (a : FVec Ideal S50x512 .f32) (c : FVec Ideal S50x128 .f32) : FVec Ideal S50x128 .f32 :=
  addf (mulf (sigmoidV (extractStridedSlice S50x128 ![0, 128] a slices_S50x512_S50x128_0_128)) c)
    (mulf (sigmoidV (extractStridedSlice S50x128 ![0, 0] a slices_S50x512_S50x128_0_0)) (Host.tanh (extractStridedSlice S50x128 ![0, 256] a slices_S50x512_S50x128_0_256)))

/-- What a cell shows. -/
def showV (a : FVec Ideal S50x512 .f32) (c : FVec Ideal S50x128 .f32) : FVec Ideal S50x128 .f32 :=
  mulf (sigmoidV (extractStridedSlice S50x128 ![0, 384] a slices_S50x512_S50x128_0_384)) (Host.tanh c)

/-- One token. -/
def cellV (x : FVec Ideal S50x512 .f32) (u : FVec Ideal S128x512 .f32) (c : FVec Ideal S50x512 .f32) (s : FVec Ideal S50x128 .f32 × FVec Ideal S50x128 .f32) : FVec Ideal S50x128 .f32 × FVec Ideal S50x128 .f32 :=
  (nextV (gatesV x u c s.2) s.1, showV (gatesV x u c s.2) (nextV (gatesV x u c s.2) s.1))

/-- `n` tokens from token `t` on. -/
def runV (v : FVec Ideal S50x20x512 .f32) (u : FVec Ideal S128x512 .f32) (c : FVec Ideal S50x512 .f32) (t : ℕ) (s : FVec Ideal S50x128 .f32 × FVec Ideal S50x128 .f32) : ℕ → FVec Ideal S50x128 .f32 × FVec Ideal S50x128 .f32
  | 0 => s
  | n + 1 => cellV (tokenV v (Fin.ofNat 20 (t + n))) u c (runV v u c t s n)

theorem runV_add (v : FVec Ideal S50x20x512 .f32) (u : FVec Ideal S128x512 .f32) (c : FVec Ideal S50x512 .f32) (s : FVec Ideal S50x128 .f32 × FVec Ideal S50x128 .f32) (t n : ℕ) :
    runV v u c t (runV v u c 0 s t) n = runV v u c 0 s (t + n) := by
  induction n with
  | zero => rfl
  | succ n ih =>
    change cellV _ u c (runV v u c t (runV v u c 0 s t) n) = cellV _ u c (runV v u c 0 s (t + n))
    rw [ih, Nat.zero_add]
    rfl

/-- The cell after `t` tokens, and what it shows. -/
def stateV (t : ℕ) : FVec Ideal S50x128 .f32 × FVec Ideal S50x128 .f32 :=
  runV (A_main_v30 (F := Ideal) a0 a1 a2 a3 a5 a6 a7 a9 a10 a11 a12 a13 a14 a19 a20) (A_main_v31 (F := Ideal) a0 a1 a2 a3 a5 a6 a7 a9 a10 a11 a12 a13 a14 a19 a20) (A_main_v32 (F := Ideal) a0 a1 a2 a3 a5 a6 a7 a9 a10 a11 a12 a13 a14 a19 a20)
    0 (K_main_v33 (F := Ideal), K_main_v33 (F := Ideal)) t

theorem stateV_add (t n : ℕ) (s : FVec Ideal S50x128 .f32 × FVec Ideal S50x128 .f32) (h : s = stateV a0 a1 a2 a3 a5 a6 a7 a9 a10 a11 a12 a13 a14 a19 a20 t) :
    runV (A_main_v30 (F := Ideal) a0 a1 a2 a3 a5 a6 a7 a9 a10 a11 a12 a13 a14 a19 a20) (A_main_v31 (F := Ideal) a0 a1 a2 a3 a5 a6 a7 a9 a10 a11 a12 a13 a14 a19 a20) (A_main_v32 (F := Ideal) a0 a1 a2 a3 a5 a6 a7 a9 a10 a11 a12 a13 a14 a19 a20) t s n
      = stateV a0 a1 a2 a3 a5 a6 a7 a9 a10 a11 a12 a13 a14 a19 a20 (t + n) := by
  rw [h]
  exact runV_add _ _ _ _ t n

theorem cell4 : (A_main_v157 (F := Ideal) a0 a1 a2 a3 a5 a6 a7 a9 a10 a11 a12 a13 a14 a19 a20, A_main_v165 (F := Ideal) a0 a1 a2 a3 a5 a6 a7 a9 a10 a11 a12 a13 a14 a19 a20) = stateV a0 a1 a2 a3 a5 a6 a7 a9 a10 a11 a12 a13 a14 a19 a20 4 := rfl

theorem more8 : (A_main_v289 (F := Ideal) a0 a1 a2 a3 a5 a6 a7 a9 a10 a11 a12 a13 a14 a19 a20, A_main_v297 (F := Ideal) a0 a1 a2 a3 a5 a6 a7 a9 a10 a11 a12 a13 a14 a19 a20)
    = runV (A_main_v30 (F := Ideal) a0 a1 a2 a3 a5 a6 a7 a9 a10 a11 a12 a13 a14 a19 a20) (A_main_v31 (F := Ideal) a0 a1 a2 a3 a5 a6 a7 a9 a10 a11 a12 a13 a14 a19 a20) (A_main_v32 (F := Ideal) a0 a1 a2 a3 a5 a6 a7 a9 a10 a11 a12 a13 a14 a19 a20) 4 (A_main_v157 (F := Ideal) a0 a1 a2 a3 a5 a6 a7 a9 a10 a11 a12 a13 a14 a19 a20, A_main_v165 (F := Ideal) a0 a1 a2 a3 a5 a6 a7 a9 a10 a11 a12 a13 a14 a19 a20) 4 := rfl

theorem cell8 : (A_main_v289 (F := Ideal) a0 a1 a2 a3 a5 a6 a7 a9 a10 a11 a12 a13 a14 a19 a20, A_main_v297 (F := Ideal) a0 a1 a2 a3 a5 a6 a7 a9 a10 a11 a12 a13 a14 a19 a20) = stateV a0 a1 a2 a3 a5 a6 a7 a9 a10 a11 a12 a13 a14 a19 a20 8 :=
  (more8 a0 a1 a2 a3 a5 a6 a7 a9 a10 a11 a12 a13 a14 a19 a20).trans (stateV_add a0 a1 a2 a3 a5 a6 a7 a9 a10 a11 a12 a13 a14 a19 a20 4 4 _ (cell4 a0 a1 a2 a3 a5 a6 a7 a9 a10 a11 a12 a13 a14 a19 a20))

theorem more12 : (A_main_v421 (F := Ideal) a0 a1 a2 a3 a5 a6 a7 a9 a10 a11 a12 a13 a14 a19 a20, A_main_v429 (F := Ideal) a0 a1 a2 a3 a5 a6 a7 a9 a10 a11 a12 a13 a14 a19 a20)
    = runV (A_main_v30 (F := Ideal) a0 a1 a2 a3 a5 a6 a7 a9 a10 a11 a12 a13 a14 a19 a20) (A_main_v31 (F := Ideal) a0 a1 a2 a3 a5 a6 a7 a9 a10 a11 a12 a13 a14 a19 a20) (A_main_v32 (F := Ideal) a0 a1 a2 a3 a5 a6 a7 a9 a10 a11 a12 a13 a14 a19 a20) 8 (A_main_v289 (F := Ideal) a0 a1 a2 a3 a5 a6 a7 a9 a10 a11 a12 a13 a14 a19 a20, A_main_v297 (F := Ideal) a0 a1 a2 a3 a5 a6 a7 a9 a10 a11 a12 a13 a14 a19 a20) 4 := rfl

theorem cell12 : (A_main_v421 (F := Ideal) a0 a1 a2 a3 a5 a6 a7 a9 a10 a11 a12 a13 a14 a19 a20, A_main_v429 (F := Ideal) a0 a1 a2 a3 a5 a6 a7 a9 a10 a11 a12 a13 a14 a19 a20) = stateV a0 a1 a2 a3 a5 a6 a7 a9 a10 a11 a12 a13 a14 a19 a20 12 :=
  (more12 a0 a1 a2 a3 a5 a6 a7 a9 a10 a11 a12 a13 a14 a19 a20).trans (stateV_add a0 a1 a2 a3 a5 a6 a7 a9 a10 a11 a12 a13 a14 a19 a20 8 4 _ (cell8 a0 a1 a2 a3 a5 a6 a7 a9 a10 a11 a12 a13 a14 a19 a20))

theorem more16 : (A_main_v553 (F := Ideal) a0 a1 a2 a3 a5 a6 a7 a9 a10 a11 a12 a13 a14 a19 a20, A_main_v561 (F := Ideal) a0 a1 a2 a3 a5 a6 a7 a9 a10 a11 a12 a13 a14 a19 a20)
    = runV (A_main_v30 (F := Ideal) a0 a1 a2 a3 a5 a6 a7 a9 a10 a11 a12 a13 a14 a19 a20) (A_main_v31 (F := Ideal) a0 a1 a2 a3 a5 a6 a7 a9 a10 a11 a12 a13 a14 a19 a20) (A_main_v32 (F := Ideal) a0 a1 a2 a3 a5 a6 a7 a9 a10 a11 a12 a13 a14 a19 a20) 12 (A_main_v421 (F := Ideal) a0 a1 a2 a3 a5 a6 a7 a9 a10 a11 a12 a13 a14 a19 a20, A_main_v429 (F := Ideal) a0 a1 a2 a3 a5 a6 a7 a9 a10 a11 a12 a13 a14 a19 a20) 4 := rfl

theorem cell16 : (A_main_v553 (F := Ideal) a0 a1 a2 a3 a5 a6 a7 a9 a10 a11 a12 a13 a14 a19 a20, A_main_v561 (F := Ideal) a0 a1 a2 a3 a5 a6 a7 a9 a10 a11 a12 a13 a14 a19 a20) = stateV a0 a1 a2 a3 a5 a6 a7 a9 a10 a11 a12 a13 a14 a19 a20 16 :=
  (more16 a0 a1 a2 a3 a5 a6 a7 a9 a10 a11 a12 a13 a14 a19 a20).trans (stateV_add a0 a1 a2 a3 a5 a6 a7 a9 a10 a11 a12 a13 a14 a19 a20 12 4 _ (cell12 a0 a1 a2 a3 a5 a6 a7 a9 a10 a11 a12 a13 a14 a19 a20))

theorem more20 : (A_main_v685 (F := Ideal) a0 a1 a2 a3 a5 a6 a7 a9 a10 a11 a12 a13 a14 a19 a20, A_main_v693 (F := Ideal) a0 a1 a2 a3 a5 a6 a7 a9 a10 a11 a12 a13 a14 a19 a20)
    = runV (A_main_v30 (F := Ideal) a0 a1 a2 a3 a5 a6 a7 a9 a10 a11 a12 a13 a14 a19 a20) (A_main_v31 (F := Ideal) a0 a1 a2 a3 a5 a6 a7 a9 a10 a11 a12 a13 a14 a19 a20) (A_main_v32 (F := Ideal) a0 a1 a2 a3 a5 a6 a7 a9 a10 a11 a12 a13 a14 a19 a20) 16 (A_main_v553 (F := Ideal) a0 a1 a2 a3 a5 a6 a7 a9 a10 a11 a12 a13 a14 a19 a20, A_main_v561 (F := Ideal) a0 a1 a2 a3 a5 a6 a7 a9 a10 a11 a12 a13 a14 a19 a20) 4 := rfl

theorem cell20 : (A_main_v685 (F := Ideal) a0 a1 a2 a3 a5 a6 a7 a9 a10 a11 a12 a13 a14 a19 a20, A_main_v693 (F := Ideal) a0 a1 a2 a3 a5 a6 a7 a9 a10 a11 a12 a13 a14 a19 a20) = stateV a0 a1 a2 a3 a5 a6 a7 a9 a10 a11 a12 a13 a14 a19 a20 20 :=
  (more20 a0 a1 a2 a3 a5 a6 a7 a9 a10 a11 a12 a13 a14 a19 a20).trans (stateV_add a0 a1 a2 a3 a5 a6 a7 a9 a10 a11 a12 a13 a14 a19 a20 16 4 _ (cell16 a0 a1 a2 a3 a5 a6 a7 a9 a10 a11 a12 a13 a14 a19 a20))

/-! ## The same at an index -/

theorem sigmoidV_at (x : FVec Ideal S50x128 .f32) (g : Fin 50) (d : Fin 128) : sigmoidV x (ix2 g d) = Ideal.logistic (x (ix2 g d)) := by
  unfold Ideal.logistic
  pointwise [sigmoidV, K_main_v45, K_main_cst_3]

theorem nextV_at (a : FVec Ideal S50x512 .f32) (c : FVec Ideal S50x128 .f32) (g : Fin 50) (d : Fin 128) :
    nextV a c (ix2 g d) = Ideal.logistic (a (ix2 g ⟨128 + d.val, by omega⟩)) * c (ix2 g d) + Ideal.logistic (a (ix2 g ⟨d.val, by omega⟩)) * Ideal.tanh (a (ix2 g ⟨256 + d.val, by omega⟩)) := by
  pointwise [nextV, sigmoidV_at]

theorem showV_at (a : FVec Ideal S50x512 .f32) (c : FVec Ideal S50x128 .f32) (g : Fin 50) (d : Fin 128) :
    showV a c (ix2 g d) = Ideal.logistic (a (ix2 g ⟨384 + d.val, by omega⟩)) * Ideal.tanh (c (ix2 g d)) := by
  pointwise [showV, sigmoidV_at]

theorem tokenV_at (v : FVec Ideal S50x20x512 .f32) (t : Fin 20) (g : Fin 50) (k : Fin 512) : tokenV v t (ix2 g k) = v (ix3 g t k) := by
  fin_cases t <;> pointwise [tokenV]

/-- The arguments of the gates at token `t`. -/
def gatesAt (t : ℕ) : FVec Ideal S50x512 .f32 :=
  gatesV (tokenV (A_main_v30 (F := Ideal) a0 a1 a2 a3 a5 a6 a7 a9 a10 a11 a12 a13 a14 a19 a20) (Fin.ofNat 20 t)) (A_main_v31 (F := Ideal) a0 a1 a2 a3 a5 a6 a7 a9 a10 a11 a12 a13 a14 a19 a20) (A_main_v32 (F := Ideal) a0 a1 a2 a3 a5 a6 a7 a9 a10 a11 a12 a13 a14 a19 a20)
    (stateV a0 a1 a2 a3 a5 a6 a7 a9 a10 a11 a12 a13 a14 a19 a20 t).2

theorem gatesAt_at (t : ℕ) (g : Fin 50) (k : Fin 512) (h : ∀ d, (stateV a0 a1 a2 a3 a5 a6 a7 a9 a10 a11 a12 a13 a14 a19 a20 t).2 (ix2 g d) = ((Question.of a6 a7 a8 a9 a10 a11 a12 a13 a14 a15 a16 a17 a18).cell g t).2 d) :
    gatesAt a0 a1 a2 a3 a5 a6 a7 a9 a10 a11 a12 a13 a14 a19 a20 t (ix2 g k) = (Question.of a6 a7 a8 a9 a10 a11 a12 a13 a14 a15 a16 a17 a18).gates g (Fin.ofNat 20 t) ((Question.of a6 a7 a8 a9 a10 a11 a12 a13 a14 a15 a16 a17 a18).cell g t).2 k := by
  have hx : A_main_v30 (F := Ideal) a0 a1 a2 a3 a5 a6 a7 a9 a10 a11 a12 a13 a14 a19 a20 (ix3 g (Fin.ofNat 20 t) k) = (∑ d : Fin 128, (Question.of a6 a7 a8 a9 a10 a11 a12 a13 a14 a15 a16 a17 a18).tag g (Fin.ofNat 20 t) d * a11 (ix2 k d)) + a13 (ix1 k) := by
    simp only [← tag_at a0 a1 a2 a3 a5 a6 a7 a8 a9 a10 a11 a12 a13 a14 a15 a16 a17 a18 a19 a20]
    pointwise [A_main_v30, A_main_v29, A_main_v28, A_main_v27, A_main_v26]
  have hs : ∀ (x : FVec Ideal S50x512 .f32) (h : FVec Ideal S50x128 .f32), gatesV x (A_main_v31 (F := Ideal) a0 a1 a2 a3 a5 a6 a7 a9 a10 a11 a12 a13 a14 a19 a20) (A_main_v32 (F := Ideal) a0 a1 a2 a3 a5 a6 a7 a9 a10 a11 a12 a13 a14 a19 a20) h (ix2 g k)
      = x (ix2 g k) + (∑ d : Fin 128, h (ix2 g d) * a12 (ix2 k d)) + a14 (ix1 k) := fun x h => by
    pointwise [gatesV, A_main_v31, A_main_v32]
  unfold gatesAt
  rw [hs, tokenV_at, hx]
  simp only [h]
  rfl

theorem state_at (g : Fin 50) (t : ℕ) : (∀ d, (stateV a0 a1 a2 a3 a5 a6 a7 a9 a10 a11 a12 a13 a14 a19 a20 t).1 (ix2 g d) = ((Question.of a6 a7 a8 a9 a10 a11 a12 a13 a14 a15 a16 a17 a18).cell g t).1 d)
    ∧ ∀ d, (stateV a0 a1 a2 a3 a5 a6 a7 a9 a10 a11 a12 a13 a14 a19 a20 t).2 (ix2 g d) = ((Question.of a6 a7 a8 a9 a10 a11 a12 a13 a14 a15 a16 a17 a18).cell g t).2 d := by
  induction t with
  | zero =>
    refine ⟨fun d => ?_, fun d => ?_⟩ <;>
    · change K_main_v33 (F := Ideal) (ix2 g d) = 0
      pointwise [K_main_v33, K_main_cst_2]
  | succ t ih =>
    have hz : gatesV (tokenV (A_main_v30 (F := Ideal) a0 a1 a2 a3 a5 a6 a7 a9 a10 a11 a12 a13 a14 a19 a20) (Fin.ofNat 20 (0 + t))) (A_main_v31 (F := Ideal) a0 a1 a2 a3 a5 a6 a7 a9 a10 a11 a12 a13 a14 a19 a20) (A_main_v32 (F := Ideal) a0 a1 a2 a3 a5 a6 a7 a9 a10 a11 a12 a13 a14 a19 a20)
        (stateV a0 a1 a2 a3 a5 a6 a7 a9 a10 a11 a12 a13 a14 a19 a20 t).2 = gatesAt a0 a1 a2 a3 a5 a6 a7 a9 a10 a11 a12 a13 a14 a19 a20 t := by rw [Nat.zero_add]; rfl
    have hg := fun k => gatesAt_at a0 a1 a2 a3 a5 a6 a7 a8 a9 a10 a11 a12 a13 a14 a15 a16 a17 a18 a19 a20 t g k ih.2
    have h1 : ∀ d, (stateV a0 a1 a2 a3 a5 a6 a7 a9 a10 a11 a12 a13 a14 a19 a20 (t + 1)).1 (ix2 g d) = ((Question.of a6 a7 a8 a9 a10 a11 a12 a13 a14 a15 a16 a17 a18).cell g (t + 1)).1 d := fun d => by
      change nextV (gatesV _ _ _ (stateV a0 a1 a2 a3 a5 a6 a7 a9 a10 a11 a12 a13 a14 a19 a20 t).2) (stateV a0 a1 a2 a3 a5 a6 a7 a9 a10 a11 a12 a13 a14 a19 a20 t).1 (ix2 g d) = _
      rw [hz, nextV_at, hg, hg, hg, ih.1]
      rfl
    refine ⟨h1, fun d => ?_⟩
    change showV (gatesV _ _ _ (stateV a0 a1 a2 a3 a5 a6 a7 a9 a10 a11 a12 a13 a14 a19 a20 t).2) (stateV a0 a1 a2 a3 a5 a6 a7 a9 a10 a11 a12 a13 a14 a19 a20 (t + 1)).1 (ix2 g d) = _
    rw [hz, showV_at, hg, h1]
    rfl

theorem enc_at (g : Fin 50) (d : Fin 128) : A_main_v693 (F := Ideal) a0 a1 a2 a3 a5 a6 a7 a9 a10 a11 a12 a13 a14 a19 a20 (ix2 g d) = (Question.of a6 a7 a8 a9 a10 a11 a12 a13 a14 a15 a16 a17 a18).enc g d := by
  refine (congrFun (Prod.ext_iff.mp (cell20 a0 a1 a2 a3 a5 a6 a7 a9 a10 a11 a12 a13 a14 a19 a20)).2 _).trans ?_
  exact (state_at a0 a1 a2 a3 a5 a6 a7 a8 a9 a10 a11 a12 a13 a14 a15 a16 a17 a18 a19 a20 g 20).2 d

end Cert.ReferenceIdeal.Asked

end
-- ==== Proof.RefValue.lean ====
module

public import proofs.«01_k».proof.Proof.RefQuestion
public import proofs.«01_k».proof.Proof.Gen.ReferenceIdeal.StepRun

@[expose] public section

set_option maxRecDepth 16384

noncomputable section

open Idealize.ShloMosaic Idealize.ShloMosaic.TcCoe Idealize.SL.Sem
open Idealize.ShloMosaic.Pipeline (Dat)

/-! The reference's result as a function of the arguments. -/

namespace Cert.ReferenceIdeal.Value

open Cert.Maths Cert.ReferenceIdeal Cert.ReferenceIdeal.Gen Cert.ReferenceIdeal.Step

variable (a0 : FVec Ideal S10000x8x128 .f32) (a1 : FVec Ideal S320000x128 .f32) (a2 : IVec S2x320000 32) (a3 : IVec S10000 32) (a4 : IVec S320000 32) (a5 : FVec Ideal S50 .f32)
  (a6 : FVec Ideal S50x20x128 .f32) (a7 : FVec Ideal S1000x128 .f32) (a8 : FVec Ideal S9x128 .f32) (a9 : FVec Ideal S128 .f32) (a10 : FVec Ideal S128x128 .f32)
  (a11 a12 : FVec Ideal S512x128 .f32) (a13 a14 : FVec Ideal S512 .f32) (a15 a16 : FVec Ideal S128x128 .f32) (a17 a18 : FVec Ideal S128 .f32)
  (a19 : FVec Ideal S8x128x128 .f32) (a20 : FVec Ideal S128x128 .f32) (a21 a22 : FVec Ideal S128 .f32) (a23 : FVec Ideal S2000x256 .f32) (a24 : FVec Ideal S2000 .f32)

theorem ni_word (h : (Graphs.of (Question.of a6 a7 a8 a9 a10 a11 a12 a13 a14 a15 a16 a17 a18) a0 a1 a2 a3 a4 a5 a19 a20 a21 a22 a23 a24).Good) (n : Fin 10000) : a3 (ix1 n) = BitVec.ofNat 32 (graphOf n).val := by
  have := h.node (graphOf n) (placeOf n)
  rwa [node_graphOf] at this

theorem bi_word (h : (Graphs.of (Question.of a6 a7 a8 a9 a10 a11 a12 a13 a14 a15 a16 a17 a18) a0 a1 a2 a3 a4 a5 a19 a20 a21 a22 a23 a24).Good) (e : Fin 320000) : a4 (ix1 e) = BitVec.ofNat 32 (graphOfE e).val := by
  have := h.edge (graphOfE e) (placeOfE e)
  rwa [edge_graphOfE] at this

theorem ei_word (h : (Graphs.of (Question.of a6 a7 a8 a9 a10 a11 a12 a13 a14 a15 a16 a17 a18) a0 a1 a2 a3 a4 a5 a19 a20 a21 a22 a23 a24).Good) (i : Fin 2) (e : Fin 320000) :
    a2 (ix2 i e) = BitVec.ofNat 32 (node (graphOfE e) ((Graphs.of (Question.of a6 a7 a8 a9 a10 a11 a12 a13 a14 a15 a16 a17 a18) a0 a1 a2 a3 a4 a5 a19 a20 a21 a22 a23 a24).ends i (graphOfE e) (placeOfE e))).val := by
  have := h.inside i (graphOfE e) (placeOfE e)
  rwa [edge_graphOfE] at this

theorem at_init (h : (Graphs.of (Question.of a6 a7 a8 a9 a10 a11 a12 a13 a14 a15 a16 a17 a18) a0 a1 a2 a3 a4 a5 a19 a20 a21 a22 a23 a24).Good) : At (Question.of a6 a7 a8 a9 a10 a11 a12 a13 a14 a15 a16 a17 a18) (Graphs.of (Question.of a6 a7 a8 a9 a10 a11 a12 a13 a14 a15 a16 a17 a18) a0 a1 a2 a3 a4 a5 a19 a20 a21 a22 a23 a24) 0 (init a15 a17 a16 a18 a8 a3 a4 a21 a22 a0 a23 a24 a1 a2 a5 a6 a7 a9 a10 a11 a12 a13 a14 a19 a20) where
  genc := rfl
  gins := rfl
  gfoo := rfl
  row g d := by
    show K_main_v708 (F := Ideal) (ix2 g d) = 0
    pointwise [K_main_v708, K_main_cst_123]
  dist g i := by
    have h1 := gather_pick (N := 50) (R := 10000) (by norm_num) gather_S50_S10000x1_S10000_n_0_n_n_0_1_1_wf (A_main_v710 (F := Ideal) a0 a1 a2 a3 a5 a6 a7 a9 a10 a11 a12 a13 a14 a19 a20) (A_main_v711 (F := Ideal) a0 a1 a2 a3 a5 a6 a7 a9 a10 a11 a12 a13 a14 a19 a20) (node g i) (graphOf (node g i))
      ((column a3 _).trans (ni_word a0 a1 a2 a3 a4 a5 a6 a7 a8 a9 a10 a11 a12 a13 a14 a15 a16 a17 a18 a19 a20 a21 a22 a23 a24 h _))
    rw [graphOf_node] at h1
    refine h1.trans ?_
    show _ = Ideal.div 1 (a5 (ix1 g))
    pointwise [A_main_v710, K_main_v709, K_main_cst_124]
  dih k d := rfl
  enc g d := Asked.enc_at a0 a1 a2 a3 a5 a6 a7 a8 a9 a10 a11 a12 a13 a14 a15 a16 a17 a18 a19 a20 g d
  dbi k := rfl
  dhh k d := rfl
  dbh k := rfl
  tag g l d := Asked.tag_at a0 a1 a2 a3 a5 a6 a7 a8 a9 a10 a11 a12 a13 a14 a15 a16 a17 a18 a19 a20 g l d
  pe p d := rfl
  ni := ni_word a0 a1 a2 a3 a4 a5 a6 a7 a8 a9 a10 a11 a12 a13 a14 a15 a16 a17 a18 a19 a20 a21 a22 a23 a24 h
  wx n p d := by
    show A_main_v699 (F := Ideal) a0 a1 a2 a3 a5 a6 a7 a9 a10 a11 a12 a13 a14 a19 a20 (ix3 n p d) = ∑ j : Fin 128, a0 (ix3 n p j) * a19 (ix3 p d j)
    pointwise [A_main_v699, A_main_v698]
  bi := bi_word a0 a1 a2 a3 a4 a5 a6 a7 a8 a9 a10 a11 a12 a13 a14 a15 a16 a17 a18 a19 a20 a21 a22 a23 a24 h
  ex e d := by
    show A_main_v701 (F := Ideal) a0 a1 a2 a3 a5 a6 a7 a9 a10 a11 a12 a13 a14 a19 a20 (ix2 e d) = ∑ k : Fin 128, a1 (ix2 e k) * a20 (ix2 d k)
    pointwise [A_main_v701, A_main_v700]
  wnode d := rfl
  mem g n := by
    show A_main_v707 (F := Ideal) a0 a1 a2 a3 a5 a6 a7 a9 a10 a11 a12 a13 a14 a19 a20 (ix2 g n) = _
    pointwise [A_main_v707, A_main_v705, A_main_v702, K_main_v706, K_main_v704, K_main_v703]
    rw [ni_word a0 a1 a2 a3 a4 a5 a6 a7 a8 a9 a10 a11 a12 a13 a14 a15 a16 a17 a18 a19 a20 a21 a22 a23 a24 h, WordCmp.cmpi_eq_eq]
    by_cases hg : graphOf n = g
    · rw [if_pos hg, hg]
      simp
    · rw [if_neg hg, decide_eq_false fun hw => hg ?_]
      · rfl
      · have h1 := congrArg BitVec.toNat hw
        have h2 := (graphOf n).isLt
        have h3 := g.isLt
        rw [BitVec.toNat_ofNat, BitVec.toNat_ofNat] at h1
        exact Fin.ext (by omega)
  src e := by
    rw [← ei_word a0 a1 a2 a3 a4 a5 a6 a7 a8 a9 a10 a11 a12 a13 a14 a15 a16 a17 a18 a19 a20 a21 a22 a23 a24 h 0 e]
    show A_main_v695 (F := Ideal) a0 a1 a2 a3 a5 a6 a7 a9 a10 a11 a12 a13 a14 a19 a20 (ix1 e) = a2 (ix2 0 e)
    pointwise [A_main_v695, A_main_v694]
  dst e := by
    rw [← ei_word a0 a1 a2 a3 a4 a5 a6 a7 a8 a9 a10 a11 a12 a13 a14 a15 a16 a17 a18 a19 a20 a21 a22 a23 a24 h 1 e]
    show A_main_v697 (F := Ideal) a0 a1 a2 a3 a5 a6 a7 a9 a10 a11 a12 a13 a14 a19 a20 (ix1 e) = a2 (ix2 1 e)
    pointwise [A_main_v697, A_main_v696]
  wrel d := rfl
  na n p d := rfl
  lw o d := rfl
  lb o := rfl

section run

variable (it : ℕ → State Ideal) (h0 : it 0 = init a15 a17 a16 a18 a8 a3 a4 a21 a22 a0 a23 a24 a1 a2 a5 a6 a7 a9 a10 a11 a12 a13 a14 a19 a20) (hs : ∀ n, it (n + 1) = step n (it n))
include h0 hs

theorem at_last (h : (Graphs.of (Question.of a6 a7 a8 a9 a10 a11 a12 a13 a14 a15 a16 a17 a18) a0 a1 a2 a3 a4 a5 a19 a20 a21 a22 a23 a24).Good) : At (Question.of a6 a7 a8 a9 a10 a11 a12 a13 a14 a15 a16 a17 a18) (Graphs.of (Question.of a6 a7 a8 a9 a10 a11 a12 a13 a14 a15 a16 a17 a18) a0 a1 a2 a3 a4 a5 a19 a20 a21 a22 a23 a24) 7 (it 7) := by
  have key : ∀ n, n ≤ 7 → At (Question.of a6 a7 a8 a9 a10 a11 a12 a13 a14 a15 a16 a17 a18) (Graphs.of (Question.of a6 a7 a8 a9 a10 a11 a12 a13 a14 a15 a16 a17 a18) a0 a1 a2 a3 a4 a5 a19 a20 a21 a22 a23 a24) n (it n) := fun n => by
    induction n with
    | zero => exact fun _ => h0 ▸ at_init a0 a1 a2 a3 a4 a5 a6 a7 a8 a9 a10 a11 a12 a13 a14 a15 a16 a17 a18 a19 a20 a21 a22 a23 a24 h
    | succ n ih => exact fun hn => hs n ▸ at_step (⟨n, by omega⟩ : Fin 8) (ih (by omega)) h
  exact key 7 le_rfl

/-- The reference's result. -/
theorem result (h : (Graphs.of (Question.of a6 a7 a8 a9 a10 a11 a12 a13 a14 a15 a16 a17 a18) a0 a1 a2 a3 a4 a5 a19 a20 a21 a22 a23 a24).Good) : (it 8).main_v714_22 = fun j => (Graphs.of (Question.of a6 a7 a8 a9 a10 a11 a12 a13 a14 a15 a16 a17 a18) a0 a1 a2 a3 a4 a5 a19 a20 a21 a22 a23 a24).out (j 0) (j 1) := by
  have key : ∀ g o, (it 8).main_v714_22 (ix2 g o) = (Graphs.of (Question.of a6 a7 a8 a9 a10 a11 a12 a13 a14 a15 a16 a17 a18) a0 a1 a2 a3 a4 a5 a19 a20 a21 a22 a23 a24).out g o := fun g o => by
    rw [hs 7]
    exact scores h (at_last a0 a1 a2 a3 a4 a5 a6 a7 a8 a9 a10 a11 a12 a13 a14 a15 a16 a17 a18 a19 a20 a21 a22 a23 a24 it h0 hs h) g o
  exact funext fun j => (congrArg (it 8).main_v714_22 (ix2_eta (n0 := 50) (n1 := 2000) j).symm).trans (key (j 0) (j 1))

end run

/-- The same from arguments that agree. -/
theorem result_of (b0 : FVec Ideal S10000x8x128 .f32) (b1 : FVec Ideal S320000x128 .f32) (b2 : IVec S2x320000 32) (b3 : IVec S10000 32) (b4 : IVec S320000 32) (b5 : FVec Ideal S50 .f32)
  (b6 : FVec Ideal S50x20x128 .f32) (b7 : FVec Ideal S1000x128 .f32) (b8 : FVec Ideal S9x128 .f32) (b9 : FVec Ideal S128 .f32) (b10 : FVec Ideal S128x128 .f32)
  (b11 b12 : FVec Ideal S512x128 .f32) (b13 b14 : FVec Ideal S512 .f32) (b15 b16 : FVec Ideal S128x128 .f32) (b17 b18 : FVec Ideal S128 .f32)
  (b19 : FVec Ideal S8x128x128 .f32) (b20 : FVec Ideal S128x128 .f32) (b21 b22 : FVec Ideal S128 .f32) (b23 : FVec Ideal S2000x256 .f32) (b24 : FVec Ideal S2000 .f32)
  (it : ℕ → State Ideal) (h0 : it 0 = init b15 b17 b16 b18 b8 b3 b4 b21 b22 b0 b23 b24 b1 b2 b5 b6 b7 b9 b10 b11 b12 b13 b14 b19 b20) (hs : ∀ n, it (n + 1) = step n (it n))
  (h : (Graphs.of (Question.of a6 a7 a8 a9 a10 a11 a12 a13 a14 a15 a16 a17 a18) a0 a1 a2 a3 a4 a5 a19 a20 a21 a22 a23 a24).Good)
  (e : b0 = a0 ∧ b1 = a1 ∧ b2 = a2 ∧ b3 = a3 ∧ b4 = a4 ∧ b5 = a5 ∧ b6 = a6 ∧ b7 = a7 ∧ b8 = a8 ∧ b9 = a9 ∧ b10 = a10 ∧ b11 = a11 ∧ b12 = a12 ∧ b13 = a13 ∧ b14 = a14 ∧ b15 = a15 ∧ b16 = a16 ∧ b17 = a17 ∧ b18 = a18 ∧ b19 = a19 ∧ b20 = a20 ∧ b21 = a21 ∧ b22 = a22 ∧ b23 = a23 ∧ b24 = a24) :
    (it 8).main_v714_22 = fun j => (Graphs.of (Question.of a6 a7 a8 a9 a10 a11 a12 a13 a14 a15 a16 a17 a18) a0 a1 a2 a3 a4 a5 a19 a20 a21 a22 a23 a24).out (j 0) (j 1) := by
  obtain ⟨rfl, rfl, rfl, rfl, rfl, rfl, rfl, rfl, rfl, rfl, rfl, rfl, rfl, rfl, rfl, rfl, rfl, rfl, rfl, rfl, rfl, rfl, rfl, rfl, rfl⟩ := e
  exact result _ _ _ _ _ _ _ _ _ _ _ _ _ _ _ _ _ _ _ _ _ _ _ _ _ it h0 hs h

end Cert.ReferenceIdeal.Value

end
-- ==== Proof.lean ====
/- The certificate. -/
module

public import proofs.«01_k».proof.Defs
public import proofs.«01_k».proof.Proof.Gen.Kernel.Frame
public import proofs.«01_k».proof.Proof.KernelRun
public import proofs.«01_k».proof.Proof.Pre
public import proofs.«01_k».proof.Proof.RefValue
public import Idealize.ShloMosaic.Lib.Claim
public import Idealize.ShloMosaic.Lib.Quiescent

@[expose] public section

set_option maxRecDepth 16384

noncomputable section

namespace Cert.Proof

open Idealize.ShloMosaic Idealize.SL.Sem Cert.Kernel

/-- The reference's states. -/
def refIter (m : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal
  | 0 => Cert.ReferenceIdeal.StepRun.initState m c
  | n + 1 => Cert.ReferenceIdeal.Step.step n (refIter m c n)

section precondition

variable [Cert.Pre_batched_graphs.Facts]

theorem good (m : (ℓ : Loc Cert.KernelIdeal.nD Cert.KernelIdeal.τ Cert.KernelIdeal.sig) → Buf (Elt Ideal) ℓ) (h : Cert.Pre_KernelIdeal_batched_graphs m) (c : Dev Cert.KernelIdeal.nD) :
    (Cert.KernelIdeal.Value.args m c).Good :=
  Cert.Maths.good _ _ _ _ _ _ _ _ _ _ _ _ _ _ _ _ _ _ _ _ _ _ _ _ _ (h c)

theorem algebraic : Cert.algebraic_KernelIdeal_ReferenceIdeal_pre_batched_graphs := by
  pair_intro
  · run_from Cert.KernelIdeal.Value.run m g
  · run_from Cert.ReferenceIdeal.StepRun.run_iter m' g' (refIter m') (fun _ => rfl) (fun _ _ => rfl)
    exact (Cert.ReferenceIdeal.Value.result_of _ _ _ _ _ _ _ _ _ _ _ _ _ _ _ _ _ _ _ _ _ _ _ _ _ _ _ _ _ _ _ _ _ _ _ _ _ _ _ _ _ _ _ _ _ _ _ _ _ _ (refIter m' c) rfl (fun _ => rfl) (good m hpre c) (hagree c)).trans (Cert.KernelIdeal.Value.W12_v28 m g c (good m hpre c)).symm

end precondition

theorem quiescent_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.StepRun.run_iter m ρ (refIter m) (fun _ => rfl) (fun _ _ => rfl))

theorem claim : Cert.Claim :=
  ⟨Cert.Kernel.Gen.facts, Cert.KernelIdeal.Gen.facts, Cert.ReferenceIdeal.Gen.facts, Cert.Pre_batched_graphs.facts,
    fun m ρ _ => Cert.Kernel.Gen.frame m ρ, fun m ρ _ => Cert.KernelIdeal.Gen.frame m ρ, fun m ρ _ => Cert.KernelIdeal.Gen.frame m ρ,
    quiescent_reference, fun m ρ _ => quiescent_reference m ρ trivial, trivial, @algebraic Cert.Pre_batched_graphs.facts⟩

end Cert.Proof

end
